-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_inputs [hPre_inputs : Cert.Pre_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs [hPre_inputs : Cert.Pre_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_inputs [hKernelIdeal : Cert.KernelIdeal.Facts] [hPre_inputs : Cert.Pre_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_inputs [hReferenceIdeal : Cert.ReferenceIdeal.Facts] [hPre_inputs : Cert.Pre_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_inputs [hKernelIdeal : Cert.KernelIdeal.Facts] [hReferenceIdeal : Cert.ReferenceIdeal.Facts] [hPre_inputs : Cert.Pre_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts) (hPre_inputs : Cert.Pre_inputs.Facts),
    quiescent_Kernel (hKernel := hKernel) (hPre_in_range := hPre_in_range)
    ∧ quiescent_KernelIdeal (hKernelIdeal := hKernelIdeal) (hPre_in_range := hPre_in_range)
    ∧ quiescent_KernelIdeal_pre_inputs (hKernelIdeal := hKernelIdeal) (hPre_inputs := hPre_inputs)
    ∧ quiescent_ReferenceIdeal (hReferenceIdeal := hReferenceIdeal)
    ∧ quiescent_ReferenceIdeal_pre_inputs (hReferenceIdeal := hReferenceIdeal) (hPre_inputs := hPre_inputs)
    ∧ preserves_Kernel_KernelIdeal
    ∧ algebraic_KernelIdeal_ReferenceIdeal_pre_inputs (hKernelIdeal := hKernelIdeal) (hReferenceIdeal := hReferenceIdeal) (hPre_inputs := hPre_inputs)
-- ==== Pre_in_range.lean ====
abbrev S4096x256 : Shape := ⟨2, ![4096, 256]⟩
abbrev S4096x768 : Shape := ⟨2, ![4096, 768]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel

variable [Facts]

def fn {F : FTy → Type} [FloatOps F] (main_arg0 : IVec S4096x256 32) (main_arg1 : FVec F S4096x768 .f32) : IVec S_ 1 :=
  let main_c : IVec S_ 32 := constantI S_ 32 0#32
  let main_v0 : IVec S4096x256 32 := broadcastInDim S4096x256 ![] bcast_S_S4096x256 main_c
  let main_v1 : IVec S4096x256 1 := cmpi .sge main_arg0 main_v0
  let main_c_0 : IVec S_ 32 := constantI S_ 32 4096#32
  let main_v2 : IVec S4096x256 32 := broadcastInDim S4096x256 ![] bcast_S_S4096x256 main_c_0
  let main_v3 : IVec S4096x256 1 := cmpi .sle main_arg0 main_v2
  let main_v4 : IVec S4096x256 1 := andi main_v1 main_v3
  let main_c_1 : IVec S_ 1 := constantI S_ 1 1#1
  let main_v5 : IVec S_ 1 := (fun x v => Host.reduce IntOp.andi x v reducesTo_S4096x256_S_d0_1 h_S_) main_v4 main_c_1
  main_v5
-- ==== Pre_inputs.lean ====
abbrev S4096x256 : Shape := ⟨2, ![4096, 256]⟩
abbrev S4096x768 : Shape := ⟨2, ![4096, 768]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096x768 : S_.BroadcastsInDim S4096x768 (![] : Fin 0 → Fin S4096x768.rank)
  reducesTo_S4096x768_S_d0_1 : S4096x768.ReducesTo [0, 1] S_

variable [Facts]

def fn {F : FTy → Type} [FloatOps F] (main_arg0 : IVec S4096x256 32) (main_arg1 : FVec F S4096x768 .f32) : IVec S_ 1 :=
  let main_c : IVec S_ 32 := constantI S_ 32 0#32
  let main_v0 : IVec S4096x256 32 := broadcastInDim S4096x256 ![] bcast_S_S4096x256 main_c
  let main_v1 : IVec S4096x256 1 := cmpi .sge main_arg0 main_v0
  let main_c_0 : IVec S_ 32 := constantI S_ 32 4096#32
  let main_v2 : IVec S4096x256 32 := broadcastInDim S4096x256 ![] bcast_S_S4096x256 main_c_0
  let main_v3 : IVec S4096x256 1 := cmpi .sle main_arg0 main_v2
  let main_v4 : IVec S4096x256 1 := andi main_v1 main_v3
  let main_c_1 : IVec S_ 1 := constantI S_ 1 1#1
  let main_v5 : IVec S_ 1 := (fun x v => Host.reduce IntOp.andi x v reducesTo_S4096x256_S_d0_1 h_S_) main_v4 main_c_1
  let main_cst : FVec F S_ .f32 := constant S_ .f32 0x3F800000#32
  let main_v6 : FVec F S4096x768 .f32 := broadcastInDim S4096x768 ![] bcast_S_S4096x768 main_cst
  let main_v7 : IVec S4096x768 1 := cmpf .oeq main_arg1 main_v6
  let main_c_2 : IVec S_ 1 := constantI S_ 1 1#1
  let main_v8 : IVec S_ 1 := (fun x v => Host.reduce IntOp.andi x v reducesTo_S4096x768_S_d0_1 h_S_) main_v7 main_c_2
  let main_v9 : IVec S_ 1 := andi main_v5 main_v8
  main_v9
-- ==== Kernel.lean ====
abbrev S4096x256 : Shape := ⟨2, ![4096, 256]⟩
abbrev S4096x768 : Shape := ⟨2, ![4096, 768]⟩
abbrev S4096x12288 : Shape := ⟨2, ![4096, 12288]⟩
abbrev S128x256 : Shape := ⟨2, ![128, 256]⟩
abbrev S24576 : Shape := ⟨1, ![24576]⟩
abbrev S_ : Shape := ⟨0, ![]⟩
abbrev S16 : Shape := ⟨1, ![16]⟩
abbrev S1x16 : Shape := ⟨2, ![1, 16]⟩
abbrev S12288 : Shape := ⟨1, ![12288]⟩
abbrev S1x12288 : Shape := ⟨2, ![1, 12288]⟩

abbrev nBuf : Table → Nat
  | .hbm => 3
  | .local .scVector .vmem => 2
  | _ => 0

abbrev bufTy : (tb : Table) → Fin (nBuf tb) → BufTy
  | .hbm, ⟨0, _⟩ => ⟨S4096x256, .i32⟩
  | .hbm, ⟨1, _⟩ => ⟨S4096x768, .f32⟩
  | .hbm, ⟨2, _⟩ => ⟨S4096x12288, .f32⟩
  | .local .scVector .vmem, ⟨0, _⟩ => ⟨S128x256, .i32⟩
  | .local .scVector .vmem, ⟨1, _⟩ => ⟨S24576, .f32⟩
  | _, _ => ⟨S4096x256, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_261_r0 : BitVec 32 := 0#32
  ![v2.toNat, 0]
@[reducible] def k0_t1_loop : Scf.Loop 32 :=
  let c0_i32_1 : BitVec 32 := 0#32
  let c1536_i32 : BitVec 32 := 1536#32
  let v5 : BitVec 32 := Scalar.addi c0_i32_1 c1536_i32
  let c1_i32 : BitVec 32 := 1#32
  ⟨c0_i32_1, v5, c1_i32⟩
def k0_off2 (k0_t1 : Fin k0_t1_loop.trips) : Fin 1 → Nat :=
  let c0_i32_1 : BitVec 32 := 0#32
  let c1_i32 : BitVec 32 := 1#32
  let arg8 : BitVec 32 := Scf.iv c0_i32_1 c1_i32 k0_t1
  let c16_i32 : BitVec 32 := 16#32
  let v483 : BitVec 32 := Scalar.muli arg8 c16_i32
  let v484 : Index := Scalar.indexCast v483
  ![v484.toNat]

def k0_chk1 (v15 : IVec S16 32) : Prop :=
  (∀ a x, ((![v15] : Fin 1 → IVec S16 32) a x).toNat < S24576.size a)
theorem k0_idx1_inb : ∀ (v15 : IVec S16 32) (k0_hw1 : k0_chk1 v15), ∀ a x, ((![v15] : Fin 1 → IVec S16 32) a x).toNat < S24576.size a := fun v15 k0_hw1 => k0_hw1

def k0_chk2 (v17 : IVec S16 32) : Prop :=
  (∀ a x, ((![v17] : Fin 1 → IVec S16 32) a x).toNat < S24576.size a)
theorem k0_idx2_inb : ∀ (v17 : IVec S16 32) (k0_hw2 : k0_chk2 v17), ∀ a x, ((![v17] : Fin 1 → IVec S16 32) a x).toNat < S24576.size a := fun v17 k0_hw2 => k0_hw2

def k0_chk3 (v19 : IVec S16 32) : Prop :=
  (∀ a x, ((![v19] : Fin 1 → IVec S16 32) a x).toNat < S24576.size a)
theorem k0_idx3_inb : ∀ (v19 : IVec S16 32) (k0_hw3 : k0_chk3 v19), ∀ a x, ((![v19] : Fin 1 → IVec S16 32) a x).toNat < S24576.size a := fun v19 k0_hw3 => k0_hw3

def k0_chk4 (v29 : IVec S16 32) : Prop :=
  (∀ a x, ((![v29] : Fin 1 → IVec S16 32) a x).toNat < S24576.size a)
theorem k0_idx4_inb : ∀ (v29 : IVec S16 32) (k0_hw4 : k0_chk4 v29), ∀ a x, ((![v29] : Fin 1 → IVec S16 32) a x).toNat < S24576.size a := fun v29 k0_hw4 => k0_hw4

def k0_chk5 (v31 : IVec S16 32) : Prop :=
  (∀ a x, ((![v31] : Fin 1 → IVec S16 32) a x).toNat < S24576.size a)
theorem k0_idx5_inb : ∀ (v31 : IVec S16 32) (k0_hw5 : k0_chk5 v31), ∀ a x, ((![v31] : Fin 1 → IVec S16 32) a x).toNat < S24576.size a := fun v31 k0_hw5 => k0_hw5

def k0_chk6 (v33 : IVec S16 32) : Prop :=
  (∀ a x, ((![v33] : Fin 1 → IVec S16 32) a x).toNat < S24576.size a)
theorem k0_idx6_inb : ∀ (v33 : IVec S16 32) (k0_hw6 : k0_chk6 v33), ∀ a x, ((![v33] : Fin 1 → IVec S16 32) a x).toNat < S24576.size a := fun v33 k0_hw6 => k0_hw6

def k0_chk7 (v43 : IVec S16 32) : Prop :=
  (∀ a x, ((![v43] : Fin 1 → IVec S16 32) a x).toNat < S24576.size a)
theorem k0_idx7_inb : ∀ (v43 : IVec S16 32) (k0_hw7 : k0_chk7 v43), ∀ a x, ((![v43] : Fin 1 → IVec S16 32) a x).toNat < S24576.size a := fun v43 k0_hw7 => k0_hw7

def k0_chk8 (v45 : IVec S16 32) : Prop :=
  (∀ a x, ((![v45] : Fin 1 → IVec S16 32) a x).toNat < S24576.size a)
theorem k0_idx8_inb : ∀ (v45 : IVec S16 32) (k0_hw8 : k0_chk8 v45), ∀ a x, ((![v45] : Fin 1 → IVec S16 32) a x).toNat < S24576.size a := fun v45 k0_hw8 => k0_hw8

def k0_chk9 (v47 : IVec S16 32) : Prop :=
  (∀ a x, ((![v47] : Fin 1 → IVec S16 32) a x).toNat < S24576.size a)
theorem k0_idx9_inb : ∀ (v47 : IVec S16 32) (k0_hw9 : k0_chk9 v47), ∀ a x, ((![v47] : Fin 1 → IVec S16 32) a x).toNat < S24576.size a := fun v47 k0_hw9 => k0_hw9

def k0_chk10 (v57 : IVec S16 32) : Prop :=
  (∀ a x, ((![v57] : Fin 1 → IVec S16 32) a x).toNat < S24576.size a)
theorem k0_idx10_inb : ∀ (v57 : IVec S16 32) (k0_hw10 : k0_chk10 v57), ∀ a x, ((![v57] : Fin 1 → IVec S16 32) a x).toNat < S24576.size a := fun v57 k0_hw10 => k0_hw10

def k0_chk11 (v59 : IVec S16 32) : Prop :=
  (∀ a x, ((![v59] : Fin 1 → IVec S16 32) a x).toNat < S24576.size a)
theorem k0_idx11_inb : ∀ (v59 : IVec S16 32) (k0_hw11 : k0_chk11 v59), ∀ a x, ((![v59] : Fin 1 → IVec S16 32) a x).toNat < S24576.size a := fun v59 k0_hw11 => k0_hw11

def k0_chk12 (v61 : IVec S16 32) : Prop :=
  (∀ a x, ((![v61] : Fin 1 → IVec S16 32) a x).toNat < S24576.size a)
theorem k0_idx12_inb : ∀ (v61 : IVec S16 32) (k0_hw12 : k0_chk12 v61), ∀ a x, ((![v61] : Fin 1 → IVec S16 32) a x).toNat < S24576.size a := fun v61 k0_hw12 => k0_hw12

def k0_chk13 (v71 : IVec S16 32) : Prop :=
  (∀ a x, ((![v71] : Fin 1 → IVec S16 32) a x).toNat < S24576.size a)
theorem k0_idx13_inb : ∀ (v71 : IVec S16 32) (k0_hw13 : k0_chk13 v71), ∀ a x, ((![v71] : Fin 1 → IVec S16 32) a x).toNat < S24576.size a := fun v71 k0_hw13 => k0_hw13

def k0_chk14 (v73 : IVec S16 32) : Prop :=
  (∀ a x, ((![v73] : Fin 1 → IVec S16 32) a x).toNat < S24576.size a)
theorem k0_idx14_inb : ∀ (v73 : IVec S16 32) (k0_hw14 : k0_chk14 v73), ∀ a x, ((![v73] : Fin 1 → IVec S16 32) a x).toNat < S24576.size a := fun v73 k0_hw14 => k0_hw14

def k0_chk15 (v75 : IVec S16 32) : Prop :=
  (∀ a x, ((![v75] : Fin 1 → IVec S16 32) a x).toNat < S24576.size a)
theorem k0_idx15_inb : ∀ (v75 : IVec S16 32) (k0_hw15 : k0_chk15 v75), ∀ a x, ((![v75] : Fin 1 → IVec S16 32) a x).toNat < S24576.size a := fun v75 k0_hw15 => k0_hw15

def k0_chk16 (v85 : IVec S16 32) : Prop :=
  (∀ a x, ((![v85] : Fin 1 → IVec S16 32) a x).toNat < S24576.size a)
theorem k0_idx16_inb : ∀ (v85 : IVec S16 32) (k0_hw16 : k0_chk16 v85), ∀ a x, ((![v85] : Fin 1 → IVec S16 32) a x).toNat < S24576.size a := fun v85 k0_hw16 => k0_hw16

def k0_chk17 (v87 : IVec S16 32) : Prop :=
  (∀ a x, ((![v87] : Fin 1 → IVec S16 32) a x).toNat < S24576.size a)
theorem k0_idx17_inb : ∀ (v87 : IVec S16 32) (k0_hw17 : k0_chk17 v87), ∀ a x, ((![v87] : Fin 1 → IVec S16 32) a x).toNat < S24576.size a := fun v87 k0_hw17 => k0_hw17

def k0_chk18 (v89 : IVec S16 32) : Prop :=
  (∀ a x, ((![v89] : Fin 1 → IVec S16 32) a x).toNat < S24576.size a)
theorem k0_idx18_inb : ∀ (v89 : IVec S16 32) (k0_hw18 : k0_chk18 v89), ∀ a x, ((![v89] : Fin 1 → IVec S16 32) a x).toNat < S24576.size a := fun v89 k0_hw18 => k0_hw18

def k0_chk19 (v99 : IVec S16 32) : Prop :=
  (∀ a x, ((![v99] : Fin 1 → IVec S16 32) a x).toNat < S24576.size a)
theorem k0_idx19_inb : ∀ (v99 : IVec S16 32) (k0_hw19 : k0_chk19 v99), ∀ a x, ((![v99] : Fin 1 → IVec S16 32) a x).toNat < S24576.size a := fun v99 k0_hw19 => k0_hw19

def k0_chk20 (v101 : IVec S16 32) : Prop :=
  (∀ a x, ((![v101] : Fin 1 → IVec S16 32) a x).toNat < S24576.size a)
theorem k0_idx20_inb : ∀ (v101 : IVec S16 32) (k0_hw20 : k0_chk20 v101), ∀ a x, ((![v101] : Fin 1 → IVec S16 32) a x).toNat < S24576.size a := fun v101 k0_hw20 => k0_hw20

def k0_chk21 (v103 : IVec S16 32) : Prop :=
  (∀ a x, ((![v103] : Fin 1 → IVec S16 32) a x).toNat < S24576.size a)
theorem k0_idx21_inb : ∀ (v103 : IVec S16 32) (k0_hw21 : k0_chk21 v103), ∀ a x, ((![v103] : Fin 1 → IVec S16 32) a x).toNat < S24576.size a := fun v103 k0_hw21 => k0_hw21

def k0_chk22 (v113 : IVec S16 32) : Prop :=
  (∀ a x, ((![v113] : Fin 1 → IVec S16 32) a x).toNat < S24576.size a)
theorem k0_idx22_inb : ∀ (v113 : IVec S16 32) (k0_hw22 : k0_chk22 v113), ∀ a x, ((![v113] : Fin 1 → IVec S16 32) a x).toNat < S24576.size a := fun v113 k0_hw22 => k0_hw22

def k0_chk23 (v115 : IVec S16 32) : Prop :=
  (∀ a x, ((![v115] : Fin 1 → IVec S16 32) a x).toNat < S24576.size a)
theorem k0_idx23_inb : ∀ (v115 : IVec S16 32) (k0_hw23 : k0_chk23 v115), ∀ a x, ((![v115] : Fin 1 → IVec S16 32) a x).toNat < S24576.size a := fun v115 k0_hw23 => k0_hw23

def k0_chk24 (v117 : IVec S16 32) : Prop :=
  (∀ a x, ((![v117] : Fin 1 → IVec S16 32) a x).toNat < S24576.size a)
theorem k0_idx24_inb : ∀ (v117 : IVec S16 32) (k0_hw24 : k0_chk24 v117), ∀ a x, ((![v117] : Fin 1 → IVec S16 32) a x).toNat < S24576.size a := fun v117 k0_hw24 => k0_hw24

def k0_chk25 (v127 : IVec S16 32) : Prop :=
  (∀ a x, ((![v127] : Fin 1 → IVec S16 32) a x).toNat < S24576.size a)
theorem k0_idx25_inb : ∀ (v127 : IVec S16 32) (k0_hw25 : k0_chk25 v127), ∀ a x, ((![v127] : Fin 1 → IVec S16 32) a x).toNat < S24576.size a := fun v127 k0_hw25 => k0_hw25

def k0_chk26 (v129 : IVec S16 32) : Prop :=
  (∀ a x, ((![v129] : Fin 1 → IVec S16 32) a x).toNat < S24576.size a)
theorem k0_idx26_inb : ∀ (v129 : IVec S16 32) (k0_hw26 : k0_chk26 v129), ∀ a x, ((![v129] : Fin 1 → IVec S16 32) a x).toNat < S24576.size a := fun v129 k0_hw26 => k0_hw26

def k0_chk27 (v131 : IVec S16 32) : Prop :=
  (∀ a x, ((![v131] : Fin 1 → IVec S16 32) a x).toNat < S24576.size a)
theorem k0_idx27_inb : ∀ (v131 : IVec S16 32) (k0_hw27 : k0_chk27 v131), ∀ a x, ((![v131] : Fin 1 → IVec S16 32) a x).toNat < S24576.size a := fun v131 k0_hw27 => k0_hw27

def k0_chk28 (v141 : IVec S16 32) : Prop :=
  (∀ a x, ((![v141] : Fin 1 → IVec S16 32) a x).toNat < S24576.size a)
theorem k0_idx28_inb : ∀ (v141 : IVec S16 32) (k0_hw28 : k0_chk28 v141), ∀ a x, ((![v141] : Fin 1 → IVec S16 32) a x).toNat < S24576.size a := fun v141 k0_hw28 => k0_hw28

def k0_chk29 (v143 : IVec S16 32) : Prop :=
  (∀ a x, ((![v143] : Fin 1 → IVec S16 32) a x).toNat < S24576.size a)
theorem k0_idx29_inb : ∀ (v143 : IVec S16 32) (k0_hw29 : k0_chk29 v143), ∀ a x, ((![v143] : Fin 1 → IVec S16 32) a x).toNat < S24576.size a := fun v143 k0_hw29 => k0_hw29

def k0_chk30 (v145 : IVec S16 32) : Prop :=
  (∀ a x, ((![v145] : Fin 1 → IVec S16 32) a x).toNat < S24576.size a)
theorem k0_idx30_inb : ∀ (v145 : IVec S16 32) (k0_hw30 : k0_chk30 v145), ∀ a x, ((![v145] : Fin 1 → IVec S16 32) a x).toNat < S24576.size a := fun v145 k0_hw30 => k0_hw30

def k0_chk31 (v155 : IVec S16 32) : Prop :=
  (∀ a x, ((![v155] : Fin 1 → IVec S16 32) a x).toNat < S24576.size a)
theorem k0_idx31_inb : ∀ (v155 : IVec S16 32) (k0_hw31 : k0_chk31 v155), ∀ a x, ((![v155] : Fin 1 → IVec S16 32) a x).toNat < S24576.size a := fun v155 k0_hw31 => k0_hw31

def k0_chk32 (v157 : IVec S16 32) : Prop :=
  (∀ a x, ((![v157] : Fin 1 → IVec S16 32) a x).toNat < S24576.size a)
theorem k0_idx32_inb : ∀ (v157 : IVec S16 32) (k0_hw32 : k0_chk32 v157), ∀ a x, ((![v157] : Fin 1 → IVec S16 32) a x).toNat < S24576.size a := fun v157 k0_hw32 => k0_hw32

def k0_chk33 (v159 : IVec S16 32) : Prop :=
  (∀ a x, ((![v159] : Fin 1 → IVec S16 32) a x).toNat < S24576.size a)
theorem k0_idx33_inb : ∀ (v159 : IVec S16 32) (k0_hw33 : k0_chk33 v159), ∀ a x, ((![v159] : Fin 1 → IVec S16 32) a x).toNat < S24576.size a := fun v159 k0_hw33 => k0_hw33

def k0_chk34 (v169 : IVec S16 32) : Prop :=
  (∀ a x, ((![v169] : Fin 1 → IVec S16 32) a x).toNat < S24576.size a)
theorem k0_idx34_inb : ∀ (v169 : IVec S16 32) (k0_hw34 : k0_chk34 v169), ∀ a x, ((![v169] : Fin 1 → IVec S16 32) a x).toNat < S24576.size a := fun v169 k0_hw34 => k0_hw34

def k0_chk35 (v171 : IVec S16 32) : Prop :=
  (∀ a x, ((![v171] : Fin 1 → IVec S16 32) a x).toNat < S24576.size a)
theorem k0_idx35_inb : ∀ (v171 : IVec S16 32) (k0_hw35 : k0_chk35 v171), ∀ a x, ((![v171] : Fin 1 → IVec S16 32) a x).toNat < S24576.size a := fun v171 k0_hw35 => k0_hw35

def k0_chk36 (v173 : IVec S16 32) : Prop :=
  (∀ a x, ((![v173] : Fin 1 → IVec S16 32) a x).toNat < S24576.size a)
theorem k0_idx36_inb : ∀ (v173 : IVec S16 32) (k0_hw36 : k0_chk36 v173), ∀ a x, ((![v173] : Fin 1 → IVec S16 32) a x).toNat < S24576.size a := fun v173 k0_hw36 => k0_hw36

def k0_chk37 (v183 : IVec S16 32) : Prop :=
  (∀ a x, ((![v183] : Fin 1 → IVec S16 32) a x).toNat < S24576.size a)
theorem k0_idx37_inb : ∀ (v183 : IVec S16 32) (k0_hw37 : k0_chk37 v183), ∀ a x, ((![v183] : Fin 1 → IVec S16 32) a x).toNat < S24576.size a := fun v183 k0_hw37 => k0_hw37

def k0_chk38 (v185 : IVec S16 32) : Prop :=
  (∀ a x, ((![v185] : Fin 1 → IVec S16 32) a x).toNat < S24576.size a)
theorem k0_idx38_inb : ∀ (v185 : IVec S16 32) (k0_hw38 : k0_chk38 v185), ∀ a x, ((![v185] : Fin 1 → IVec S16 32) a x).toNat < S24576.size a := fun v185 k0_hw38 => k0_hw38

def k0_chk39 (v187 : IVec S16 32) : Prop :=
  (∀ a x, ((![v187] : Fin 1 → IVec S16 32) a x).toNat < S24576.size a)
theorem k0_idx39_inb : ∀ (v187 : IVec S16 32) (k0_hw39 : k0_chk39 v187), ∀ a x, ((![v187] : Fin 1 → IVec S16 32) a x).toNat < S24576.size a := fun v187 k0_hw39 => k0_hw39

def k0_chk40 (v197 : IVec S16 32) : Prop :=
  (∀ a x, ((![v197] : Fin 1 → IVec S16 32) a x).toNat < S24576.size a)
theorem k0_idx40_inb : ∀ (v197 : IVec S16 32) (k0_hw40 : k0_chk40 v197), ∀ a x, ((![v197] : Fin 1 → IVec S16 32) a x).toNat < S24576.size a := fun v197 k0_hw40 => k0_hw40

def k0_chk41 (v199 : IVec S16 32) : Prop :=
  (∀ a x, ((![v199] : Fin 1 → IVec S16 32) a x).toNat < S24576.size a)
theorem k0_idx41_inb : ∀ (v199 : IVec S16 32) (k0_hw41 : k0_chk41 v199), ∀ a x, ((![v199] : Fin 1 → IVec S16 32) a x).toNat < S24576.size a := fun v199 k0_hw41 => k0_hw41

def k0_chk42 (v201 : IVec S16 32) : Prop :=
  (∀ a x, ((![v201] : Fin 1 → IVec S16 32) a x).toNat < S24576.size a)
theorem k0_idx42_inb : ∀ (v201 : IVec S16 32) (k0_hw42 : k0_chk42 v201), ∀ a x, ((![v201] : Fin 1 → IVec S16 32) a x).toNat < S24576.size a := fun v201 k0_hw42 => k0_hw42

def k0_chk43 (v211 : IVec S16 32) : Prop :=
  (∀ a x, ((![v211] : Fin 1 → IVec S16 32) a x).toNat < S24576.size a)
theorem k0_idx43_inb : ∀ (v211 : IVec S16 32) (k0_hw43 : k0_chk43 v211), ∀ a x, ((![v211] : Fin 1 → IVec S16 32) a x).toNat < S24576.size a := fun v211 k0_hw43 => k0_hw43

def k0_chk44 (v213 : IVec S16 32) : Prop :=
  (∀ a x, ((![v213] : Fin 1 → IVec S16 32) a x).toNat < S24576.size a)
theorem k0_idx44_inb : ∀ (v213 : IVec S16 32) (k0_hw44 : k0_chk44 v213), ∀ a x, ((![v213] : Fin 1 → IVec S16 32) a x).toNat < S24576.size a := fun v213 k0_hw44 => k0_hw44

def k0_chk45 (v215 : IVec S16 32) : Prop :=
  (∀ a x, ((![v215] : Fin 1 → IVec S16 32) a x).toNat < S24576.size a)
theorem k0_idx45_inb : ∀ (v215 : IVec S16 32) (k0_hw45 : k0_chk45 v215), ∀ a x, ((![v215] : Fin 1 → IVec S16 32) a x).toNat < S24576.size a := fun v215 k0_hw45 => k0_hw45

def k0_chk46 (v225 : IVec S16 32) : Prop :=
  (∀ a x, ((![v225] : Fin 1 → IVec S16 32) a x).toNat < S24576.size a)
theorem k0_idx46_inb : ∀ (v225 : IVec S16 32) (k0_hw46 : k0_chk46 v225), ∀ a x, ((![v225] : Fin 1 → IVec S16 32) a x).toNat < S24576.size a := fun v225 k0_hw46 => k0_hw46

def k0_chk47 (v227 : IVec S16 32) : Prop :=
  (∀ a x, ((![v227] : Fin 1 → IVec S16 32) a x).toNat < S24576.size a)
theorem k0_idx47_inb : ∀ (v227 : IVec S16 32) (k0_hw47 : k0_chk47 v227), ∀ a x, ((![v227] : Fin 1 → IVec S16 32) a x).toNat < S24576.size a := fun v227 k0_hw47 => k0_hw47

def k0_chk48 (v229 : IVec S16 32) : Prop :=
  (∀ a x, ((![v229] : Fin 1 → IVec S16 32) a x).toNat < S24576.size a)
theorem k0_idx48_inb : ∀ (v229 : IVec S16 32) (k0_hw48 : k0_chk48 v229), ∀ a x, ((![v229] : Fin 1 → IVec S16 32) a x).toNat < S24576.size a := fun v229 k0_hw48 => k0_hw48
def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_113 : BitVec 32 := 0#32
  let v230 : BitVec 32 := Scalar.addi v2 c0_i32_113
  let c0_i32_115 : BitVec 32 := 0#32
  ![v230.toNat, 0]

def k0_chk49 (v246 : IVec S16 32) : Prop :=
  (∀ a x, ((![v246] : Fin 1 → IVec S16 32) a x).toNat < S24576.size a)
theorem k0_idx49_inb : ∀ (v246 : IVec S16 32) (k0_hw49 : k0_chk49 v246), ∀ a x, ((![v246] : Fin 1 → IVec S16 32) a x).toNat < S24576.size a := fun v246 k0_hw49 => k0_hw49

def k0_chk50 (v248 : IVec S16 32) : Prop :=
  (∀ a x, ((![v248] : Fin 1 → IVec S16 32) a x).toNat < S24576.size a)
theorem k0_idx50_inb : ∀ (v248 : IVec S16 32) (k0_hw50 : k0_chk50 v248), ∀ a x, ((![v248] : Fin 1 → IVec S16 32) a x).toNat < S24576.size a := fun v248 k0_hw50 => k0_hw50

def k0_chk51 (v250 : IVec S16 32) : Prop :=
  (∀ a x, ((![v250] : Fin 1 → IVec S16 32) a x).toNat < S24576.size a)
theorem k0_idx51_inb : ∀ (v250 : IVec S16 32) (k0_hw51 : k0_chk51 v250), ∀ a x, ((![v250] : Fin 1 → IVec S16 32) a x).toNat < S24576.size a := fun v250 k0_hw51 => k0_hw51

def k0_chk52 (v260 : IVec S16 32) : Prop :=
  (∀ a x, ((![v260] : Fin 1 → IVec S16 32) a x).toNat < S24576.size a)
theorem k0_idx52_inb : ∀ (v260 : IVec S16 32) (k0_hw52 : k0_chk52 v260), ∀ a x, ((![v260] : Fin 1 → IVec S16 32) a x).toNat < S24576.size a := fun v260 k0_hw52 => k0_hw52

def k0_chk53 (v262 : IVec S16 32) : Prop :=
  (∀ a x, ((![v262] : Fin 1 → IVec S16 32) a x).toNat < S24576.size a)
theorem k0_idx53_inb : ∀ (v262 : IVec S16 32) (k0_hw53 : k0_chk53 v262), ∀ a x, ((![v262] : Fin 1 → IVec S16 32) a x).toNat < S24576.size a := fun v262 k0_hw53 => k0_hw53

def k0_chk54 (v264 : IVec S16 32) : Prop :=
  (∀ a x, ((![v264] : Fin 1 → IVec S16 32) a x).toNat < S24576.size a)
theorem k0_idx54_inb : ∀ (v264 : IVec S16 32) (k0_hw54 : k0_chk54 v264), ∀ a x, ((![v264] : Fin 1 → IVec S16 32) a x).toNat < S24576.size a := fun v264 k0_hw54 => k0_hw54

def k0_chk55 (v274 : IVec S16 32) : Prop :=
  (∀ a x, ((![v274] : Fin 1 → IVec S16 32) a x).toNat < S24576.size a)
theorem k0_idx55_inb : ∀ (v274 : IVec S16 32) (k0_hw55 : k0_chk55 v274), ∀ a x, ((![v274] : Fin 1 → IVec S16 32) a x).toNat < S24576.size a := fun v274 k0_hw55 => k0_hw55

def k0_chk56 (v276 : IVec S16 32) : Prop :=
  (∀ a x, ((![v276] : Fin 1 → IVec S16 32) a x).toNat < S24576.size a)
theorem k0_idx56_inb : ∀ (v276 : IVec S16 32) (k0_hw56 : k0_chk56 v276), ∀ a x, ((![v276] : Fin 1 → IVec S16 32) a x).toNat < S24576.size a := fun v276 k0_hw56 => k0_hw56

def k0_chk57 (v278 : IVec S16 32) : Prop :=
  (∀ a x, ((![v278] : Fin 1 → IVec S16 32) a x).toNat < S24576.size a)
theorem k0_idx57_inb : ∀ (v278 : IVec S16 32) (k0_hw57 : k0_chk57 v278), ∀ a x, ((![v278] : Fin 1 → IVec S16 32) a x).toNat < S24576.size a := fun v278 k0_hw57 => k0_hw57

def k0_chk58 (v288 : IVec S16 32) : Prop :=
  (∀ a x, ((![v288] : Fin 1 → IVec S16 32) a x).toNat < S24576.size a)
theorem k0_idx58_inb : ∀ (v288 : IVec S16 32) (k0_hw58 : k0_chk58 v288), ∀ a x, ((![v288] : Fin 1 → IVec S16 32) a x).toNat < S24576.size a := fun v288 k0_hw58 => k0_hw58

def k0_chk59 (v290 : IVec S16 32) : Prop :=
  (∀ a x, ((![v290] : Fin 1 → IVec S16 32) a x).toNat < S24576.size a)
theorem k0_idx59_inb : ∀ (v290 : IVec S16 32) (k0_hw59 : k0_chk59 v290), ∀ a x, ((![v290] : Fin 1 → IVec S16 32) a x).toNat < S24576.size a := fun v290 k0_hw59 => k0_hw59

def k0_chk60 (v292 : IVec S16 32) : Prop :=
  (∀ a x, ((![v292] : Fin 1 → IVec S16 32) a x).toNat < S24576.size a)
theorem k0_idx60_inb : ∀ (v292 : IVec S16 32) (k0_hw60 : k0_chk60 v292), ∀ a x, ((![v292] : Fin 1 → IVec S16 32) a x).toNat < S24576.size a := fun v292 k0_hw60 => k0_hw60

def k0_chk61 (v302 : IVec S16 32) : Prop :=
  (∀ a x, ((![v302] : Fin 1 → IVec S16 32) a x).toNat < S24576.size a)
theorem k0_idx61_inb : ∀ (v302 : IVec S16 32) (k0_hw61 : k0_chk61 v302), ∀ a x, ((![v302] : Fin 1 → IVec S16 32) a x).toNat < S24576.size a := fun v302 k0_hw61 => k0_hw61

def k0_chk62 (v304 : IVec S16 32) : Prop :=
  (∀ a x, ((![v304] : Fin 1 → IVec S16 32) a x).toNat < S24576.size a)
theorem k0_idx62_inb : ∀ (v304 : IVec S16 32) (k0_hw62 : k0_chk62 v304), ∀ a x, ((![v304] : Fin 1 → IVec S16 32) a x).toNat < S24576.size a := fun v304 k0_hw62 => k0_hw62

def k0_chk63 (v306 : IVec S16 32) : Prop :=
  (∀ a x, ((![v306] : Fin 1 → IVec S16 32) a x).toNat < S24576.size a)
theorem k0_idx63_inb : ∀ (v306 : IVec S16 32) (k0_hw63 : k0_chk63 v306), ∀ a x, ((![v306] : Fin 1 → IVec S16 32) a x).toNat < S24576.size a := fun v306 k0_hw63 => k0_hw63

def k0_chk64 (v316 : IVec S16 32) : Prop :=
  (∀ a x, ((![v316] : Fin 1 → IVec S16 32) a x).toNat < S24576.size a)
theorem k0_idx64_inb : ∀ (v316 : IVec S16 32) (k0_hw64 : k0_chk64 v316), ∀ a x, ((![v316] : Fin 1 → IVec S16 32) a x).toNat < S24576.size a := fun v316 k0_hw64 => k0_hw64

def k0_chk65 (v318 : IVec S16 32) : Prop :=
  (∀ a x, ((![v318] : Fin 1 → IVec S16 32) a x).toNat < S24576.size a)
theorem k0_idx65_inb : ∀ (v318 : IVec S16 32) (k0_hw65 : k0_chk65 v318), ∀ a x, ((![v318] : Fin 1 → IVec S16 32) a x).toNat < S24576.size a := fun v318 k0_hw65 => k0_hw65

def k0_chk66 (v320 : IVec S16 32) : Prop :=
  (∀ a x, ((![v320] : Fin 1 → IVec S16 32) a x).toNat < S24576.size a)
theorem k0_idx66_inb : ∀ (v320 : IVec S16 32) (k0_hw66 : k0_chk66 v320), ∀ a x, ((![v320] : Fin 1 → IVec S16 32) a x).toNat < S24576.size a := fun v320 k0_hw66 => k0_hw66

def k0_chk67 (v330 : IVec S16 32) : Prop :=
  (∀ a x, ((![v330] : Fin 1 → IVec S16 32) a x).toNat < S24576.size a)
theorem k0_idx67_inb : ∀ (v330 : IVec S16 32) (k0_hw67 : k0_chk67 v330), ∀ a x, ((![v330] : Fin 1 → IVec S16 32) a x).toNat < S24576.size a := fun v330 k0_hw67 => k0_hw67

def k0_chk68 (v332 : IVec S16 32) : Prop :=
  (∀ a x, ((![v332] : Fin 1 → IVec S16 32) a x).toNat < S24576.size a)
theorem k0_idx68_inb : ∀ (v332 : IVec S16 32) (k0_hw68 : k0_chk68 v332), ∀ a x, ((![v332] : Fin 1 → IVec S16 32) a x).toNat < S24576.size a := fun v332 k0_hw68 => k0_hw68

def k0_chk69 (v334 : IVec S16 32) : Prop :=
  (∀ a x, ((![v334] : Fin 1 → IVec S16 32) a x).toNat < S24576.size a)
theorem k0_idx69_inb : ∀ (v334 : IVec S16 32) (k0_hw69 : k0_chk69 v334), ∀ a x, ((![v334] : Fin 1 → IVec S16 32) a x).toNat < S24576.size a := fun v334 k0_hw69 => k0_hw69

def k0_chk70 (v344 : IVec S16 32) : Prop :=
  (∀ a x, ((![v344] : Fin 1 → IVec S16 32) a x).toNat < S24576.size a)
theorem k0_idx70_inb : ∀ (v344 : IVec S16 32) (k0_hw70 : k0_chk70 v344), ∀ a x, ((![v344] : Fin 1 → IVec S16 32) a x).toNat < S24576.size a := fun v344 k0_hw70 => k0_hw70

def k0_chk71 (v346 : IVec S16 32) : Prop :=
  (∀ a x, ((![v346] : Fin 1 → IVec S16 32) a x).toNat < S24576.size a)
theorem k0_idx71_inb : ∀ (v346 : IVec S16 32) (k0_hw71 : k0_chk71 v346), ∀ a x, ((![v346] : Fin 1 → IVec S16 32) a x).toNat < S24576.size a := fun v346 k0_hw71 => k0_hw71

def k0_chk72 (v348 : IVec S16 32) : Prop :=
  (∀ a x, ((![v348] : Fin 1 → IVec S16 32) a x).toNat < S24576.size a)
theorem k0_idx72_inb : ∀ (v348 : IVec S16 32) (k0_hw72 : k0_chk72 v348), ∀ a x, ((![v348] : Fin 1 → IVec S16 32) a x).toNat < S24576.size a := fun v348 k0_hw72 => k0_hw72

def k0_chk73 (v358 : IVec S16 32) : Prop :=
  (∀ a x, ((![v358] : Fin 1 → IVec S16 32) a x).toNat < S24576.size a)
theorem k0_idx73_inb : ∀ (v358 : IVec S16 32) (k0_hw73 : k0_chk73 v358), ∀ a x, ((![v358] : Fin 1 → IVec S16 32) a x).toNat < S24576.size a := fun v358 k0_hw73 => k0_hw73

def k0_chk74 (v360 : IVec S16 32) : Prop :=
  (∀ a x, ((![v360] : Fin 1 → IVec S16 32) a x).toNat < S24576.size a)
theorem k0_idx74_inb : ∀ (v360 : IVec S16 32) (k0_hw74 : k0_chk74 v360), ∀ a x, ((![v360] : Fin 1 → IVec S16 32) a x).toNat < S24576.size a := fun v360 k0_hw74 => k0_hw74

def k0_chk75 (v362 : IVec S16 32) : Prop :=
  (∀ a x, ((![v362] : Fin 1 → IVec S16 32) a x).toNat < S24576.size a)
theorem k0_idx75_inb : ∀ (v362 : IVec S16 32) (k0_hw75 : k0_chk75 v362), ∀ a x, ((![v362] : Fin 1 → IVec S16 32) a x).toNat < S24576.size a := fun v362 k0_hw75 => k0_hw75

def k0_chk76 (v372 : IVec S16 32) : Prop :=
  (∀ a x, ((![v372] : Fin 1 → IVec S16 32) a x).toNat < S24576.size a)
theorem k0_idx76_inb : ∀ (v372 : IVec S16 32) (k0_hw76 : k0_chk76 v372), ∀ a x, ((![v372] : Fin 1 → IVec S16 32) a x).toNat < S24576.size a := fun v372 k0_hw76 => k0_hw76

def k0_chk77 (v374 : IVec S16 32) : Prop :=
  (∀ a x, ((![v374] : Fin 1 → IVec S16 32) a x).toNat < S24576.size a)
theorem k0_idx77_inb : ∀ (v374 : IVec S16 32) (k0_hw77 : k0_chk77 v374), ∀ a x, ((![v374] : Fin 1 → IVec S16 32) a x).toNat < S24576.size a := fun v374 k0_hw77 => k0_hw77

def k0_chk78 (v376 : IVec S16 32) : Prop :=
  (∀ a x, ((![v376] : Fin 1 → IVec S16 32) a x).toNat < S24576.size a)
theorem k0_idx78_inb : ∀ (v376 : IVec S16 32) (k0_hw78 : k0_chk78 v376), ∀ a x, ((![v376] : Fin 1 → IVec S16 32) a x).toNat < S24576.size a := fun v376 k0_hw78 => k0_hw78

def k0_chk79 (v386 : IVec S16 32) : Prop :=
  (∀ a x, ((![v386] : Fin 1 → IVec S16 32) a x).toNat < S24576.size a)
theorem k0_idx79_inb : ∀ (v386 : IVec S16 32) (k0_hw79 : k0_chk79 v386), ∀ a x, ((![v386] : Fin 1 → IVec S16 32) a x).toNat < S24576.size a := fun v386 k0_hw79 => k0_hw79

def k0_chk80 (v388 : IVec S16 32) : Prop :=
  (∀ a x, ((![v388] : Fin 1 → IVec S16 32) a x).toNat < S24576.size a)
theorem k0_idx80_inb : ∀ (v388 : IVec S16 32) (k0_hw80 : k0_chk80 v388), ∀ a x, ((![v388] : Fin 1 → IVec S16 32) a x).toNat < S24576.size a := fun v388 k0_hw80 => k0_hw80

def k0_chk81 (v390 : IVec S16 32) : Prop :=
  (∀ a x, ((![v390] : Fin 1 → IVec S16 32) a x).toNat < S24576.size a)
theorem k0_idx81_inb : ∀ (v390 : IVec S16 32) (k0_hw81 : k0_chk81 v390), ∀ a x, ((![v390] : Fin 1 → IVec S16 32) a x).toNat < S24576.size a := fun v390 k0_hw81 => k0_hw81

def k0_chk82 (v400 : IVec S16 32) : Prop :=
  (∀ a x, ((![v400] : Fin 1 → IVec S16 32) a x).toNat < S24576.size a)
theorem k0_idx82_inb : ∀ (v400 : IVec S16 32) (k0_hw82 : k0_chk82 v400), ∀ a x, ((![v400] : Fin 1 → IVec S16 32) a x).toNat < S24576.size a := fun v400 k0_hw82 => k0_hw82

def k0_chk83 (v402 : IVec S16 32) : Prop :=
  (∀ a x, ((![v402] : Fin 1 → IVec S16 32) a x).toNat < S24576.size a)
theorem k0_idx83_inb : ∀ (v402 : IVec S16 32) (k0_hw83 : k0_chk83 v402), ∀ a x, ((![v402] : Fin 1 → IVec S16 32) a x).toNat < S24576.size a := fun v402 k0_hw83 => k0_hw83

def k0_chk84 (v404 : IVec S16 32) : Prop :=
  (∀ a x, ((![v404] : Fin 1 → IVec S16 32) a x).toNat < S24576.size a)
theorem k0_idx84_inb : ∀ (v404 : IVec S16 32) (k0_hw84 : k0_chk84 v404), ∀ a x, ((![v404] : Fin 1 → IVec S16 32) a x).toNat < S24576.size a := fun v404 k0_hw84 => k0_hw84

def k0_chk85 (v414 : IVec S16 32) : Prop :=
  (∀ a x, ((![v414] : Fin 1 → IVec S16 32) a x).toNat < S24576.size a)
theorem k0_idx85_inb : ∀ (v414 : IVec S16 32) (k0_hw85 : k0_chk85 v414), ∀ a x, ((![v414] : Fin 1 → IVec S16 32) a x).toNat < S24576.size a := fun v414 k0_hw85 => k0_hw85

def k0_chk86 (v416 : IVec S16 32) : Prop :=
  (∀ a x, ((![v416] : Fin 1 → IVec S16 32) a x).toNat < S24576.size a)
theorem k0_idx86_inb : ∀ (v416 : IVec S16 32) (k0_hw86 : k0_chk86 v416), ∀ a x, ((![v416] : Fin 1 → IVec S16 32) a x).toNat < S24576.size a := fun v416 k0_hw86 => k0_hw86

def k0_chk87 (v418 : IVec S16 32) : Prop :=
  (∀ a x, ((![v418] : Fin 1 → IVec S16 32) a x).toNat < S24576.size a)
theorem k0_idx87_inb : ∀ (v418 : IVec S16 32) (k0_hw87 : k0_chk87 v418), ∀ a x, ((![v418] : Fin 1 → IVec S16 32) a x).toNat < S24576.size a := fun v418 k0_hw87 => k0_hw87

def k0_chk88 (v428 : IVec S16 32) : Prop :=
  (∀ a x, ((![v428] : Fin 1 → IVec S16 32) a x).toNat < S24576.size a)
theorem k0_idx88_inb : ∀ (v428 : IVec S16 32) (k0_hw88 : k0_chk88 v428), ∀ a x, ((![v428] : Fin 1 → IVec S16 32) a x).toNat < S24576.size a := fun v428 k0_hw88 => k0_hw88

def k0_chk89 (v430 : IVec S16 32) : Prop :=
  (∀ a x, ((![v430] : Fin 1 → IVec S16 32) a x).toNat < S24576.size a)
theorem k0_idx89_inb : ∀ (v430 : IVec S16 32) (k0_hw89 : k0_chk89 v430), ∀ a x, ((![v430] : Fin 1 → IVec S16 32) a x).toNat < S24576.size a := fun v430 k0_hw89 => k0_hw89

def k0_chk90 (v432 : IVec S16 32) : Prop :=
  (∀ a x, ((![v432] : Fin 1 → IVec S16 32) a x).toNat < S24576.size a)
theorem k0_idx90_inb : ∀ (v432 : IVec S16 32) (k0_hw90 : k0_chk90 v432), ∀ a x, ((![v432] : Fin 1 → IVec S16 32) a x).toNat < S24576.size a := fun v432 k0_hw90 => k0_hw90

def k0_chk91 (v442 : IVec S16 32) : Prop :=
  (∀ a x, ((![v442] : Fin 1 → IVec S16 32) a x).toNat < S24576.size a)
theorem k0_idx91_inb : ∀ (v442 : IVec S16 32) (k0_hw91 : k0_chk91 v442), ∀ a x, ((![v442] : Fin 1 → IVec S16 32) a x).toNat < S24576.size a := fun v442 k0_hw91 => k0_hw91

def k0_chk92 (v444 : IVec S16 32) : Prop :=
  (∀ a x, ((![v444] : Fin 1 → IVec S16 32) a x).toNat < S24576.size a)
theorem k0_idx92_inb : ∀ (v444 : IVec S16 32) (k0_hw92 : k0_chk92 v444), ∀ a x, ((![v444] : Fin 1 → IVec S16 32) a x).toNat < S24576.size a := fun v444 k0_hw92 => k0_hw92

def k0_chk93 (v446 : IVec S16 32) : Prop :=
  (∀ a x, ((![v446] : Fin 1 → IVec S16 32) a x).toNat < S24576.size a)
theorem k0_idx93_inb : ∀ (v446 : IVec S16 32) (k0_hw93 : k0_chk93 v446), ∀ a x, ((![v446] : Fin 1 → IVec S16 32) a x).toNat < S24576.size a := fun v446 k0_hw93 => k0_hw93

def k0_chk94 (v456 : IVec S16 32) : Prop :=
  (∀ a x, ((![v456] : Fin 1 → IVec S16 32) a x).toNat < S24576.size a)
theorem k0_idx94_inb : ∀ (v456 : IVec S16 32) (k0_hw94 : k0_chk94 v456), ∀ a x, ((![v456] : Fin 1 → IVec S16 32) a x).toNat < S24576.size a := fun v456 k0_hw94 => k0_hw94

def k0_chk95 (v458 : IVec S16 32) : Prop :=
  (∀ a x, ((![v458] : Fin 1 → IVec S16 32) a x).toNat < S24576.size a)
theorem k0_idx95_inb : ∀ (v458 : IVec S16 32) (k0_hw95 : k0_chk95 v458), ∀ a x, ((![v458] : Fin 1 → IVec S16 32) a x).toNat < S24576.size a := fun v458 k0_hw95 => k0_hw95

def k0_chk96 (v460 : IVec S16 32) : Prop :=
  (∀ a x, ((![v460] : Fin 1 → IVec S16 32) a x).toNat < S24576.size a)
theorem k0_idx96_inb : ∀ (v460 : IVec S16 32) (k0_hw96 : k0_chk96 v460), ∀ a x, ((![v460] : Fin 1 → IVec S16 32) a x).toNat < S24576.size a := fun v460 k0_hw96 => k0_hw96
def k0_off4 (i : grid0.Coords) (c1_i32_245 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v461 : BitVec 32 := Scalar.addi v2 c1_i32_245
  let c0_i32_246 : BitVec 32 := 0#32
  ![v461.toNat, 0]
def k0_off4_at (r : Fin 3) : BitVec 32 :=
  if r.val < 1 then
    1#32
  else
    if r.val < 2 then
      126#32
    else
      127#32
@[reducible] def k0_t2_loop : Scf.Loop 32 :=
  let c1_i32_250 : BitVec 32 := 1#32
  let c63_i32 : BitVec 32 := 63#32
  let v468 : BitVec 32 := Scalar.addi c1_i32_250 c63_i32
  let c1_i32_251 : BitVec 32 := 1#32
  ⟨c1_i32_250, v468, c1_i32_251⟩
def k0_off5 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c1_i32_250 : BitVec 32 := 1#32
  let c1_i32_251 : BitVec 32 := 1#32
  let arg8 : BitVec 32 := Scf.iv c1_i32_250 c1_i32_251 k0_t2
  let c2_i32_261 : BitVec 32 := 2#32
  let v483 : BitVec 32 := Scalar.muli arg8 c2_i32_261
  let c0_i32_262 : BitVec 32 := 0#32
  let v484 : BitVec 32 := Scalar.addi v483 c0_i32_262
  let c2_i32_263 : BitVec 32 := 2#32
  let v485 : BitVec 32 := Scalar.subi v484 c2_i32_263
  let v486 : BitVec 32 := Scalar.addi v2 v485
  let c0_i32_265 : BitVec 32 := 0#32
  ![v486.toNat, 0]
def k0_off6 (k0_t2 : Fin k0_t2_loop.trips) : Fin 2 → Nat :=
  let c1_i32_250 : BitVec 32 := 1#32
  let c1_i32_251 : BitVec 32 := 1#32
  let arg8 : BitVec 32 := Scf.iv c1_i32_250 c1_i32_251 k0_t2
  let c2_i32_261 : BitVec 32 := 2#32
  let v483 : BitVec 32 := Scalar.muli arg8 c2_i32_261
  let c0_i32_262 : BitVec 32 := 0#32
  let v484 : BitVec 32 := Scalar.addi v483 c0_i32_262
  let c2_i32_268 : BitVec 32 := 2#32
  let v493 : BitVec 32 := Scalar.subi v484 c2_i32_268
  let v494 : Index := Scalar.indexCast v493
  let c0_269 : Index := 0#32
  ![v494.toNat, 0]

def k0_chk97 (v503 : IVec S16 32) : Prop :=
  (∀ a x, ((![v503] : Fin 1 → IVec S16 32) a x).toNat < S24576.size a)
theorem k0_idx97_inb : ∀ (v503 : IVec S16 32) (k0_hw97 : k0_chk97 v503), ∀ a x, ((![v503] : Fin 1 → IVec S16 32) a x).toNat < S24576.size a := fun v503 k0_hw97 => k0_hw97

def k0_chk98 (v505 : IVec S16 32) : Prop :=
  (∀ a x, ((![v505] : Fin 1 → IVec S16 32) a x).toNat < S24576.size a)
theorem k0_idx98_inb : ∀ (v505 : IVec S16 32) (k0_hw98 : k0_chk98 v505), ∀ a x, ((![v505] : Fin 1 → IVec S16 32) a x).toNat < S24576.size a := fun v505 k0_hw98 => k0_hw98

def k0_chk99 (v507 : IVec S16 32) : Prop :=
  (∀ a x, ((![v507] : Fin 1 → IVec S16 32) a x).toNat < S24576.size a)
theorem k0_idx99_inb : ∀ (v507 : IVec S16 32) (k0_hw99 : k0_chk99 v507), ∀ a x, ((![v507] : Fin 1 → IVec S16 32) a x).toNat < S24576.size a := fun v507 k0_hw99 => k0_hw99
def k0_off7 (k0_t2 : Fin k0_t2_loop.trips) : Fin 2 → Nat :=
  let c1_i32_250 : BitVec 32 := 1#32
  let c1_i32_251 : BitVec 32 := 1#32
  let arg8 : BitVec 32 := Scf.iv c1_i32_250 c1_i32_251 k0_t2
  let c2_i32_261 : BitVec 32 := 2#32
  let v483 : BitVec 32 := Scalar.muli arg8 c2_i32_261
  let c0_i32_262 : BitVec 32 := 0#32
  let v484 : BitVec 32 := Scalar.addi v483 c0_i32_262
  let c2_i32_268 : BitVec 32 := 2#32
  let v493 : BitVec 32 := Scalar.subi v484 c2_i32_268
  let v508 : Index := Scalar.indexCast v493
  let c16_276 : Index := 16#32
  ![v508.toNat, 16]

def k0_chk100 (v517 : IVec S16 32) : Prop :=
  (∀ a x, ((![v517] : Fin 1 → IVec S16 32) a x).toNat < S24576.size a)
theorem k0_idx100_inb : ∀ (v517 : IVec S16 32) (k0_hw100 : k0_chk100 v517), ∀ a x, ((![v517] : Fin 1 → IVec S16 32) a x).toNat < S24576.size a := fun v517 k0_hw100 => k0_hw100

def k0_chk101 (v519 : IVec S16 32) : Prop :=
  (∀ a x, ((![v519] : Fin 1 → IVec S16 32) a x).toNat < S24576.size a)
theorem k0_idx101_inb : ∀ (v519 : IVec S16 32) (k0_hw101 : k0_chk101 v519), ∀ a x, ((![v519] : Fin 1 → IVec S16 32) a x).toNat < S24576.size a := fun v519 k0_hw101 => k0_hw101

def k0_chk102 (v521 : IVec S16 32) : Prop :=
  (∀ a x, ((![v521] : Fin 1 → IVec S16 32) a x).toNat < S24576.size a)
theorem k0_idx102_inb : ∀ (v521 : IVec S16 32) (k0_hw102 : k0_chk102 v521), ∀ a x, ((![v521] : Fin 1 → IVec S16 32) a x).toNat < S24576.size a := fun v521 k0_hw102 => k0_hw102
def k0_off8 (k0_t2 : Fin k0_t2_loop.trips) : Fin 2 → Nat :=
  let c1_i32_250 : BitVec 32 := 1#32
  let c1_i32_251 : BitVec 32 := 1#32
  let arg8 : BitVec 32 := Scf.iv c1_i32_250 c1_i32_251 k0_t2
  let c2_i32_261 : BitVec 32 := 2#32
  let v483 : BitVec 32 := Scalar.muli arg8 c2_i32_261
  let c0_i32_262 : BitVec 32 := 0#32
  let v484 : BitVec 32 := Scalar.addi v483 c0_i32_262
  let c2_i32_268 : BitVec 32 := 2#32
  let v493 : BitVec 32 := Scalar.subi v484 c2_i32_268
  let v522 : Index := Scalar.indexCast v493
  let c32_283 : Index := 32#32
  ![v522.toNat, 32]

def k0_chk103 (v531 : IVec S16 32) : Prop :=
  (∀ a x, ((![v531] : Fin 1 → IVec S16 32) a x).toNat < S24576.size a)
theorem k0_idx103_inb : ∀ (v531 : IVec S16 32) (k0_hw103 : k0_chk103 v531), ∀ a x, ((![v531] : Fin 1 → IVec S16 32) a x).toNat < S24576.size a := fun v531 k0_hw103 => k0_hw103

def k0_chk104 (v533 : IVec S16 32) : Prop :=
  (∀ a x, ((![v533] : Fin 1 → IVec S16 32) a x).toNat < S24576.size a)
theorem k0_idx104_inb : ∀ (v533 : IVec S16 32) (k0_hw104 : k0_chk104 v533), ∀ a x, ((![v533] : Fin 1 → IVec S16 32) a x).toNat < S24576.size a := fun v533 k0_hw104 => k0_hw104

def k0_chk105 (v535 : IVec S16 32) : Prop :=
  (∀ a x, ((![v535] : Fin 1 → IVec S16 32) a x).toNat < S24576.size a)
theorem k0_idx105_inb : ∀ (v535 : IVec S16 32) (k0_hw105 : k0_chk105 v535), ∀ a x, ((![v535] : Fin 1 → IVec S16 32) a x).toNat < S24576.size a := fun v535 k0_hw105 => k0_hw105
def k0_off9 (k0_t2 : Fin k0_t2_loop.trips) : Fin 2 → Nat :=
  let c1_i32_250 : BitVec 32 := 1#32
  let c1_i32_251 : BitVec 32 := 1#32
  let arg8 : BitVec 32 := Scf.iv c1_i32_250 c1_i32_251 k0_t2
  let c2_i32_261 : BitVec 32 := 2#32
  let v483 : BitVec 32 := Scalar.muli arg8 c2_i32_261
  let c0_i32_262 : BitVec 32 := 0#32
  let v484 : BitVec 32 := Scalar.addi v483 c0_i32_262
  let c2_i32_268 : BitVec 32 := 2#32
  let v493 : BitVec 32 := Scalar.subi v484 c2_i32_268
  let v536 : Index := Scalar.indexCast v493
  let c48_290 : Index := 48#32
  ![v536.toNat, 48]

def k0_chk106 (v545 : IVec S16 32) : Prop :=
  (∀ a x, ((![v545] : Fin 1 → IVec S16 32) a x).toNat < S24576.size a)
theorem k0_idx106_inb : ∀ (v545 : IVec S16 32) (k0_hw106 : k0_chk106 v545), ∀ a x, ((![v545] : Fin 1 → IVec S16 32) a x).toNat < S24576.size a := fun v545 k0_hw106 => k0_hw106

def k0_chk107 (v547 : IVec S16 32) : Prop :=
  (∀ a x, ((![v547] : Fin 1 → IVec S16 32) a x).toNat < S24576.size a)
theorem k0_idx107_inb : ∀ (v547 : IVec S16 32) (k0_hw107 : k0_chk107 v547), ∀ a x, ((![v547] : Fin 1 → IVec S16 32) a x).toNat < S24576.size a := fun v547 k0_hw107 => k0_hw107

def k0_chk108 (v549 : IVec S16 32) : Prop :=
  (∀ a x, ((![v549] : Fin 1 → IVec S16 32) a x).toNat < S24576.size a)
theorem k0_idx108_inb : ∀ (v549 : IVec S16 32) (k0_hw108 : k0_chk108 v549), ∀ a x, ((![v549] : Fin 1 → IVec S16 32) a x).toNat < S24576.size a := fun v549 k0_hw108 => k0_hw108
def k0_off10 (k0_t2 : Fin k0_t2_loop.trips) : Fin 2 → Nat :=
  let c1_i32_250 : BitVec 32 := 1#32
  let c1_i32_251 : BitVec 32 := 1#32
  let arg8 : BitVec 32 := Scf.iv c1_i32_250 c1_i32_251 k0_t2
  let c2_i32_261 : BitVec 32 := 2#32
  let v483 : BitVec 32 := Scalar.muli arg8 c2_i32_261
  let c0_i32_262 : BitVec 32 := 0#32
  let v484 : BitVec 32 := Scalar.addi v483 c0_i32_262
  let c2_i32_268 : BitVec 32 := 2#32
  let v493 : BitVec 32 := Scalar.subi v484 c2_i32_268
  let v550 : Index := Scalar.indexCast v493
  let c64_297 : Index := 64#32
  ![v550.toNat, 64]

def k0_chk109 (v559 : IVec S16 32) : Prop :=
  (∀ a x, ((![v559] : Fin 1 → IVec S16 32) a x).toNat < S24576.size a)
theorem k0_idx109_inb : ∀ (v559 : IVec S16 32) (k0_hw109 : k0_chk109 v559), ∀ a x, ((![v559] : Fin 1 → IVec S16 32) a x).toNat < S24576.size a := fun v559 k0_hw109 => k0_hw109

def k0_chk110 (v561 : IVec S16 32) : Prop :=
  (∀ a x, ((![v561] : Fin 1 → IVec S16 32) a x).toNat < S24576.size a)
theorem k0_idx110_inb : ∀ (v561 : IVec S16 32) (k0_hw110 : k0_chk110 v561), ∀ a x, ((![v561] : Fin 1 → IVec S16 32) a x).toNat < S24576.size a := fun v561 k0_hw110 => k0_hw110

def k0_chk111 (v563 : IVec S16 32) : Prop :=
  (∀ a x, ((![v563] : Fin 1 → IVec S16 32) a x).toNat < S24576.size a)
theorem k0_idx111_inb : ∀ (v563 : IVec S16 32) (k0_hw111 : k0_chk111 v563), ∀ a x, ((![v563] : Fin 1 → IVec S16 32) a x).toNat < S24576.size a := fun v563 k0_hw111 => k0_hw111
def k0_off11 (k0_t2 : Fin k0_t2_loop.trips) : Fin 2 → Nat :=
  let c1_i32_250 : BitVec 32 := 1#32
  let c1_i32_251 : BitVec 32 := 1#32
  let arg8 : BitVec 32 := Scf.iv c1_i32_250 c1_i32_251 k0_t2
  let c2_i32_261 : BitVec 32 := 2#32
  let v483 : BitVec 32 := Scalar.muli arg8 c2_i32_261
  let c0_i32_262 : BitVec 32 := 0#32
  let v484 : BitVec 32 := Scalar.addi v483 c0_i32_262
  let c2_i32_268 : BitVec 32 := 2#32
  let v493 : BitVec 32 := Scalar.subi v484 c2_i32_268
  let v564 : Index := Scalar.indexCast v493
  let c80_304 : Index := 80#32
  ![v564.toNat, 80]

def k0_chk112 (v573 : IVec S16 32) : Prop :=
  (∀ a x, ((![v573] : Fin 1 → IVec S16 32) a x).toNat < S24576.size a)
theorem k0_idx112_inb : ∀ (v573 : IVec S16 32) (k0_hw112 : k0_chk112 v573), ∀ a x, ((![v573] : Fin 1 → IVec S16 32) a x).toNat < S24576.size a := fun v573 k0_hw112 => k0_hw112

def k0_chk113 (v575 : IVec S16 32) : Prop :=
  (∀ a x, ((![v575] : Fin 1 → IVec S16 32) a x).toNat < S24576.size a)
theorem k0_idx113_inb : ∀ (v575 : IVec S16 32) (k0_hw113 : k0_chk113 v575), ∀ a x, ((![v575] : Fin 1 → IVec S16 32) a x).toNat < S24576.size a := fun v575 k0_hw113 => k0_hw113

def k0_chk114 (v577 : IVec S16 32) : Prop :=
  (∀ a x, ((![v577] : Fin 1 → IVec S16 32) a x).toNat < S24576.size a)
theorem k0_idx114_inb : ∀ (v577 : IVec S16 32) (k0_hw114 : k0_chk114 v577), ∀ a x, ((![v577] : Fin 1 → IVec S16 32) a x).toNat < S24576.size a := fun v577 k0_hw114 => k0_hw114
def k0_off12 (k0_t2 : Fin k0_t2_loop.trips) : Fin 2 → Nat :=
  let c1_i32_250 : BitVec 32 := 1#32
  let c1_i32_251 : BitVec 32 := 1#32
  let arg8 : BitVec 32 := Scf.iv c1_i32_250 c1_i32_251 k0_t2
  let c2_i32_261 : BitVec 32 := 2#32
  let v483 : BitVec 32 := Scalar.muli arg8 c2_i32_261
  let c0_i32_262 : BitVec 32 := 0#32
  let v484 : BitVec 32 := Scalar.addi v483 c0_i32_262
  let c2_i32_268 : BitVec 32 := 2#32
  let v493 : BitVec 32 := Scalar.subi v484 c2_i32_268
  let v578 : Index := Scalar.indexCast v493
  let c96_311 : Index := 96#32
  ![v578.toNat, 96]

def k0_chk115 (v587 : IVec S16 32) : Prop :=
  (∀ a x, ((![v587] : Fin 1 → IVec S16 32) a x).toNat < S24576.size a)
theorem k0_idx115_inb : ∀ (v587 : IVec S16 32) (k0_hw115 : k0_chk115 v587), ∀ a x, ((![v587] : Fin 1 → IVec S16 32) a x).toNat < S24576.size a := fun v587 k0_hw115 => k0_hw115

def k0_chk116 (v589 : IVec S16 32) : Prop :=
  (∀ a x, ((![v589] : Fin 1 → IVec S16 32) a x).toNat < S24576.size a)
theorem k0_idx116_inb : ∀ (v589 : IVec S16 32) (k0_hw116 : k0_chk116 v589), ∀ a x, ((![v589] : Fin 1 → IVec S16 32) a x).toNat < S24576.size a := fun v589 k0_hw116 => k0_hw116

def k0_chk117 (v591 : IVec S16 32) : Prop :=
  (∀ a x, ((![v591] : Fin 1 → IVec S16 32) a x).toNat < S24576.size a)
theorem k0_idx117_inb : ∀ (v591 : IVec S16 32) (k0_hw117 : k0_chk117 v591), ∀ a x, ((![v591] : Fin 1 → IVec S16 32) a x).toNat < S24576.size a := fun v591 k0_hw117 => k0_hw117
def k0_off13 (k0_t2 : Fin k0_t2_loop.trips) : Fin 2 → Nat :=
  let c1_i32_250 : BitVec 32 := 1#32
  let c1_i32_251 : BitVec 32 := 1#32
  let arg8 : BitVec 32 := Scf.iv c1_i32_250 c1_i32_251 k0_t2
  let c2_i32_261 : BitVec 32 := 2#32
  let v483 : BitVec 32 := Scalar.muli arg8 c2_i32_261
  let c0_i32_262 : BitVec 32 := 0#32
  let v484 : BitVec 32 := Scalar.addi v483 c0_i32_262
  let c2_i32_268 : BitVec 32 := 2#32
  let v493 : BitVec 32 := Scalar.subi v484 c2_i32_268
  let v592 : Index := Scalar.indexCast v493
  let c112_318 : Index := 112#32
  ![v592.toNat, 112]

def k0_chk118 (v601 : IVec S16 32) : Prop :=
  (∀ a x, ((![v601] : Fin 1 → IVec S16 32) a x).toNat < S24576.size a)
theorem k0_idx118_inb : ∀ (v601 : IVec S16 32) (k0_hw118 : k0_chk118 v601), ∀ a x, ((![v601] : Fin 1 → IVec S16 32) a x).toNat < S24576.size a := fun v601 k0_hw118 => k0_hw118

def k0_chk119 (v603 : IVec S16 32) : Prop :=
  (∀ a x, ((![v603] : Fin 1 → IVec S16 32) a x).toNat < S24576.size a)
theorem k0_idx119_inb : ∀ (v603 : IVec S16 32) (k0_hw119 : k0_chk119 v603), ∀ a x, ((![v603] : Fin 1 → IVec S16 32) a x).toNat < S24576.size a := fun v603 k0_hw119 => k0_hw119

def k0_chk120 (v605 : IVec S16 32) : Prop :=
  (∀ a x, ((![v605] : Fin 1 → IVec S16 32) a x).toNat < S24576.size a)
theorem k0_idx120_inb : ∀ (v605 : IVec S16 32) (k0_hw120 : k0_chk120 v605), ∀ a x, ((![v605] : Fin 1 → IVec S16 32) a x).toNat < S24576.size a := fun v605 k0_hw120 => k0_hw120
def k0_off14 (k0_t2 : Fin k0_t2_loop.trips) : Fin 2 → Nat :=
  let c1_i32_250 : BitVec 32 := 1#32
  let c1_i32_251 : BitVec 32 := 1#32
  let arg8 : BitVec 32 := Scf.iv c1_i32_250 c1_i32_251 k0_t2
  let c2_i32_261 : BitVec 32 := 2#32
  let v483 : BitVec 32 := Scalar.muli arg8 c2_i32_261
  let c0_i32_262 : BitVec 32 := 0#32
  let v484 : BitVec 32 := Scalar.addi v483 c0_i32_262
  let c2_i32_268 : BitVec 32 := 2#32
  let v493 : BitVec 32 := Scalar.subi v484 c2_i32_268
  let v606 : Index := Scalar.indexCast v493
  let c128_325 : Index := 128#32
  ![v606.toNat, 128]

def k0_chk121 (v615 : IVec S16 32) : Prop :=
  (∀ a x, ((![v615] : Fin 1 → IVec S16 32) a x).toNat < S24576.size a)
theorem k0_idx121_inb : ∀ (v615 : IVec S16 32) (k0_hw121 : k0_chk121 v615), ∀ a x, ((![v615] : Fin 1 → IVec S16 32) a x).toNat < S24576.size a := fun v615 k0_hw121 => k0_hw121

def k0_chk122 (v617 : IVec S16 32) : Prop :=
  (∀ a x, ((![v617] : Fin 1 → IVec S16 32) a x).toNat < S24576.size a)
theorem k0_idx122_inb : ∀ (v617 : IVec S16 32) (k0_hw122 : k0_chk122 v617), ∀ a x, ((![v617] : Fin 1 → IVec S16 32) a x).toNat < S24576.size a := fun v617 k0_hw122 => k0_hw122

def k0_chk123 (v619 : IVec S16 32) : Prop :=
  (∀ a x, ((![v619] : Fin 1 → IVec S16 32) a x).toNat < S24576.size a)
theorem k0_idx123_inb : ∀ (v619 : IVec S16 32) (k0_hw123 : k0_chk123 v619), ∀ a x, ((![v619] : Fin 1 → IVec S16 32) a x).toNat < S24576.size a := fun v619 k0_hw123 => k0_hw123
def k0_off15 (k0_t2 : Fin k0_t2_loop.trips) : Fin 2 → Nat :=
  let c1_i32_250 : BitVec 32 := 1#32
  let c1_i32_251 : BitVec 32 := 1#32
  let arg8 : BitVec 32 := Scf.iv c1_i32_250 c1_i32_251 k0_t2
  let c2_i32_261 : BitVec 32 := 2#32
  let v483 : BitVec 32 := Scalar.muli arg8 c2_i32_261
  let c0_i32_262 : BitVec 32 := 0#32
  let v484 : BitVec 32 := Scalar.addi v483 c0_i32_262
  let c2_i32_268 : BitVec 32 := 2#32
  let v493 : BitVec 32 := Scalar.subi v484 c2_i32_268
  let v620 : Index := Scalar.indexCast v493
  let c144_332 : Index := 144#32
  ![v620.toNat, 144]

def k0_chk124 (v629 : IVec S16 32) : Prop :=
  (∀ a x, ((![v629] : Fin 1 → IVec S16 32) a x).toNat < S24576.size a)
theorem k0_idx124_inb : ∀ (v629 : IVec S16 32) (k0_hw124 : k0_chk124 v629), ∀ a x, ((![v629] : Fin 1 → IVec S16 32) a x).toNat < S24576.size a := fun v629 k0_hw124 => k0_hw124

def k0_chk125 (v631 : IVec S16 32) : Prop :=
  (∀ a x, ((![v631] : Fin 1 → IVec S16 32) a x).toNat < S24576.size a)
theorem k0_idx125_inb : ∀ (v631 : IVec S16 32) (k0_hw125 : k0_chk125 v631), ∀ a x, ((![v631] : Fin 1 → IVec S16 32) a x).toNat < S24576.size a := fun v631 k0_hw125 => k0_hw125

def k0_chk126 (v633 : IVec S16 32) : Prop :=
  (∀ a x, ((![v633] : Fin 1 → IVec S16 32) a x).toNat < S24576.size a)
theorem k0_idx126_inb : ∀ (v633 : IVec S16 32) (k0_hw126 : k0_chk126 v633), ∀ a x, ((![v633] : Fin 1 → IVec S16 32) a x).toNat < S24576.size a := fun v633 k0_hw126 => k0_hw126
def k0_off16 (k0_t2 : Fin k0_t2_loop.trips) : Fin 2 → Nat :=
  let c1_i32_250 : BitVec 32 := 1#32
  let c1_i32_251 : BitVec 32 := 1#32
  let arg8 : BitVec 32 := Scf.iv c1_i32_250 c1_i32_251 k0_t2
  let c2_i32_261 : BitVec 32 := 2#32
  let v483 : BitVec 32 := Scalar.muli arg8 c2_i32_261
  let c0_i32_262 : BitVec 32 := 0#32
  let v484 : BitVec 32 := Scalar.addi v483 c0_i32_262
  let c2_i32_268 : BitVec 32 := 2#32
  let v493 : BitVec 32 := Scalar.subi v484 c2_i32_268
  let v634 : Index := Scalar.indexCast v493
  let c160_339 : Index := 160#32
  ![v634.toNat, 160]

def k0_chk127 (v643 : IVec S16 32) : Prop :=
  (∀ a x, ((![v643] : Fin 1 → IVec S16 32) a x).toNat < S24576.size a)
theorem k0_idx127_inb : ∀ (v643 : IVec S16 32) (k0_hw127 : k0_chk127 v643), ∀ a x, ((![v643] : Fin 1 → IVec S16 32) a x).toNat < S24576.size a := fun v643 k0_hw127 => k0_hw127

def k0_chk128 (v645 : IVec S16 32) : Prop :=
  (∀ a x, ((![v645] : Fin 1 → IVec S16 32) a x).toNat < S24576.size a)
theorem k0_idx128_inb : ∀ (v645 : IVec S16 32) (k0_hw128 : k0_chk128 v645), ∀ a x, ((![v645] : Fin 1 → IVec S16 32) a x).toNat < S24576.size a := fun v645 k0_hw128 => k0_hw128

def k0_chk129 (v647 : IVec S16 32) : Prop :=
  (∀ a x, ((![v647] : Fin 1 → IVec S16 32) a x).toNat < S24576.size a)
theorem k0_idx129_inb : ∀ (v647 : IVec S16 32) (k0_hw129 : k0_chk129 v647), ∀ a x, ((![v647] : Fin 1 → IVec S16 32) a x).toNat < S24576.size a := fun v647 k0_hw129 => k0_hw129
def k0_off17 (k0_t2 : Fin k0_t2_loop.trips) : Fin 2 → Nat :=
  let c1_i32_250 : BitVec 32 := 1#32
  let c1_i32_251 : BitVec 32 := 1#32
  let arg8 : BitVec 32 := Scf.iv c1_i32_250 c1_i32_251 k0_t2
  let c2_i32_261 : BitVec 32 := 2#32
  let v483 : BitVec 32 := Scalar.muli arg8 c2_i32_261
  let c0_i32_262 : BitVec 32 := 0#32
  let v484 : BitVec 32 := Scalar.addi v483 c0_i32_262
  let c2_i32_268 : BitVec 32 := 2#32
  let v493 : BitVec 32 := Scalar.subi v484 c2_i32_268
  let v648 : Index := Scalar.indexCast v493
  let c176_346 : Index := 176#32
  ![v648.toNat, 176]

def k0_chk130 (v657 : IVec S16 32) : Prop :=
  (∀ a x, ((![v657] : Fin 1 → IVec S16 32) a x).toNat < S24576.size a)
theorem k0_idx130_inb : ∀ (v657 : IVec S16 32) (k0_hw130 : k0_chk130 v657), ∀ a x, ((![v657] : Fin 1 → IVec S16 32) a x).toNat < S24576.size a := fun v657 k0_hw130 => k0_hw130

def k0_chk131 (v659 : IVec S16 32) : Prop :=
  (∀ a x, ((![v659] : Fin 1 → IVec S16 32) a x).toNat < S24576.size a)
theorem k0_idx131_inb : ∀ (v659 : IVec S16 32) (k0_hw131 : k0_chk131 v659), ∀ a x, ((![v659] : Fin 1 → IVec S16 32) a x).toNat < S24576.size a := fun v659 k0_hw131 => k0_hw131

def k0_chk132 (v661 : IVec S16 32) : Prop :=
  (∀ a x, ((![v661] : Fin 1 → IVec S16 32) a x).toNat < S24576.size a)
theorem k0_idx132_inb : ∀ (v661 : IVec S16 32) (k0_hw132 : k0_chk132 v661), ∀ a x, ((![v661] : Fin 1 → IVec S16 32) a x).toNat < S24576.size a := fun v661 k0_hw132 => k0_hw132
def k0_off18 (k0_t2 : Fin k0_t2_loop.trips) : Fin 2 → Nat :=
  let c1_i32_250 : BitVec 32 := 1#32
  let c1_i32_251 : BitVec 32 := 1#32
  let arg8 : BitVec 32 := Scf.iv c1_i32_250 c1_i32_251 k0_t2
  let c2_i32_261 : BitVec 32 := 2#32
  let v483 : BitVec 32 := Scalar.muli arg8 c2_i32_261
  let c0_i32_262 : BitVec 32 := 0#32
  let v484 : BitVec 32 := Scalar.addi v483 c0_i32_262
  let c2_i32_268 : BitVec 32 := 2#32
  let v493 : BitVec 32 := Scalar.subi v484 c2_i32_268
  let v662 : Index := Scalar.indexCast v493
  let c192_353 : Index := 192#32
  ![v662.toNat, 192]

def k0_chk133 (v671 : IVec S16 32) : Prop :=
  (∀ a x, ((![v671] : Fin 1 → IVec S16 32) a x).toNat < S24576.size a)
theorem k0_idx133_inb : ∀ (v671 : IVec S16 32) (k0_hw133 : k0_chk133 v671), ∀ a x, ((![v671] : Fin 1 → IVec S16 32) a x).toNat < S24576.size a := fun v671 k0_hw133 => k0_hw133

def k0_chk134 (v673 : IVec S16 32) : Prop :=
  (∀ a x, ((![v673] : Fin 1 → IVec S16 32) a x).toNat < S24576.size a)
theorem k0_idx134_inb : ∀ (v673 : IVec S16 32) (k0_hw134 : k0_chk134 v673), ∀ a x, ((![v673] : Fin 1 → IVec S16 32) a x).toNat < S24576.size a := fun v673 k0_hw134 => k0_hw134

def k0_chk135 (v675 : IVec S16 32) : Prop :=
  (∀ a x, ((![v675] : Fin 1 → IVec S16 32) a x).toNat < S24576.size a)
theorem k0_idx135_inb : ∀ (v675 : IVec S16 32) (k0_hw135 : k0_chk135 v675), ∀ a x, ((![v675] : Fin 1 → IVec S16 32) a x).toNat < S24576.size a := fun v675 k0_hw135 => k0_hw135
def k0_off19 (k0_t2 : Fin k0_t2_loop.trips) : Fin 2 → Nat :=
  let c1_i32_250 : BitVec 32 := 1#32
  let c1_i32_251 : BitVec 32 := 1#32
  let arg8 : BitVec 32 := Scf.iv c1_i32_250 c1_i32_251 k0_t2
  let c2_i32_261 : BitVec 32 := 2#32
  let v483 : BitVec 32 := Scalar.muli arg8 c2_i32_261
  let c0_i32_262 : BitVec 32 := 0#32
  let v484 : BitVec 32 := Scalar.addi v483 c0_i32_262
  let c2_i32_268 : BitVec 32 := 2#32
  let v493 : BitVec 32 := Scalar.subi v484 c2_i32_268
  let v676 : Index := Scalar.indexCast v493
  let c208_360 : Index := 208#32
  ![v676.toNat, 208]

def k0_chk136 (v685 : IVec S16 32) : Prop :=
  (∀ a x, ((![v685] : Fin 1 → IVec S16 32) a x).toNat < S24576.size a)
theorem k0_idx136_inb : ∀ (v685 : IVec S16 32) (k0_hw136 : k0_chk136 v685), ∀ a x, ((![v685] : Fin 1 → IVec S16 32) a x).toNat < S24576.size a := fun v685 k0_hw136 => k0_hw136

def k0_chk137 (v687 : IVec S16 32) : Prop :=
  (∀ a x, ((![v687] : Fin 1 → IVec S16 32) a x).toNat < S24576.size a)
theorem k0_idx137_inb : ∀ (v687 : IVec S16 32) (k0_hw137 : k0_chk137 v687), ∀ a x, ((![v687] : Fin 1 → IVec S16 32) a x).toNat < S24576.size a := fun v687 k0_hw137 => k0_hw137

def k0_chk138 (v689 : IVec S16 32) : Prop :=
  (∀ a x, ((![v689] : Fin 1 → IVec S16 32) a x).toNat < S24576.size a)
theorem k0_idx138_inb : ∀ (v689 : IVec S16 32) (k0_hw138 : k0_chk138 v689), ∀ a x, ((![v689] : Fin 1 → IVec S16 32) a x).toNat < S24576.size a := fun v689 k0_hw138 => k0_hw138
def k0_off20 (k0_t2 : Fin k0_t2_loop.trips) : Fin 2 → Nat :=
  let c1_i32_250 : BitVec 32 := 1#32
  let c1_i32_251 : BitVec 32 := 1#32
  let arg8 : BitVec 32 := Scf.iv c1_i32_250 c1_i32_251 k0_t2
  let c2_i32_261 : BitVec 32 := 2#32
  let v483 : BitVec 32 := Scalar.muli arg8 c2_i32_261
  let c0_i32_262 : BitVec 32 := 0#32
  let v484 : BitVec 32 := Scalar.addi v483 c0_i32_262
  let c2_i32_268 : BitVec 32 := 2#32
  let v493 : BitVec 32 := Scalar.subi v484 c2_i32_268
  let v690 : Index := Scalar.indexCast v493
  let c224_367 : Index := 224#32
  ![v690.toNat, 224]

def k0_chk139 (v699 : IVec S16 32) : Prop :=
  (∀ a x, ((![v699] : Fin 1 → IVec S16 32) a x).toNat < S24576.size a)
theorem k0_idx139_inb : ∀ (v699 : IVec S16 32) (k0_hw139 : k0_chk139 v699), ∀ a x, ((![v699] : Fin 1 → IVec S16 32) a x).toNat < S24576.size a := fun v699 k0_hw139 => k0_hw139

def k0_chk140 (v701 : IVec S16 32) : Prop :=
  (∀ a x, ((![v701] : Fin 1 → IVec S16 32) a x).toNat < S24576.size a)
theorem k0_idx140_inb : ∀ (v701 : IVec S16 32) (k0_hw140 : k0_chk140 v701), ∀ a x, ((![v701] : Fin 1 → IVec S16 32) a x).toNat < S24576.size a := fun v701 k0_hw140 => k0_hw140

def k0_chk141 (v703 : IVec S16 32) : Prop :=
  (∀ a x, ((![v703] : Fin 1 → IVec S16 32) a x).toNat < S24576.size a)
theorem k0_idx141_inb : ∀ (v703 : IVec S16 32) (k0_hw141 : k0_chk141 v703), ∀ a x, ((![v703] : Fin 1 → IVec S16 32) a x).toNat < S24576.size a := fun v703 k0_hw141 => k0_hw141
def k0_off21 (k0_t2 : Fin k0_t2_loop.trips) : Fin 2 → Nat :=
  let c1_i32_250 : BitVec 32 := 1#32
  let c1_i32_251 : BitVec 32 := 1#32
  let arg8 : BitVec 32 := Scf.iv c1_i32_250 c1_i32_251 k0_t2
  let c2_i32_261 : BitVec 32 := 2#32
  let v483 : BitVec 32 := Scalar.muli arg8 c2_i32_261
  let c0_i32_262 : BitVec 32 := 0#32
  let v484 : BitVec 32 := Scalar.addi v483 c0_i32_262
  let c2_i32_268 : BitVec 32 := 2#32
  let v493 : BitVec 32 := Scalar.subi v484 c2_i32_268
  let v704 : Index := Scalar.indexCast v493
  let c240_374 : Index := 240#32
  ![v704.toNat, 240]

def k0_chk142 (v713 : IVec S16 32) : Prop :=
  (∀ a x, ((![v713] : Fin 1 → IVec S16 32) a x).toNat < S24576.size a)
theorem k0_idx142_inb : ∀ (v713 : IVec S16 32) (k0_hw142 : k0_chk142 v713), ∀ a x, ((![v713] : Fin 1 → IVec S16 32) a x).toNat < S24576.size a := fun v713 k0_hw142 => k0_hw142

def k0_chk143 (v715 : IVec S16 32) : Prop :=
  (∀ a x, ((![v715] : Fin 1 → IVec S16 32) a x).toNat < S24576.size a)
theorem k0_idx143_inb : ∀ (v715 : IVec S16 32) (k0_hw143 : k0_chk143 v715), ∀ a x, ((![v715] : Fin 1 → IVec S16 32) a x).toNat < S24576.size a := fun v715 k0_hw143 => k0_hw143

def k0_chk144 (v717 : IVec S16 32) : Prop :=
  (∀ a x, ((![v717] : Fin 1 → IVec S16 32) a x).toNat < S24576.size a)
theorem k0_idx144_inb : ∀ (v717 : IVec S16 32) (k0_hw144 : k0_chk144 v717), ∀ a x, ((![v717] : Fin 1 → IVec S16 32) a x).toNat < S24576.size a := fun v717 k0_hw144 => k0_hw144
def k0_off22 (k0_t2 : Fin k0_t2_loop.trips) : Fin 2 → Nat :=
  let c1_i32_250 : BitVec 32 := 1#32
  let c1_i32_251 : BitVec 32 := 1#32
  let arg8 : BitVec 32 := Scf.iv c1_i32_250 c1_i32_251 k0_t2
  let c2_i32_261 : BitVec 32 := 2#32
  let v483 : BitVec 32 := Scalar.muli arg8 c2_i32_261
  let c0_i32_262 : BitVec 32 := 0#32
  let v484 : BitVec 32 := Scalar.addi v483 c0_i32_262
  let v718 : Index := Scalar.indexCast v484
  let c0_381 : Index := 0#32
  ![v718.toNat, 0]

def k0_chk145 (v727 : IVec S16 32) : Prop :=
  (∀ a x, ((![v727] : Fin 1 → IVec S16 32) a x).toNat < S24576.size a)
theorem k0_idx145_inb : ∀ (v727 : IVec S16 32) (k0_hw145 : k0_chk145 v727), ∀ a x, ((![v727] : Fin 1 → IVec S16 32) a x).toNat < S24576.size a := fun v727 k0_hw145 => k0_hw145

def k0_chk146 (v729 : IVec S16 32) : Prop :=
  (∀ a x, ((![v729] : Fin 1 → IVec S16 32) a x).toNat < S24576.size a)
theorem k0_idx146_inb : ∀ (v729 : IVec S16 32) (k0_hw146 : k0_chk146 v729), ∀ a x, ((![v729] : Fin 1 → IVec S16 32) a x).toNat < S24576.size a := fun v729 k0_hw146 => k0_hw146

def k0_chk147 (v731 : IVec S16 32) : Prop :=
  (∀ a x, ((![v731] : Fin 1 → IVec S16 32) a x).toNat < S24576.size a)
theorem k0_idx147_inb : ∀ (v731 : IVec S16 32) (k0_hw147 : k0_chk147 v731), ∀ a x, ((![v731] : Fin 1 → IVec S16 32) a x).toNat < S24576.size a := fun v731 k0_hw147 => k0_hw147
def k0_off23 (k0_t2 : Fin k0_t2_loop.trips) : Fin 2 → Nat :=
  let c1_i32_250 : BitVec 32 := 1#32
  let c1_i32_251 : BitVec 32 := 1#32
  let arg8 : BitVec 32 := Scf.iv c1_i32_250 c1_i32_251 k0_t2
  let c2_i32_261 : BitVec 32 := 2#32
  let v483 : BitVec 32 := Scalar.muli arg8 c2_i32_261
  let c0_i32_262 : BitVec 32 := 0#32
  let v484 : BitVec 32 := Scalar.addi v483 c0_i32_262
  let v732 : Index := Scalar.indexCast v484
  let c16_388 : Index := 16#32
  ![v732.toNat, 16]

def k0_chk148 (v741 : IVec S16 32) : Prop :=
  (∀ a x, ((![v741] : Fin 1 → IVec S16 32) a x).toNat < S24576.size a)
theorem k0_idx148_inb : ∀ (v741 : IVec S16 32) (k0_hw148 : k0_chk148 v741), ∀ a x, ((![v741] : Fin 1 → IVec S16 32) a x).toNat < S24576.size a := fun v741 k0_hw148 => k0_hw148

def k0_chk149 (v743 : IVec S16 32) : Prop :=
  (∀ a x, ((![v743] : Fin 1 → IVec S16 32) a x).toNat < S24576.size a)
theorem k0_idx149_inb : ∀ (v743 : IVec S16 32) (k0_hw149 : k0_chk149 v743), ∀ a x, ((![v743] : Fin 1 → IVec S16 32) a x).toNat < S24576.size a := fun v743 k0_hw149 => k0_hw149

def k0_chk150 (v745 : IVec S16 32) : Prop :=
  (∀ a x, ((![v745] : Fin 1 → IVec S16 32) a x).toNat < S24576.size a)
theorem k0_idx150_inb : ∀ (v745 : IVec S16 32) (k0_hw150 : k0_chk150 v745), ∀ a x, ((![v745] : Fin 1 → IVec S16 32) a x).toNat < S24576.size a := fun v745 k0_hw150 => k0_hw150
def k0_off24 (k0_t2 : Fin k0_t2_loop.trips) : Fin 2 → Nat :=
  let c1_i32_250 : BitVec 32 := 1#32
  let c1_i32_251 : BitVec 32 := 1#32
  let arg8 : BitVec 32 := Scf.iv c1_i32_250 c1_i32_251 k0_t2
  let c2_i32_261 : BitVec 32 := 2#32
  let v483 : BitVec 32 := Scalar.muli arg8 c2_i32_261
  let c0_i32_262 : BitVec 32 := 0#32
  let v484 : BitVec 32 := Scalar.addi v483 c0_i32_262
  let v746 : Index := Scalar.indexCast v484
  let c32_395 : Index := 32#32
  ![v746.toNat, 32]

def k0_chk151 (v755 : IVec S16 32) : Prop :=
  (∀ a x, ((![v755] : Fin 1 → IVec S16 32) a x).toNat < S24576.size a)
theorem k0_idx151_inb : ∀ (v755 : IVec S16 32) (k0_hw151 : k0_chk151 v755), ∀ a x, ((![v755] : Fin 1 → IVec S16 32) a x).toNat < S24576.size a := fun v755 k0_hw151 => k0_hw151

def k0_chk152 (v757 : IVec S16 32) : Prop :=
  (∀ a x, ((![v757] : Fin 1 → IVec S16 32) a x).toNat < S24576.size a)
theorem k0_idx152_inb : ∀ (v757 : IVec S16 32) (k0_hw152 : k0_chk152 v757), ∀ a x, ((![v757] : Fin 1 → IVec S16 32) a x).toNat < S24576.size a := fun v757 k0_hw152 => k0_hw152

def k0_chk153 (v759 : IVec S16 32) : Prop :=
  (∀ a x, ((![v759] : Fin 1 → IVec S16 32) a x).toNat < S24576.size a)
theorem k0_idx153_inb : ∀ (v759 : IVec S16 32) (k0_hw153 : k0_chk153 v759), ∀ a x, ((![v759] : Fin 1 → IVec S16 32) a x).toNat < S24576.size a := fun v759 k0_hw153 => k0_hw153
def k0_off25 (k0_t2 : Fin k0_t2_loop.trips) : Fin 2 → Nat :=
  let c1_i32_250 : BitVec 32 := 1#32
  let c1_i32_251 : BitVec 32 := 1#32
  let arg8 : BitVec 32 := Scf.iv c1_i32_250 c1_i32_251 k0_t2
  let c2_i32_261 : BitVec 32 := 2#32
  let v483 : BitVec 32 := Scalar.muli arg8 c2_i32_261
  let c0_i32_262 : BitVec 32 := 0#32
  let v484 : BitVec 32 := Scalar.addi v483 c0_i32_262
  let v760 : Index := Scalar.indexCast v484
  let c48_402 : Index := 48#32
  ![v760.toNat, 48]

def k0_chk154 (v769 : IVec S16 32) : Prop :=
  (∀ a x, ((![v769] : Fin 1 → IVec S16 32) a x).toNat < S24576.size a)
theorem k0_idx154_inb : ∀ (v769 : IVec S16 32) (k0_hw154 : k0_chk154 v769), ∀ a x, ((![v769] : Fin 1 → IVec S16 32) a x).toNat < S24576.size a := fun v769 k0_hw154 => k0_hw154

def k0_chk155 (v771 : IVec S16 32) : Prop :=
  (∀ a x, ((![v771] : Fin 1 → IVec S16 32) a x).toNat < S24576.size a)
theorem k0_idx155_inb : ∀ (v771 : IVec S16 32) (k0_hw155 : k0_chk155 v771), ∀ a x, ((![v771] : Fin 1 → IVec S16 32) a x).toNat < S24576.size a := fun v771 k0_hw155 => k0_hw155

def k0_chk156 (v773 : IVec S16 32) : Prop :=
  (∀ a x, ((![v773] : Fin 1 → IVec S16 32) a x).toNat < S24576.size a)
theorem k0_idx156_inb : ∀ (v773 : IVec S16 32) (k0_hw156 : k0_chk156 v773), ∀ a x, ((![v773] : Fin 1 → IVec S16 32) a x).toNat < S24576.size a := fun v773 k0_hw156 => k0_hw156
def k0_off26 (k0_t2 : Fin k0_t2_loop.trips) : Fin 2 → Nat :=
  let c1_i32_250 : BitVec 32 := 1#32
  let c1_i32_251 : BitVec 32 := 1#32
  let arg8 : BitVec 32 := Scf.iv c1_i32_250 c1_i32_251 k0_t2
  let c2_i32_261 : BitVec 32 := 2#32
  let v483 : BitVec 32 := Scalar.muli arg8 c2_i32_261
  let c0_i32_262 : BitVec 32 := 0#32
  let v484 : BitVec 32 := Scalar.addi v483 c0_i32_262
  let v774 : Index := Scalar.indexCast v484
  let c64_409 : Index := 64#32
  ![v774.toNat, 64]

def k0_chk157 (v783 : IVec S16 32) : Prop :=
  (∀ a x, ((![v783] : Fin 1 → IVec S16 32) a x).toNat < S24576.size a)
theorem k0_idx157_inb : ∀ (v783 : IVec S16 32) (k0_hw157 : k0_chk157 v783), ∀ a x, ((![v783] : Fin 1 → IVec S16 32) a x).toNat < S24576.size a := fun v783 k0_hw157 => k0_hw157

def k0_chk158 (v785 : IVec S16 32) : Prop :=
  (∀ a x, ((![v785] : Fin 1 → IVec S16 32) a x).toNat < S24576.size a)
theorem k0_idx158_inb : ∀ (v785 : IVec S16 32) (k0_hw158 : k0_chk158 v785), ∀ a x, ((![v785] : Fin 1 → IVec S16 32) a x).toNat < S24576.size a := fun v785 k0_hw158 => k0_hw158

def k0_chk159 (v787 : IVec S16 32) : Prop :=
  (∀ a x, ((![v787] : Fin 1 → IVec S16 32) a x).toNat < S24576.size a)
theorem k0_idx159_inb : ∀ (v787 : IVec S16 32) (k0_hw159 : k0_chk159 v787), ∀ a x, ((![v787] : Fin 1 → IVec S16 32) a x).toNat < S24576.size a := fun v787 k0_hw159 => k0_hw159
def k0_off27 (k0_t2 : Fin k0_t2_loop.trips) : Fin 2 → Nat :=
  let c1_i32_250 : BitVec 32 := 1#32
  let c1_i32_251 : BitVec 32 := 1#32
  let arg8 : BitVec 32 := Scf.iv c1_i32_250 c1_i32_251 k0_t2
  let c2_i32_261 : BitVec 32 := 2#32
  let v483 : BitVec 32 := Scalar.muli arg8 c2_i32_261
  let c0_i32_262 : BitVec 32 := 0#32
  let v484 : BitVec 32 := Scalar.addi v483 c0_i32_262
  let v788 : Index := Scalar.indexCast v484
  let c80_416 : Index := 80#32
  ![v788.toNat, 80]

def k0_chk160 (v797 : IVec S16 32) : Prop :=
  (∀ a x, ((![v797] : Fin 1 → IVec S16 32) a x).toNat < S24576.size a)
theorem k0_idx160_inb : ∀ (v797 : IVec S16 32) (k0_hw160 : k0_chk160 v797), ∀ a x, ((![v797] : Fin 1 → IVec S16 32) a x).toNat < S24576.size a := fun v797 k0_hw160 => k0_hw160

def k0_chk161 (v799 : IVec S16 32) : Prop :=
  (∀ a x, ((![v799] : Fin 1 → IVec S16 32) a x).toNat < S24576.size a)
theorem k0_idx161_inb : ∀ (v799 : IVec S16 32) (k0_hw161 : k0_chk161 v799), ∀ a x, ((![v799] : Fin 1 → IVec S16 32) a x).toNat < S24576.size a := fun v799 k0_hw161 => k0_hw161

def k0_chk162 (v801 : IVec S16 32) : Prop :=
  (∀ a x, ((![v801] : Fin 1 → IVec S16 32) a x).toNat < S24576.size a)
theorem k0_idx162_inb : ∀ (v801 : IVec S16 32) (k0_hw162 : k0_chk162 v801), ∀ a x, ((![v801] : Fin 1 → IVec S16 32) a x).toNat < S24576.size a := fun v801 k0_hw162 => k0_hw162
def k0_off28 (k0_t2 : Fin k0_t2_loop.trips) : Fin 2 → Nat :=
  let c1_i32_250 : BitVec 32 := 1#32
  let c1_i32_251 : BitVec 32 := 1#32
  let arg8 : BitVec 32 := Scf.iv c1_i32_250 c1_i32_251 k0_t2
  let c2_i32_261 : BitVec 32 := 2#32
  let v483 : BitVec 32 := Scalar.muli arg8 c2_i32_261
  let c0_i32_262 : BitVec 32 := 0#32
  let v484 : BitVec 32 := Scalar.addi v483 c0_i32_262
  let v802 : Index := Scalar.indexCast v484
  let c96_423 : Index := 96#32
  ![v802.toNat, 96]

def k0_chk163 (v811 : IVec S16 32) : Prop :=
  (∀ a x, ((![v811] : Fin 1 → IVec S16 32) a x).toNat < S24576.size a)
theorem k0_idx163_inb : ∀ (v811 : IVec S16 32) (k0_hw163 : k0_chk163 v811), ∀ a x, ((![v811] : Fin 1 → IVec S16 32) a x).toNat < S24576.size a := fun v811 k0_hw163 => k0_hw163

def k0_chk164 (v813 : IVec S16 32) : Prop :=
  (∀ a x, ((![v813] : Fin 1 → IVec S16 32) a x).toNat < S24576.size a)
theorem k0_idx164_inb : ∀ (v813 : IVec S16 32) (k0_hw164 : k0_chk164 v813), ∀ a x, ((![v813] : Fin 1 → IVec S16 32) a x).toNat < S24576.size a := fun v813 k0_hw164 => k0_hw164

def k0_chk165 (v815 : IVec S16 32) : Prop :=
  (∀ a x, ((![v815] : Fin 1 → IVec S16 32) a x).toNat < S24576.size a)
theorem k0_idx165_inb : ∀ (v815 : IVec S16 32) (k0_hw165 : k0_chk165 v815), ∀ a x, ((![v815] : Fin 1 → IVec S16 32) a x).toNat < S24576.size a := fun v815 k0_hw165 => k0_hw165
def k0_off29 (k0_t2 : Fin k0_t2_loop.trips) : Fin 2 → Nat :=
  let c1_i32_250 : BitVec 32 := 1#32
  let c1_i32_251 : BitVec 32 := 1#32
  let arg8 : BitVec 32 := Scf.iv c1_i32_250 c1_i32_251 k0_t2
  let c2_i32_261 : BitVec 32 := 2#32
  let v483 : BitVec 32 := Scalar.muli arg8 c2_i32_261
  let c0_i32_262 : BitVec 32 := 0#32
  let v484 : BitVec 32 := Scalar.addi v483 c0_i32_262
  let v816 : Index := Scalar.indexCast v484
  let c112_430 : Index := 112#32
  ![v816.toNat, 112]

def k0_chk166 (v825 : IVec S16 32) : Prop :=
  (∀ a x, ((![v825] : Fin 1 → IVec S16 32) a x).toNat < S24576.size a)
theorem k0_idx166_inb : ∀ (v825 : IVec S16 32) (k0_hw166 : k0_chk166 v825), ∀ a x, ((![v825] : Fin 1 → IVec S16 32) a x).toNat < S24576.size a := fun v825 k0_hw166 => k0_hw166

def k0_chk167 (v827 : IVec S16 32) : Prop :=
  (∀ a x, ((![v827] : Fin 1 → IVec S16 32) a x).toNat < S24576.size a)
theorem k0_idx167_inb : ∀ (v827 : IVec S16 32) (k0_hw167 : k0_chk167 v827), ∀ a x, ((![v827] : Fin 1 → IVec S16 32) a x).toNat < S24576.size a := fun v827 k0_hw167 => k0_hw167

def k0_chk168 (v829 : IVec S16 32) : Prop :=
  (∀ a x, ((![v829] : Fin 1 → IVec S16 32) a x).toNat < S24576.size a)
theorem k0_idx168_inb : ∀ (v829 : IVec S16 32) (k0_hw168 : k0_chk168 v829), ∀ a x, ((![v829] : Fin 1 → IVec S16 32) a x).toNat < S24576.size a := fun v829 k0_hw168 => k0_hw168
def k0_off30 (k0_t2 : Fin k0_t2_loop.trips) : Fin 2 → Nat :=
  let c1_i32_250 : BitVec 32 := 1#32
  let c1_i32_251 : BitVec 32 := 1#32
  let arg8 : BitVec 32 := Scf.iv c1_i32_250 c1_i32_251 k0_t2
  let c2_i32_261 : BitVec 32 := 2#32
  let v483 : BitVec 32 := Scalar.muli arg8 c2_i32_261
  let c0_i32_262 : BitVec 32 := 0#32
  let v484 : BitVec 32 := Scalar.addi v483 c0_i32_262
  let v830 : Index := Scalar.indexCast v484
  let c128_437 : Index := 128#32
  ![v830.toNat, 128]

def k0_chk169 (v839 : IVec S16 32) : Prop :=
  (∀ a x, ((![v839] : Fin 1 → IVec S16 32) a x).toNat < S24576.size a)
theorem k0_idx169_inb : ∀ (v839 : IVec S16 32) (k0_hw169 : k0_chk169 v839), ∀ a x, ((![v839] : Fin 1 → IVec S16 32) a x).toNat < S24576.size a := fun v839 k0_hw169 => k0_hw169

def k0_chk170 (v841 : IVec S16 32) : Prop :=
  (∀ a x, ((![v841] : Fin 1 → IVec S16 32) a x).toNat < S24576.size a)
theorem k0_idx170_inb : ∀ (v841 : IVec S16 32) (k0_hw170 : k0_chk170 v841), ∀ a x, ((![v841] : Fin 1 → IVec S16 32) a x).toNat < S24576.size a := fun v841 k0_hw170 => k0_hw170

def k0_chk171 (v843 : IVec S16 32) : Prop :=
  (∀ a x, ((![v843] : Fin 1 → IVec S16 32) a x).toNat < S24576.size a)
theorem k0_idx171_inb : ∀ (v843 : IVec S16 32) (k0_hw171 : k0_chk171 v843), ∀ a x, ((![v843] : Fin 1 → IVec S16 32) a x).toNat < S24576.size a := fun v843 k0_hw171 => k0_hw171
def k0_off31 (k0_t2 : Fin k0_t2_loop.trips) : Fin 2 → Nat :=
  let c1_i32_250 : BitVec 32 := 1#32
  let c1_i32_251 : BitVec 32 := 1#32
  let arg8 : BitVec 32 := Scf.iv c1_i32_250 c1_i32_251 k0_t2
  let c2_i32_261 : BitVec 32 := 2#32
  let v483 : BitVec 32 := Scalar.muli arg8 c2_i32_261
  let c0_i32_262 : BitVec 32 := 0#32
  let v484 : BitVec 32 := Scalar.addi v483 c0_i32_262
  let v844 : Index := Scalar.indexCast v484
  let c144_444 : Index := 144#32
  ![v844.toNat, 144]

def k0_chk172 (v853 : IVec S16 32) : Prop :=
  (∀ a x, ((![v853] : Fin 1 → IVec S16 32) a x).toNat < S24576.size a)
theorem k0_idx172_inb : ∀ (v853 : IVec S16 32) (k0_hw172 : k0_chk172 v853), ∀ a x, ((![v853] : Fin 1 → IVec S16 32) a x).toNat < S24576.size a := fun v853 k0_hw172 => k0_hw172

def k0_chk173 (v855 : IVec S16 32) : Prop :=
  (∀ a x, ((![v855] : Fin 1 → IVec S16 32) a x).toNat < S24576.size a)
theorem k0_idx173_inb : ∀ (v855 : IVec S16 32) (k0_hw173 : k0_chk173 v855), ∀ a x, ((![v855] : Fin 1 → IVec S16 32) a x).toNat < S24576.size a := fun v855 k0_hw173 => k0_hw173

def k0_chk174 (v857 : IVec S16 32) : Prop :=
  (∀ a x, ((![v857] : Fin 1 → IVec S16 32) a x).toNat < S24576.size a)
theorem k0_idx174_inb : ∀ (v857 : IVec S16 32) (k0_hw174 : k0_chk174 v857), ∀ a x, ((![v857] : Fin 1 → IVec S16 32) a x).toNat < S24576.size a := fun v857 k0_hw174 => k0_hw174
def k0_off32 (k0_t2 : Fin k0_t2_loop.trips) : Fin 2 → Nat :=
  let c1_i32_250 : BitVec 32 := 1#32
  let c1_i32_251 : BitVec 32 := 1#32
  let arg8 : BitVec 32 := Scf.iv c1_i32_250 c1_i32_251 k0_t2
  let c2_i32_261 : BitVec 32 := 2#32
  let v483 : BitVec 32 := Scalar.muli arg8 c2_i32_261
  let c0_i32_262 : BitVec 32 := 0#32
  let v484 : BitVec 32 := Scalar.addi v483 c0_i32_262
  let v858 : Index := Scalar.indexCast v484
  let c160_451 : Index := 160#32
  ![v858.toNat, 160]

def k0_chk175 (v867 : IVec S16 32) : Prop :=
  (∀ a x, ((![v867] : Fin 1 → IVec S16 32) a x).toNat < S24576.size a)
theorem k0_idx175_inb : ∀ (v867 : IVec S16 32) (k0_hw175 : k0_chk175 v867), ∀ a x, ((![v867] : Fin 1 → IVec S16 32) a x).toNat < S24576.size a := fun v867 k0_hw175 => k0_hw175

def k0_chk176 (v869 : IVec S16 32) : Prop :=
  (∀ a x, ((![v869] : Fin 1 → IVec S16 32) a x).toNat < S24576.size a)
theorem k0_idx176_inb : ∀ (v869 : IVec S16 32) (k0_hw176 : k0_chk176 v869), ∀ a x, ((![v869] : Fin 1 → IVec S16 32) a x).toNat < S24576.size a := fun v869 k0_hw176 => k0_hw176

def k0_chk177 (v871 : IVec S16 32) : Prop :=
  (∀ a x, ((![v871] : Fin 1 → IVec S16 32) a x).toNat < S24576.size a)
theorem k0_idx177_inb : ∀ (v871 : IVec S16 32) (k0_hw177 : k0_chk177 v871), ∀ a x, ((![v871] : Fin 1 → IVec S16 32) a x).toNat < S24576.size a := fun v871 k0_hw177 => k0_hw177
def k0_off33 (k0_t2 : Fin k0_t2_loop.trips) : Fin 2 → Nat :=
  let c1_i32_250 : BitVec 32 := 1#32
  let c1_i32_251 : BitVec 32 := 1#32
  let arg8 : BitVec 32 := Scf.iv c1_i32_250 c1_i32_251 k0_t2
  let c2_i32_261 : BitVec 32 := 2#32
  let v483 : BitVec 32 := Scalar.muli arg8 c2_i32_261
  let c0_i32_262 : BitVec 32 := 0#32
  let v484 : BitVec 32 := Scalar.addi v483 c0_i32_262
  let v872 : Index := Scalar.indexCast v484
  let c176_458 : Index := 176#32
  ![v872.toNat, 176]

def k0_chk178 (v881 : IVec S16 32) : Prop :=
  (∀ a x, ((![v881] : Fin 1 → IVec S16 32) a x).toNat < S24576.size a)
theorem k0_idx178_inb : ∀ (v881 : IVec S16 32) (k0_hw178 : k0_chk178 v881), ∀ a x, ((![v881] : Fin 1 → IVec S16 32) a x).toNat < S24576.size a := fun v881 k0_hw178 => k0_hw178

def k0_chk179 (v883 : IVec S16 32) : Prop :=
  (∀ a x, ((![v883] : Fin 1 → IVec S16 32) a x).toNat < S24576.size a)
theorem k0_idx179_inb : ∀ (v883 : IVec S16 32) (k0_hw179 : k0_chk179 v883), ∀ a x, ((![v883] : Fin 1 → IVec S16 32) a x).toNat < S24576.size a := fun v883 k0_hw179 => k0_hw179

def k0_chk180 (v885 : IVec S16 32) : Prop :=
  (∀ a x, ((![v885] : Fin 1 → IVec S16 32) a x).toNat < S24576.size a)
theorem k0_idx180_inb : ∀ (v885 : IVec S16 32) (k0_hw180 : k0_chk180 v885), ∀ a x, ((![v885] : Fin 1 → IVec S16 32) a x).toNat < S24576.size a := fun v885 k0_hw180 => k0_hw180
def k0_off34 (k0_t2 : Fin k0_t2_loop.trips) : Fin 2 → Nat :=
  let c1_i32_250 : BitVec 32 := 1#32
  let c1_i32_251 : BitVec 32 := 1#32
  let arg8 : BitVec 32 := Scf.iv c1_i32_250 c1_i32_251 k0_t2
  let c2_i32_261 : BitVec 32 := 2#32
  let v483 : BitVec 32 := Scalar.muli arg8 c2_i32_261
  let c0_i32_262 : BitVec 32 := 0#32
  let v484 : BitVec 32 := Scalar.addi v483 c0_i32_262
  let v886 : Index := Scalar.indexCast v484
  let c192_465 : Index := 192#32
  ![v886.toNat, 192]

def k0_chk181 (v895 : IVec S16 32) : Prop :=
  (∀ a x, ((![v895] : Fin 1 → IVec S16 32) a x).toNat < S24576.size a)
theorem k0_idx181_inb : ∀ (v895 : IVec S16 32) (k0_hw181 : k0_chk181 v895), ∀ a x, ((![v895] : Fin 1 → IVec S16 32) a x).toNat < S24576.size a := fun v895 k0_hw181 => k0_hw181

def k0_chk182 (v897 : IVec S16 32) : Prop :=
  (∀ a x, ((![v897] : Fin 1 → IVec S16 32) a x).toNat < S24576.size a)
theorem k0_idx182_inb : ∀ (v897 : IVec S16 32) (k0_hw182 : k0_chk182 v897), ∀ a x, ((![v897] : Fin 1 → IVec S16 32) a x).toNat < S24576.size a := fun v897 k0_hw182 => k0_hw182

def k0_chk183 (v899 : IVec S16 32) : Prop :=
  (∀ a x, ((![v899] : Fin 1 → IVec S16 32) a x).toNat < S24576.size a)
theorem k0_idx183_inb : ∀ (v899 : IVec S16 32) (k0_hw183 : k0_chk183 v899), ∀ a x, ((![v899] : Fin 1 → IVec S16 32) a x).toNat < S24576.size a := fun v899 k0_hw183 => k0_hw183
def k0_off35 (k0_t2 : Fin k0_t2_loop.trips) : Fin 2 → Nat :=
  let c1_i32_250 : BitVec 32 := 1#32
  let c1_i32_251 : BitVec 32 := 1#32
  let arg8 : BitVec 32 := Scf.iv c1_i32_250 c1_i32_251 k0_t2
  let c2_i32_261 : BitVec 32 := 2#32
  let v483 : BitVec 32 := Scalar.muli arg8 c2_i32_261
  let c0_i32_262 : BitVec 32 := 0#32
  let v484 : BitVec 32 := Scalar.addi v483 c0_i32_262
  let v900 : Index := Scalar.indexCast v484
  let c208_472 : Index := 208#32
  ![v900.toNat, 208]

def k0_chk184 (v909 : IVec S16 32) : Prop :=
  (∀ a x, ((![v909] : Fin 1 → IVec S16 32) a x).toNat < S24576.size a)
theorem k0_idx184_inb : ∀ (v909 : IVec S16 32) (k0_hw184 : k0_chk184 v909), ∀ a x, ((![v909] : Fin 1 → IVec S16 32) a x).toNat < S24576.size a := fun v909 k0_hw184 => k0_hw184

def k0_chk185 (v911 : IVec S16 32) : Prop :=
  (∀ a x, ((![v911] : Fin 1 → IVec S16 32) a x).toNat < S24576.size a)
theorem k0_idx185_inb : ∀ (v911 : IVec S16 32) (k0_hw185 : k0_chk185 v911), ∀ a x, ((![v911] : Fin 1 → IVec S16 32) a x).toNat < S24576.size a := fun v911 k0_hw185 => k0_hw185

def k0_chk186 (v913 : IVec S16 32) : Prop :=
  (∀ a x, ((![v913] : Fin 1 → IVec S16 32) a x).toNat < S24576.size a)
theorem k0_idx186_inb : ∀ (v913 : IVec S16 32) (k0_hw186 : k0_chk186 v913), ∀ a x, ((![v913] : Fin 1 → IVec S16 32) a x).toNat < S24576.size a := fun v913 k0_hw186 => k0_hw186
def k0_off36 (k0_t2 : Fin k0_t2_loop.trips) : Fin 2 → Nat :=
  let c1_i32_250 : BitVec 32 := 1#32
  let c1_i32_251 : BitVec 32 := 1#32
  let arg8 : BitVec 32 := Scf.iv c1_i32_250 c1_i32_251 k0_t2
  let c2_i32_261 : BitVec 32 := 2#32
  let v483 : BitVec 32 := Scalar.muli arg8 c2_i32_261
  let c0_i32_262 : BitVec 32 := 0#32
  let v484 : BitVec 32 := Scalar.addi v483 c0_i32_262
  let v914 : Index := Scalar.indexCast v484
  let c224_479 : Index := 224#32
  ![v914.toNat, 224]

def k0_chk187 (v923 : IVec S16 32) : Prop :=
  (∀ a x, ((![v923] : Fin 1 → IVec S16 32) a x).toNat < S24576.size a)
theorem k0_idx187_inb : ∀ (v923 : IVec S16 32) (k0_hw187 : k0_chk187 v923), ∀ a x, ((![v923] : Fin 1 → IVec S16 32) a x).toNat < S24576.size a := fun v923 k0_hw187 => k0_hw187

def k0_chk188 (v925 : IVec S16 32) : Prop :=
  (∀ a x, ((![v925] : Fin 1 → IVec S16 32) a x).toNat < S24576.size a)
theorem k0_idx188_inb : ∀ (v925 : IVec S16 32) (k0_hw188 : k0_chk188 v925), ∀ a x, ((![v925] : Fin 1 → IVec S16 32) a x).toNat < S24576.size a := fun v925 k0_hw188 => k0_hw188

def k0_chk189 (v927 : IVec S16 32) : Prop :=
  (∀ a x, ((![v927] : Fin 1 → IVec S16 32) a x).toNat < S24576.size a)
theorem k0_idx189_inb : ∀ (v927 : IVec S16 32) (k0_hw189 : k0_chk189 v927), ∀ a x, ((![v927] : Fin 1 → IVec S16 32) a x).toNat < S24576.size a := fun v927 k0_hw189 => k0_hw189
def k0_off37 (k0_t2 : Fin k0_t2_loop.trips) : Fin 2 → Nat :=
  let c1_i32_250 : BitVec 32 := 1#32
  let c1_i32_251 : BitVec 32 := 1#32
  let arg8 : BitVec 32 := Scf.iv c1_i32_250 c1_i32_251 k0_t2
  let c2_i32_261 : BitVec 32 := 2#32
  let v483 : BitVec 32 := Scalar.muli arg8 c2_i32_261
  let c0_i32_262 : BitVec 32 := 0#32
  let v484 : BitVec 32 := Scalar.addi v483 c0_i32_262
  let v928 : Index := Scalar.indexCast v484
  let c240_486 : Index := 240#32
  ![v928.toNat, 240]

def k0_chk190 (v937 : IVec S16 32) : Prop :=
  (∀ a x, ((![v937] : Fin 1 → IVec S16 32) a x).toNat < S24576.size a)
theorem k0_idx190_inb : ∀ (v937 : IVec S16 32) (k0_hw190 : k0_chk190 v937), ∀ a x, ((![v937] : Fin 1 → IVec S16 32) a x).toNat < S24576.size a := fun v937 k0_hw190 => k0_hw190

def k0_chk191 (v939 : IVec S16 32) : Prop :=
  (∀ a x, ((![v939] : Fin 1 → IVec S16 32) a x).toNat < S24576.size a)
theorem k0_idx191_inb : ∀ (v939 : IVec S16 32) (k0_hw191 : k0_chk191 v939), ∀ a x, ((![v939] : Fin 1 → IVec S16 32) a x).toNat < S24576.size a := fun v939 k0_hw191 => k0_hw191

def k0_chk192 (v941 : IVec S16 32) : Prop :=
  (∀ a x, ((![v941] : Fin 1 → IVec S16 32) a x).toNat < S24576.size a)
theorem k0_idx192_inb : ∀ (v941 : IVec S16 32) (k0_hw192 : k0_chk192 v941), ∀ a x, ((![v941] : Fin 1 → IVec S16 32) a x).toNat < S24576.size a := fun v941 k0_hw192 => k0_hw192
def k0_off38 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c1_i32_250 : BitVec 32 := 1#32
  let c1_i32_251 : BitVec 32 := 1#32
  let arg8 : BitVec 32 := Scf.iv c1_i32_250 c1_i32_251 k0_t2
  let c2_i32_261 : BitVec 32 := 2#32
  let v483 : BitVec 32 := Scalar.muli arg8 c2_i32_261
  let c0_i32_262 : BitVec 32 := 0#32
  let v484 : BitVec 32 := Scalar.addi v483 c0_i32_262
  let v942 : BitVec 32 := Scalar.addi v2 v484
  let c0_i32_494 : BitVec 32 := 0#32
  ![v942.toNat, 0]
def k0_off39 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c1_i32_250 : BitVec 32 := 1#32
  let c1_i32_251 : BitVec 32 := 1#32
  let arg8 : BitVec 32 := Scf.iv c1_i32_250 c1_i32_251 k0_t2
  let c2_i32_497 : BitVec 32 := 2#32
  let v949 : BitVec 32 := Scalar.muli arg8 c2_i32_497
  let c1_i32_498 : BitVec 32 := 1#32
  let v950 : BitVec 32 := Scalar.addi v949 c1_i32_498
  let c2_i32_499 : BitVec 32 := 2#32
  let v951 : BitVec 32 := Scalar.subi v950 c2_i32_499
  let v952 : BitVec 32 := Scalar.addi v2 v951
  let c0_i32_501 : BitVec 32 := 0#32
  ![v952.toNat, 0]
def k0_off40 (k0_t2 : Fin k0_t2_loop.trips) : Fin 2 → Nat :=
  let c1_i32_250 : BitVec 32 := 1#32
  let c1_i32_251 : BitVec 32 := 1#32
  let arg8 : BitVec 32 := Scf.iv c1_i32_250 c1_i32_251 k0_t2
  let c2_i32_497 : BitVec 32 := 2#32
  let v949 : BitVec 32 := Scalar.muli arg8 c2_i32_497
  let c1_i32_498 : BitVec 32 := 1#32
  let v950 : BitVec 32 := Scalar.addi v949 c1_i32_498
  let c2_i32_504 : BitVec 32 := 2#32
  let v959 : BitVec 32 := Scalar.subi v950 c2_i32_504
  let v960 : Index := Scalar.indexCast v959
  let c0_505 : Index := 0#32
  ![v960.toNat, 0]

def k0_chk193 (v969 : IVec S16 32) : Prop :=
  (∀ a x, ((![v969] : Fin 1 → IVec S16 32) a x).toNat < S24576.size a)
theorem k0_idx193_inb : ∀ (v969 : IVec S16 32) (k0_hw193 : k0_chk193 v969), ∀ a x, ((![v969] : Fin 1 → IVec S16 32) a x).toNat < S24576.size a := fun v969 k0_hw193 => k0_hw193

def k0_chk194 (v971 : IVec S16 32) : Prop :=
  (∀ a x, ((![v971] : Fin 1 → IVec S16 32) a x).toNat < S24576.size a)
theorem k0_idx194_inb : ∀ (v971 : IVec S16 32) (k0_hw194 : k0_chk194 v971), ∀ a x, ((![v971] : Fin 1 → IVec S16 32) a x).toNat < S24576.size a := fun v971 k0_hw194 => k0_hw194

def k0_chk195 (v973 : IVec S16 32) : Prop :=
  (∀ a x, ((![v973] : Fin 1 → IVec S16 32) a x).toNat < S24576.size a)
theorem k0_idx195_inb : ∀ (v973 : IVec S16 32) (k0_hw195 : k0_chk195 v973), ∀ a x, ((![v973] : Fin 1 → IVec S16 32) a x).toNat < S24576.size a := fun v973 k0_hw195 => k0_hw195
def k0_off41 (k0_t2 : Fin k0_t2_loop.trips) : Fin 2 → Nat :=
  let c1_i32_250 : BitVec 32 := 1#32
  let c1_i32_251 : BitVec 32 := 1#32
  let arg8 : BitVec 32 := Scf.iv c1_i32_250 c1_i32_251 k0_t2
  let c2_i32_497 : BitVec 32 := 2#32
  let v949 : BitVec 32 := Scalar.muli arg8 c2_i32_497
  let c1_i32_498 : BitVec 32 := 1#32
  let v950 : BitVec 32 := Scalar.addi v949 c1_i32_498
  let c2_i32_504 : BitVec 32 := 2#32
  let v959 : BitVec 32 := Scalar.subi v950 c2_i32_504
  let v974 : Index := Scalar.indexCast v959
  let c16_512 : Index := 16#32
  ![v974.toNat, 16]

def k0_chk196 (v983 : IVec S16 32) : Prop :=
  (∀ a x, ((![v983] : Fin 1 → IVec S16 32) a x).toNat < S24576.size a)
theorem k0_idx196_inb : ∀ (v983 : IVec S16 32) (k0_hw196 : k0_chk196 v983), ∀ a x, ((![v983] : Fin 1 → IVec S16 32) a x).toNat < S24576.size a := fun v983 k0_hw196 => k0_hw196

def k0_chk197 (v985 : IVec S16 32) : Prop :=
  (∀ a x, ((![v985] : Fin 1 → IVec S16 32) a x).toNat < S24576.size a)
theorem k0_idx197_inb : ∀ (v985 : IVec S16 32) (k0_hw197 : k0_chk197 v985), ∀ a x, ((![v985] : Fin 1 → IVec S16 32) a x).toNat < S24576.size a := fun v985 k0_hw197 => k0_hw197

def k0_chk198 (v987 : IVec S16 32) : Prop :=
  (∀ a x, ((![v987] : Fin 1 → IVec S16 32) a x).toNat < S24576.size a)
theorem k0_idx198_inb : ∀ (v987 : IVec S16 32) (k0_hw198 : k0_chk198 v987), ∀ a x, ((![v987] : Fin 1 → IVec S16 32) a x).toNat < S24576.size a := fun v987 k0_hw198 => k0_hw198
def k0_off42 (k0_t2 : Fin k0_t2_loop.trips) : Fin 2 → Nat :=
  let c1_i32_250 : BitVec 32 := 1#32
  let c1_i32_251 : BitVec 32 := 1#32
  let arg8 : BitVec 32 := Scf.iv c1_i32_250 c1_i32_251 k0_t2
  let c2_i32_497 : BitVec 32 := 2#32
  let v949 : BitVec 32 := Scalar.muli arg8 c2_i32_497
  let c1_i32_498 : BitVec 32 := 1#32
  let v950 : BitVec 32 := Scalar.addi v949 c1_i32_498
  let c2_i32_504 : BitVec 32 := 2#32
  let v959 : BitVec 32 := Scalar.subi v950 c2_i32_504
  let v988 : Index := Scalar.indexCast v959
  let c32_519 : Index := 32#32
  ![v988.toNat, 32]

def k0_chk199 (v997 : IVec S16 32) : Prop :=
  (∀ a x, ((![v997] : Fin 1 → IVec S16 32) a x).toNat < S24576.size a)
theorem k0_idx199_inb : ∀ (v997 : IVec S16 32) (k0_hw199 : k0_chk199 v997), ∀ a x, ((![v997] : Fin 1 → IVec S16 32) a x).toNat < S24576.size a := fun v997 k0_hw199 => k0_hw199

def k0_chk200 (v999 : IVec S16 32) : Prop :=
  (∀ a x, ((![v999] : Fin 1 → IVec S16 32) a x).toNat < S24576.size a)
theorem k0_idx200_inb : ∀ (v999 : IVec S16 32) (k0_hw200 : k0_chk200 v999), ∀ a x, ((![v999] : Fin 1 → IVec S16 32) a x).toNat < S24576.size a := fun v999 k0_hw200 => k0_hw200

def k0_chk201 (v1001 : IVec S16 32) : Prop :=
  (∀ a x, ((![v1001] : Fin 1 → IVec S16 32) a x).toNat < S24576.size a)
theorem k0_idx201_inb : ∀ (v1001 : IVec S16 32) (k0_hw201 : k0_chk201 v1001), ∀ a x, ((![v1001] : Fin 1 → IVec S16 32) a x).toNat < S24576.size a := fun v1001 k0_hw201 => k0_hw201
def k0_off43 (k0_t2 : Fin k0_t2_loop.trips) : Fin 2 → Nat :=
  let c1_i32_250 : BitVec 32 := 1#32
  let c1_i32_251 : BitVec 32 := 1#32
  let arg8 : BitVec 32 := Scf.iv c1_i32_250 c1_i32_251 k0_t2
  let c2_i32_497 : BitVec 32 := 2#32
  let v949 : BitVec 32 := Scalar.muli arg8 c2_i32_497
  let c1_i32_498 : BitVec 32 := 1#32
  let v950 : BitVec 32 := Scalar.addi v949 c1_i32_498
  let c2_i32_504 : BitVec 32 := 2#32
  let v959 : BitVec 32 := Scalar.subi v950 c2_i32_504
  let v1002 : Index := Scalar.indexCast v959
  let c48_526 : Index := 48#32
  ![v1002.toNat, 48]

def k0_chk202 (v1011 : IVec S16 32) : Prop :=
  (∀ a x, ((![v1011] : Fin 1 → IVec S16 32) a x).toNat < S24576.size a)
theorem k0_idx202_inb : ∀ (v1011 : IVec S16 32) (k0_hw202 : k0_chk202 v1011), ∀ a x, ((![v1011] : Fin 1 → IVec S16 32) a x).toNat < S24576.size a := fun v1011 k0_hw202 => k0_hw202

def k0_chk203 (v1013 : IVec S16 32) : Prop :=
  (∀ a x, ((![v1013] : Fin 1 → IVec S16 32) a x).toNat < S24576.size a)
theorem k0_idx203_inb : ∀ (v1013 : IVec S16 32) (k0_hw203 : k0_chk203 v1013), ∀ a x, ((![v1013] : Fin 1 → IVec S16 32) a x).toNat < S24576.size a := fun v1013 k0_hw203 => k0_hw203

def k0_chk204 (v1015 : IVec S16 32) : Prop :=
  (∀ a x, ((![v1015] : Fin 1 → IVec S16 32) a x).toNat < S24576.size a)
theorem k0_idx204_inb : ∀ (v1015 : IVec S16 32) (k0_hw204 : k0_chk204 v1015), ∀ a x, ((![v1015] : Fin 1 → IVec S16 32) a x).toNat < S24576.size a := fun v1015 k0_hw204 => k0_hw204
def k0_off44 (k0_t2 : Fin k0_t2_loop.trips) : Fin 2 → Nat :=
  let c1_i32_250 : BitVec 32 := 1#32
  let c1_i32_251 : BitVec 32 := 1#32
  let arg8 : BitVec 32 := Scf.iv c1_i32_250 c1_i32_251 k0_t2
  let c2_i32_497 : BitVec 32 := 2#32
  let v949 : BitVec 32 := Scalar.muli arg8 c2_i32_497
  let c1_i32_498 : BitVec 32 := 1#32
  let v950 : BitVec 32 := Scalar.addi v949 c1_i32_498
  let c2_i32_504 : BitVec 32 := 2#32
  let v959 : BitVec 32 := Scalar.subi v950 c2_i32_504
  let v1016 : Index := Scalar.indexCast v959
  let c64_533 : Index := 64#32
  ![v1016.toNat, 64]

def k0_chk205 (v1025 : IVec S16 32) : Prop :=
  (∀ a x, ((![v1025] : Fin 1 → IVec S16 32) a x).toNat < S24576.size a)
theorem k0_idx205_inb : ∀ (v1025 : IVec S16 32) (k0_hw205 : k0_chk205 v1025), ∀ a x, ((![v1025] : Fin 1 → IVec S16 32) a x).toNat < S24576.size a := fun v1025 k0_hw205 => k0_hw205

def k0_chk206 (v1027 : IVec S16 32) : Prop :=
  (∀ a x, ((![v1027] : Fin 1 → IVec S16 32) a x).toNat < S24576.size a)
theorem k0_idx206_inb : ∀ (v1027 : IVec S16 32) (k0_hw206 : k0_chk206 v1027), ∀ a x, ((![v1027] : Fin 1 → IVec S16 32) a x).toNat < S24576.size a := fun v1027 k0_hw206 => k0_hw206

def k0_chk207 (v1029 : IVec S16 32) : Prop :=
  (∀ a x, ((![v1029] : Fin 1 → IVec S16 32) a x).toNat < S24576.size a)
theorem k0_idx207_inb : ∀ (v1029 : IVec S16 32) (k0_hw207 : k0_chk207 v1029), ∀ a x, ((![v1029] : Fin 1 → IVec S16 32) a x).toNat < S24576.size a := fun v1029 k0_hw207 => k0_hw207
def k0_off45 (k0_t2 : Fin k0_t2_loop.trips) : Fin 2 → Nat :=
  let c1_i32_250 : BitVec 32 := 1#32
  let c1_i32_251 : BitVec 32 := 1#32
  let arg8 : BitVec 32 := Scf.iv c1_i32_250 c1_i32_251 k0_t2
  let c2_i32_497 : BitVec 32 := 2#32
  let v949 : BitVec 32 := Scalar.muli arg8 c2_i32_497
  let c1_i32_498 : BitVec 32 := 1#32
  let v950 : BitVec 32 := Scalar.addi v949 c1_i32_498
  let c2_i32_504 : BitVec 32 := 2#32
  let v959 : BitVec 32 := Scalar.subi v950 c2_i32_504
  let v1030 : Index := Scalar.indexCast v959
  let c80_540 : Index := 80#32
  ![v1030.toNat, 80]

def k0_chk208 (v1039 : IVec S16 32) : Prop :=
  (∀ a x, ((![v1039] : Fin 1 → IVec S16 32) a x).toNat < S24576.size a)
theorem k0_idx208_inb : ∀ (v1039 : IVec S16 32) (k0_hw208 : k0_chk208 v1039), ∀ a x, ((![v1039] : Fin 1 → IVec S16 32) a x).toNat < S24576.size a := fun v1039 k0_hw208 => k0_hw208

def k0_chk209 (v1041 : IVec S16 32) : Prop :=
  (∀ a x, ((![v1041] : Fin 1 → IVec S16 32) a x).toNat < S24576.size a)
theorem k0_idx209_inb : ∀ (v1041 : IVec S16 32) (k0_hw209 : k0_chk209 v1041), ∀ a x, ((![v1041] : Fin 1 → IVec S16 32) a x).toNat < S24576.size a := fun v1041 k0_hw209 => k0_hw209

def k0_chk210 (v1043 : IVec S16 32) : Prop :=
  (∀ a x, ((![v1043] : Fin 1 → IVec S16 32) a x).toNat < S24576.size a)
theorem k0_idx210_inb : ∀ (v1043 : IVec S16 32) (k0_hw210 : k0_chk210 v1043), ∀ a x, ((![v1043] : Fin 1 → IVec S16 32) a x).toNat < S24576.size a := fun v1043 k0_hw210 => k0_hw210
def k0_off46 (k0_t2 : Fin k0_t2_loop.trips) : Fin 2 → Nat :=
  let c1_i32_250 : BitVec 32 := 1#32
  let c1_i32_251 : BitVec 32 := 1#32
  let arg8 : BitVec 32 := Scf.iv c1_i32_250 c1_i32_251 k0_t2
  let c2_i32_497 : BitVec 32 := 2#32
  let v949 : BitVec 32 := Scalar.muli arg8 c2_i32_497
  let c1_i32_498 : BitVec 32 := 1#32
  let v950 : BitVec 32 := Scalar.addi v949 c1_i32_498
  let c2_i32_504 : BitVec 32 := 2#32
  let v959 : BitVec 32 := Scalar.subi v950 c2_i32_504
  let v1044 : Index := Scalar.indexCast v959
  let c96_547 : Index := 96#32
  ![v1044.toNat, 96]

def k0_chk211 (v1053 : IVec S16 32) : Prop :=
  (∀ a x, ((![v1053] : Fin 1 → IVec S16 32) a x).toNat < S24576.size a)
theorem k0_idx211_inb : ∀ (v1053 : IVec S16 32) (k0_hw211 : k0_chk211 v1053), ∀ a x, ((![v1053] : Fin 1 → IVec S16 32) a x).toNat < S24576.size a := fun v1053 k0_hw211 => k0_hw211

def k0_chk212 (v1055 : IVec S16 32) : Prop :=
  (∀ a x, ((![v1055] : Fin 1 → IVec S16 32) a x).toNat < S24576.size a)
theorem k0_idx212_inb : ∀ (v1055 : IVec S16 32) (k0_hw212 : k0_chk212 v1055), ∀ a x, ((![v1055] : Fin 1 → IVec S16 32) a x).toNat < S24576.size a := fun v1055 k0_hw212 => k0_hw212

def k0_chk213 (v1057 : IVec S16 32) : Prop :=
  (∀ a x, ((![v1057] : Fin 1 → IVec S16 32) a x).toNat < S24576.size a)
theorem k0_idx213_inb : ∀ (v1057 : IVec S16 32) (k0_hw213 : k0_chk213 v1057), ∀ a x, ((![v1057] : Fin 1 → IVec S16 32) a x).toNat < S24576.size a := fun v1057 k0_hw213 => k0_hw213
def k0_off47 (k0_t2 : Fin k0_t2_loop.trips) : Fin 2 → Nat :=
  let c1_i32_250 : BitVec 32 := 1#32
  let c1_i32_251 : BitVec 32 := 1#32
  let arg8 : BitVec 32 := Scf.iv c1_i32_250 c1_i32_251 k0_t2
  let c2_i32_497 : BitVec 32 := 2#32
  let v949 : BitVec 32 := Scalar.muli arg8 c2_i32_497
  let c1_i32_498 : BitVec 32 := 1#32
  let v950 : BitVec 32 := Scalar.addi v949 c1_i32_498
  let c2_i32_504 : BitVec 32 := 2#32
  let v959 : BitVec 32 := Scalar.subi v950 c2_i32_504
  let v1058 : Index := Scalar.indexCast v959
  let c112_554 : Index := 112#32
  ![v1058.toNat, 112]

def k0_chk214 (v1067 : IVec S16 32) : Prop :=
  (∀ a x, ((![v1067] : Fin 1 → IVec S16 32) a x).toNat < S24576.size a)
theorem k0_idx214_inb : ∀ (v1067 : IVec S16 32) (k0_hw214 : k0_chk214 v1067), ∀ a x, ((![v1067] : Fin 1 → IVec S16 32) a x).toNat < S24576.size a := fun v1067 k0_hw214 => k0_hw214

def k0_chk215 (v1069 : IVec S16 32) : Prop :=
  (∀ a x, ((![v1069] : Fin 1 → IVec S16 32) a x).toNat < S24576.size a)
theorem k0_idx215_inb : ∀ (v1069 : IVec S16 32) (k0_hw215 : k0_chk215 v1069), ∀ a x, ((![v1069] : Fin 1 → IVec S16 32) a x).toNat < S24576.size a := fun v1069 k0_hw215 => k0_hw215

def k0_chk216 (v1071 : IVec S16 32) : Prop :=
  (∀ a x, ((![v1071] : Fin 1 → IVec S16 32) a x).toNat < S24576.size a)
theorem k0_idx216_inb : ∀ (v1071 : IVec S16 32) (k0_hw216 : k0_chk216 v1071), ∀ a x, ((![v1071] : Fin 1 → IVec S16 32) a x).toNat < S24576.size a := fun v1071 k0_hw216 => k0_hw216
def k0_off48 (k0_t2 : Fin k0_t2_loop.trips) : Fin 2 → Nat :=
  let c1_i32_250 : BitVec 32 := 1#32
  let c1_i32_251 : BitVec 32 := 1#32
  let arg8 : BitVec 32 := Scf.iv c1_i32_250 c1_i32_251 k0_t2
  let c2_i32_497 : BitVec 32 := 2#32
  let v949 : BitVec 32 := Scalar.muli arg8 c2_i32_497
  let c1_i32_498 : BitVec 32 := 1#32
  let v950 : BitVec 32 := Scalar.addi v949 c1_i32_498
  let c2_i32_504 : BitVec 32 := 2#32
  let v959 : BitVec 32 := Scalar.subi v950 c2_i32_504
  let v1072 : Index := Scalar.indexCast v959
  let c128_561 : Index := 128#32
  ![v1072.toNat, 128]

def k0_chk217 (v1081 : IVec S16 32) : Prop :=
  (∀ a x, ((![v1081] : Fin 1 → IVec S16 32) a x).toNat < S24576.size a)
theorem k0_idx217_inb : ∀ (v1081 : IVec S16 32) (k0_hw217 : k0_chk217 v1081), ∀ a x, ((![v1081] : Fin 1 → IVec S16 32) a x).toNat < S24576.size a := fun v1081 k0_hw217 => k0_hw217

def k0_chk218 (v1083 : IVec S16 32) : Prop :=
  (∀ a x, ((![v1083] : Fin 1 → IVec S16 32) a x).toNat < S24576.size a)
theorem k0_idx218_inb : ∀ (v1083 : IVec S16 32) (k0_hw218 : k0_chk218 v1083), ∀ a x, ((![v1083] : Fin 1 → IVec S16 32) a x).toNat < S24576.size a := fun v1083 k0_hw218 => k0_hw218

def k0_chk219 (v1085 : IVec S16 32) : Prop :=
  (∀ a x, ((![v1085] : Fin 1 → IVec S16 32) a x).toNat < S24576.size a)
theorem k0_idx219_inb : ∀ (v1085 : IVec S16 32) (k0_hw219 : k0_chk219 v1085), ∀ a x, ((![v1085] : Fin 1 → IVec S16 32) a x).toNat < S24576.size a := fun v1085 k0_hw219 => k0_hw219
def k0_off49 (k0_t2 : Fin k0_t2_loop.trips) : Fin 2 → Nat :=
  let c1_i32_250 : BitVec 32 := 1#32
  let c1_i32_251 : BitVec 32 := 1#32
  let arg8 : BitVec 32 := Scf.iv c1_i32_250 c1_i32_251 k0_t2
  let c2_i32_497 : BitVec 32 := 2#32
  let v949 : BitVec 32 := Scalar.muli arg8 c2_i32_497
  let c1_i32_498 : BitVec 32 := 1#32
  let v950 : BitVec 32 := Scalar.addi v949 c1_i32_498
  let c2_i32_504 : BitVec 32 := 2#32
  let v959 : BitVec 32 := Scalar.subi v950 c2_i32_504
  let v1086 : Index := Scalar.indexCast v959
  let c144_568 : Index := 144#32
  ![v1086.toNat, 144]

def k0_chk220 (v1095 : IVec S16 32) : Prop :=
  (∀ a x, ((![v1095] : Fin 1 → IVec S16 32) a x).toNat < S24576.size a)
theorem k0_idx220_inb : ∀ (v1095 : IVec S16 32) (k0_hw220 : k0_chk220 v1095), ∀ a x, ((![v1095] : Fin 1 → IVec S16 32) a x).toNat < S24576.size a := fun v1095 k0_hw220 => k0_hw220

def k0_chk221 (v1097 : IVec S16 32) : Prop :=
  (∀ a x, ((![v1097] : Fin 1 → IVec S16 32) a x).toNat < S24576.size a)
theorem k0_idx221_inb : ∀ (v1097 : IVec S16 32) (k0_hw221 : k0_chk221 v1097), ∀ a x, ((![v1097] : Fin 1 → IVec S16 32) a x).toNat < S24576.size a := fun v1097 k0_hw221 => k0_hw221

def k0_chk222 (v1099 : IVec S16 32) : Prop :=
  (∀ a x, ((![v1099] : Fin 1 → IVec S16 32) a x).toNat < S24576.size a)
theorem k0_idx222_inb : ∀ (v1099 : IVec S16 32) (k0_hw222 : k0_chk222 v1099), ∀ a x, ((![v1099] : Fin 1 → IVec S16 32) a x).toNat < S24576.size a := fun v1099 k0_hw222 => k0_hw222
def k0_off50 (k0_t2 : Fin k0_t2_loop.trips) : Fin 2 → Nat :=
  let c1_i32_250 : BitVec 32 := 1#32
  let c1_i32_251 : BitVec 32 := 1#32
  let arg8 : BitVec 32 := Scf.iv c1_i32_250 c1_i32_251 k0_t2
  let c2_i32_497 : BitVec 32 := 2#32
  let v949 : BitVec 32 := Scalar.muli arg8 c2_i32_497
  let c1_i32_498 : BitVec 32 := 1#32
  let v950 : BitVec 32 := Scalar.addi v949 c1_i32_498
  let c2_i32_504 : BitVec 32 := 2#32
  let v959 : BitVec 32 := Scalar.subi v950 c2_i32_504
  let v1100 : Index := Scalar.indexCast v959
  let c160_575 : Index := 160#32
  ![v1100.toNat, 160]

def k0_chk223 (v1109 : IVec S16 32) : Prop :=
  (∀ a x, ((![v1109] : Fin 1 → IVec S16 32) a x).toNat < S24576.size a)
theorem k0_idx223_inb : ∀ (v1109 : IVec S16 32) (k0_hw223 : k0_chk223 v1109), ∀ a x, ((![v1109] : Fin 1 → IVec S16 32) a x).toNat < S24576.size a := fun v1109 k0_hw223 => k0_hw223

def k0_chk224 (v1111 : IVec S16 32) : Prop :=
  (∀ a x, ((![v1111] : Fin 1 → IVec S16 32) a x).toNat < S24576.size a)
theorem k0_idx224_inb : ∀ (v1111 : IVec S16 32) (k0_hw224 : k0_chk224 v1111), ∀ a x, ((![v1111] : Fin 1 → IVec S16 32) a x).toNat < S24576.size a := fun v1111 k0_hw224 => k0_hw224

def k0_chk225 (v1113 : IVec S16 32) : Prop :=
  (∀ a x, ((![v1113] : Fin 1 → IVec S16 32) a x).toNat < S24576.size a)
theorem k0_idx225_inb : ∀ (v1113 : IVec S16 32) (k0_hw225 : k0_chk225 v1113), ∀ a x, ((![v1113] : Fin 1 → IVec S16 32) a x).toNat < S24576.size a := fun v1113 k0_hw225 => k0_hw225
def k0_off51 (k0_t2 : Fin k0_t2_loop.trips) : Fin 2 → Nat :=
  let c1_i32_250 : BitVec 32 := 1#32
  let c1_i32_251 : BitVec 32 := 1#32
  let arg8 : BitVec 32 := Scf.iv c1_i32_250 c1_i32_251 k0_t2
  let c2_i32_497 : BitVec 32 := 2#32
  let v949 : BitVec 32 := Scalar.muli arg8 c2_i32_497
  let c1_i32_498 : BitVec 32 := 1#32
  let v950 : BitVec 32 := Scalar.addi v949 c1_i32_498
  let c2_i32_504 : BitVec 32 := 2#32
  let v959 : BitVec 32 := Scalar.subi v950 c2_i32_504
  let v1114 : Index := Scalar.indexCast v959
  let c176_582 : Index := 176#32
  ![v1114.toNat, 176]

def k0_chk226 (v1123 : IVec S16 32) : Prop :=
  (∀ a x, ((![v1123] : Fin 1 → IVec S16 32) a x).toNat < S24576.size a)
theorem k0_idx226_inb : ∀ (v1123 : IVec S16 32) (k0_hw226 : k0_chk226 v1123), ∀ a x, ((![v1123] : Fin 1 → IVec S16 32) a x).toNat < S24576.size a := fun v1123 k0_hw226 => k0_hw226

def k0_chk227 (v1125 : IVec S16 32) : Prop :=
  (∀ a x, ((![v1125] : Fin 1 → IVec S16 32) a x).toNat < S24576.size a)
theorem k0_idx227_inb : ∀ (v1125 : IVec S16 32) (k0_hw227 : k0_chk227 v1125), ∀ a x, ((![v1125] : Fin 1 → IVec S16 32) a x).toNat < S24576.size a := fun v1125 k0_hw227 => k0_hw227

def k0_chk228 (v1127 : IVec S16 32) : Prop :=
  (∀ a x, ((![v1127] : Fin 1 → IVec S16 32) a x).toNat < S24576.size a)
theorem k0_idx228_inb : ∀ (v1127 : IVec S16 32) (k0_hw228 : k0_chk228 v1127), ∀ a x, ((![v1127] : Fin 1 → IVec S16 32) a x).toNat < S24576.size a := fun v1127 k0_hw228 => k0_hw228
def k0_off52 (k0_t2 : Fin k0_t2_loop.trips) : Fin 2 → Nat :=
  let c1_i32_250 : BitVec 32 := 1#32
  let c1_i32_251 : BitVec 32 := 1#32
  let arg8 : BitVec 32 := Scf.iv c1_i32_250 c1_i32_251 k0_t2
  let c2_i32_497 : BitVec 32 := 2#32
  let v949 : BitVec 32 := Scalar.muli arg8 c2_i32_497
  let c1_i32_498 : BitVec 32 := 1#32
  let v950 : BitVec 32 := Scalar.addi v949 c1_i32_498
  let c2_i32_504 : BitVec 32 := 2#32
  let v959 : BitVec 32 := Scalar.subi v950 c2_i32_504
  let v1128 : Index := Scalar.indexCast v959
  let c192_589 : Index := 192#32
  ![v1128.toNat, 192]

def k0_chk229 (v1137 : IVec S16 32) : Prop :=
  (∀ a x, ((![v1137] : Fin 1 → IVec S16 32) a x).toNat < S24576.size a)
theorem k0_idx229_inb : ∀ (v1137 : IVec S16 32) (k0_hw229 : k0_chk229 v1137), ∀ a x, ((![v1137] : Fin 1 → IVec S16 32) a x).toNat < S24576.size a := fun v1137 k0_hw229 => k0_hw229

def k0_chk230 (v1139 : IVec S16 32) : Prop :=
  (∀ a x, ((![v1139] : Fin 1 → IVec S16 32) a x).toNat < S24576.size a)
theorem k0_idx230_inb : ∀ (v1139 : IVec S16 32) (k0_hw230 : k0_chk230 v1139), ∀ a x, ((![v1139] : Fin 1 → IVec S16 32) a x).toNat < S24576.size a := fun v1139 k0_hw230 => k0_hw230

def k0_chk231 (v1141 : IVec S16 32) : Prop :=
  (∀ a x, ((![v1141] : Fin 1 → IVec S16 32) a x).toNat < S24576.size a)
theorem k0_idx231_inb : ∀ (v1141 : IVec S16 32) (k0_hw231 : k0_chk231 v1141), ∀ a x, ((![v1141] : Fin 1 → IVec S16 32) a x).toNat < S24576.size a := fun v1141 k0_hw231 => k0_hw231
def k0_off53 (k0_t2 : Fin k0_t2_loop.trips) : Fin 2 → Nat :=
  let c1_i32_250 : BitVec 32 := 1#32
  let c1_i32_251 : BitVec 32 := 1#32
  let arg8 : BitVec 32 := Scf.iv c1_i32_250 c1_i32_251 k0_t2
  let c2_i32_497 : BitVec 32 := 2#32
  let v949 : BitVec 32 := Scalar.muli arg8 c2_i32_497
  let c1_i32_498 : BitVec 32 := 1#32
  let v950 : BitVec 32 := Scalar.addi v949 c1_i32_498
  let c2_i32_504 : BitVec 32 := 2#32
  let v959 : BitVec 32 := Scalar.subi v950 c2_i32_504
  let v1142 : Index := Scalar.indexCast v959
  let c208_596 : Index := 208#32
  ![v1142.toNat, 208]

def k0_chk232 (v1151 : IVec S16 32) : Prop :=
  (∀ a x, ((![v1151] : Fin 1 → IVec S16 32) a x).toNat < S24576.size a)
theorem k0_idx232_inb : ∀ (v1151 : IVec S16 32) (k0_hw232 : k0_chk232 v1151), ∀ a x, ((![v1151] : Fin 1 → IVec S16 32) a x).toNat < S24576.size a := fun v1151 k0_hw232 => k0_hw232

def k0_chk233 (v1153 : IVec S16 32) : Prop :=
  (∀ a x, ((![v1153] : Fin 1 → IVec S16 32) a x).toNat < S24576.size a)
theorem k0_idx233_inb : ∀ (v1153 : IVec S16 32) (k0_hw233 : k0_chk233 v1153), ∀ a x, ((![v1153] : Fin 1 → IVec S16 32) a x).toNat < S24576.size a := fun v1153 k0_hw233 => k0_hw233

def k0_chk234 (v1155 : IVec S16 32) : Prop :=
  (∀ a x, ((![v1155] : Fin 1 → IVec S16 32) a x).toNat < S24576.size a)
theorem k0_idx234_inb : ∀ (v1155 : IVec S16 32) (k0_hw234 : k0_chk234 v1155), ∀ a x, ((![v1155] : Fin 1 → IVec S16 32) a x).toNat < S24576.size a := fun v1155 k0_hw234 => k0_hw234
def k0_off54 (k0_t2 : Fin k0_t2_loop.trips) : Fin 2 → Nat :=
  let c1_i32_250 : BitVec 32 := 1#32
  let c1_i32_251 : BitVec 32 := 1#32
  let arg8 : BitVec 32 := Scf.iv c1_i32_250 c1_i32_251 k0_t2
  let c2_i32_497 : BitVec 32 := 2#32
  let v949 : BitVec 32 := Scalar.muli arg8 c2_i32_497
  let c1_i32_498 : BitVec 32 := 1#32
  let v950 : BitVec 32 := Scalar.addi v949 c1_i32_498
  let c2_i32_504 : BitVec 32 := 2#32
  let v959 : BitVec 32 := Scalar.subi v950 c2_i32_504
  let v1156 : Index := Scalar.indexCast v959
  let c224_603 : Index := 224#32
  ![v1156.toNat, 224]

def k0_chk235 (v1165 : IVec S16 32) : Prop :=
  (∀ a x, ((![v1165] : Fin 1 → IVec S16 32) a x).toNat < S24576.size a)
theorem k0_idx235_inb : ∀ (v1165 : IVec S16 32) (k0_hw235 : k0_chk235 v1165), ∀ a x, ((![v1165] : Fin 1 → IVec S16 32) a x).toNat < S24576.size a := fun v1165 k0_hw235 => k0_hw235

def k0_chk236 (v1167 : IVec S16 32) : Prop :=
  (∀ a x, ((![v1167] : Fin 1 → IVec S16 32) a x).toNat < S24576.size a)
theorem k0_idx236_inb : ∀ (v1167 : IVec S16 32) (k0_hw236 : k0_chk236 v1167), ∀ a x, ((![v1167] : Fin 1 → IVec S16 32) a x).toNat < S24576.size a := fun v1167 k0_hw236 => k0_hw236

def k0_chk237 (v1169 : IVec S16 32) : Prop :=
  (∀ a x, ((![v1169] : Fin 1 → IVec S16 32) a x).toNat < S24576.size a)
theorem k0_idx237_inb : ∀ (v1169 : IVec S16 32) (k0_hw237 : k0_chk237 v1169), ∀ a x, ((![v1169] : Fin 1 → IVec S16 32) a x).toNat < S24576.size a := fun v1169 k0_hw237 => k0_hw237
def k0_off55 (k0_t2 : Fin k0_t2_loop.trips) : Fin 2 → Nat :=
  let c1_i32_250 : BitVec 32 := 1#32
  let c1_i32_251 : BitVec 32 := 1#32
  let arg8 : BitVec 32 := Scf.iv c1_i32_250 c1_i32_251 k0_t2
  let c2_i32_497 : BitVec 32 := 2#32
  let v949 : BitVec 32 := Scalar.muli arg8 c2_i32_497
  let c1_i32_498 : BitVec 32 := 1#32
  let v950 : BitVec 32 := Scalar.addi v949 c1_i32_498
  let c2_i32_504 : BitVec 32 := 2#32
  let v959 : BitVec 32 := Scalar.subi v950 c2_i32_504
  let v1170 : Index := Scalar.indexCast v959
  let c240_610 : Index := 240#32
  ![v1170.toNat, 240]

def k0_chk238 (v1179 : IVec S16 32) : Prop :=
  (∀ a x, ((![v1179] : Fin 1 → IVec S16 32) a x).toNat < S24576.size a)
theorem k0_idx238_inb : ∀ (v1179 : IVec S16 32) (k0_hw238 : k0_chk238 v1179), ∀ a x, ((![v1179] : Fin 1 → IVec S16 32) a x).toNat < S24576.size a := fun v1179 k0_hw238 => k0_hw238

def k0_chk239 (v1181 : IVec S16 32) : Prop :=
  (∀ a x, ((![v1181] : Fin 1 → IVec S16 32) a x).toNat < S24576.size a)
theorem k0_idx239_inb : ∀ (v1181 : IVec S16 32) (k0_hw239 : k0_chk239 v1181), ∀ a x, ((![v1181] : Fin 1 → IVec S16 32) a x).toNat < S24576.size a := fun v1181 k0_hw239 => k0_hw239

def k0_chk240 (v1183 : IVec S16 32) : Prop :=
  (∀ a x, ((![v1183] : Fin 1 → IVec S16 32) a x).toNat < S24576.size a)
theorem k0_idx240_inb : ∀ (v1183 : IVec S16 32) (k0_hw240 : k0_chk240 v1183), ∀ a x, ((![v1183] : Fin 1 → IVec S16 32) a x).toNat < S24576.size a := fun v1183 k0_hw240 => k0_hw240
def k0_off56 (k0_t2 : Fin k0_t2_loop.trips) : Fin 2 → Nat :=
  let c1_i32_250 : BitVec 32 := 1#32
  let c1_i32_251 : BitVec 32 := 1#32
  let arg8 : BitVec 32 := Scf.iv c1_i32_250 c1_i32_251 k0_t2
  let c2_i32_497 : BitVec 32 := 2#32
  let v949 : BitVec 32 := Scalar.muli arg8 c2_i32_497
  let c1_i32_498 : BitVec 32 := 1#32
  let v950 : BitVec 32 := Scalar.addi v949 c1_i32_498
  let v1184 : Index := Scalar.indexCast v950
  let c0_617 : Index := 0#32
  ![v1184.toNat, 0]

def k0_chk241 (v1193 : IVec S16 32) : Prop :=
  (∀ a x, ((![v1193] : Fin 1 → IVec S16 32) a x).toNat < S24576.size a)
theorem k0_idx241_inb : ∀ (v1193 : IVec S16 32) (k0_hw241 : k0_chk241 v1193), ∀ a x, ((![v1193] : Fin 1 → IVec S16 32) a x).toNat < S24576.size a := fun v1193 k0_hw241 => k0_hw241

def k0_chk242 (v1195 : IVec S16 32) : Prop :=
  (∀ a x, ((![v1195] : Fin 1 → IVec S16 32) a x).toNat < S24576.size a)
theorem k0_idx242_inb : ∀ (v1195 : IVec S16 32) (k0_hw242 : k0_chk242 v1195), ∀ a x, ((![v1195] : Fin 1 → IVec S16 32) a x).toNat < S24576.size a := fun v1195 k0_hw242 => k0_hw242

def k0_chk243 (v1197 : IVec S16 32) : Prop :=
  (∀ a x, ((![v1197] : Fin 1 → IVec S16 32) a x).toNat < S24576.size a)
theorem k0_idx243_inb : ∀ (v1197 : IVec S16 32) (k0_hw243 : k0_chk243 v1197), ∀ a x, ((![v1197] : Fin 1 → IVec S16 32) a x).toNat < S24576.size a := fun v1197 k0_hw243 => k0_hw243
def k0_off57 (k0_t2 : Fin k0_t2_loop.trips) : Fin 2 → Nat :=
  let c1_i32_250 : BitVec 32 := 1#32
  let c1_i32_251 : BitVec 32 := 1#32
  let arg8 : BitVec 32 := Scf.iv c1_i32_250 c1_i32_251 k0_t2
  let c2_i32_497 : BitVec 32 := 2#32
  let v949 : BitVec 32 := Scalar.muli arg8 c2_i32_497
  let c1_i32_498 : BitVec 32 := 1#32
  let v950 : BitVec 32 := Scalar.addi v949 c1_i32_498
  let v1198 : Index := Scalar.indexCast v950
  let c16_624 : Index := 16#32
  ![v1198.toNat, 16]

def k0_chk244 (v1207 : IVec S16 32) : Prop :=
  (∀ a x, ((![v1207] : Fin 1 → IVec S16 32) a x).toNat < S24576.size a)
theorem k0_idx244_inb : ∀ (v1207 : IVec S16 32) (k0_hw244 : k0_chk244 v1207), ∀ a x, ((![v1207] : Fin 1 → IVec S16 32) a x).toNat < S24576.size a := fun v1207 k0_hw244 => k0_hw244

def k0_chk245 (v1209 : IVec S16 32) : Prop :=
  (∀ a x, ((![v1209] : Fin 1 → IVec S16 32) a x).toNat < S24576.size a)
theorem k0_idx245_inb : ∀ (v1209 : IVec S16 32) (k0_hw245 : k0_chk245 v1209), ∀ a x, ((![v1209] : Fin 1 → IVec S16 32) a x).toNat < S24576.size a := fun v1209 k0_hw245 => k0_hw245

def k0_chk246 (v1211 : IVec S16 32) : Prop :=
  (∀ a x, ((![v1211] : Fin 1 → IVec S16 32) a x).toNat < S24576.size a)
theorem k0_idx246_inb : ∀ (v1211 : IVec S16 32) (k0_hw246 : k0_chk246 v1211), ∀ a x, ((![v1211] : Fin 1 → IVec S16 32) a x).toNat < S24576.size a := fun v1211 k0_hw246 => k0_hw246
def k0_off58 (k0_t2 : Fin k0_t2_loop.trips) : Fin 2 → Nat :=
  let c1_i32_250 : BitVec 32 := 1#32
  let c1_i32_251 : BitVec 32 := 1#32
  let arg8 : BitVec 32 := Scf.iv c1_i32_250 c1_i32_251 k0_t2
  let c2_i32_497 : BitVec 32 := 2#32
  let v949 : BitVec 32 := Scalar.muli arg8 c2_i32_497
  let c1_i32_498 : BitVec 32 := 1#32
  let v950 : BitVec 32 := Scalar.addi v949 c1_i32_498
  let v1212 : Index := Scalar.indexCast v950
  let c32_631 : Index := 32#32
  ![v1212.toNat, 32]

def k0_chk247 (v1221 : IVec S16 32) : Prop :=
  (∀ a x, ((![v1221] : Fin 1 → IVec S16 32) a x).toNat < S24576.size a)
theorem k0_idx247_inb : ∀ (v1221 : IVec S16 32) (k0_hw247 : k0_chk247 v1221), ∀ a x, ((![v1221] : Fin 1 → IVec S16 32) a x).toNat < S24576.size a := fun v1221 k0_hw247 => k0_hw247

def k0_chk248 (v1223 : IVec S16 32) : Prop :=
  (∀ a x, ((![v1223] : Fin 1 → IVec S16 32) a x).toNat < S24576.size a)
theorem k0_idx248_inb : ∀ (v1223 : IVec S16 32) (k0_hw248 : k0_chk248 v1223), ∀ a x, ((![v1223] : Fin 1 → IVec S16 32) a x).toNat < S24576.size a := fun v1223 k0_hw248 => k0_hw248

def k0_chk249 (v1225 : IVec S16 32) : Prop :=
  (∀ a x, ((![v1225] : Fin 1 → IVec S16 32) a x).toNat < S24576.size a)
theorem k0_idx249_inb : ∀ (v1225 : IVec S16 32) (k0_hw249 : k0_chk249 v1225), ∀ a x, ((![v1225] : Fin 1 → IVec S16 32) a x).toNat < S24576.size a := fun v1225 k0_hw249 => k0_hw249
def k0_off59 (k0_t2 : Fin k0_t2_loop.trips) : Fin 2 → Nat :=
  let c1_i32_250 : BitVec 32 := 1#32
  let c1_i32_251 : BitVec 32 := 1#32
  let arg8 : BitVec 32 := Scf.iv c1_i32_250 c1_i32_251 k0_t2
  let c2_i32_497 : BitVec 32 := 2#32
  let v949 : BitVec 32 := Scalar.muli arg8 c2_i32_497
  let c1_i32_498 : BitVec 32 := 1#32
  let v950 : BitVec 32 := Scalar.addi v949 c1_i32_498
  let v1226 : Index := Scalar.indexCast v950
  let c48_638 : Index := 48#32
  ![v1226.toNat, 48]

def k0_chk250 (v1235 : IVec S16 32) : Prop :=
  (∀ a x, ((![v1235] : Fin 1 → IVec S16 32) a x).toNat < S24576.size a)
theorem k0_idx250_inb : ∀ (v1235 : IVec S16 32) (k0_hw250 : k0_chk250 v1235), ∀ a x, ((![v1235] : Fin 1 → IVec S16 32) a x).toNat < S24576.size a := fun v1235 k0_hw250 => k0_hw250

def k0_chk251 (v1237 : IVec S16 32) : Prop :=
  (∀ a x, ((![v1237] : Fin 1 → IVec S16 32) a x).toNat < S24576.size a)
theorem k0_idx251_inb : ∀ (v1237 : IVec S16 32) (k0_hw251 : k0_chk251 v1237), ∀ a x, ((![v1237] : Fin 1 → IVec S16 32) a x).toNat < S24576.size a := fun v1237 k0_hw251 => k0_hw251

def k0_chk252 (v1239 : IVec S16 32) : Prop :=
  (∀ a x, ((![v1239] : Fin 1 → IVec S16 32) a x).toNat < S24576.size a)
theorem k0_idx252_inb : ∀ (v1239 : IVec S16 32) (k0_hw252 : k0_chk252 v1239), ∀ a x, ((![v1239] : Fin 1 → IVec S16 32) a x).toNat < S24576.size a := fun v1239 k0_hw252 => k0_hw252
def k0_off60 (k0_t2 : Fin k0_t2_loop.trips) : Fin 2 → Nat :=
  let c1_i32_250 : BitVec 32 := 1#32
  let c1_i32_251 : BitVec 32 := 1#32
  let arg8 : BitVec 32 := Scf.iv c1_i32_250 c1_i32_251 k0_t2
  let c2_i32_497 : BitVec 32 := 2#32
  let v949 : BitVec 32 := Scalar.muli arg8 c2_i32_497
  let c1_i32_498 : BitVec 32 := 1#32
  let v950 : BitVec 32 := Scalar.addi v949 c1_i32_498
  let v1240 : Index := Scalar.indexCast v950
  let c64_645 : Index := 64#32
  ![v1240.toNat, 64]

def k0_chk253 (v1249 : IVec S16 32) : Prop :=
  (∀ a x, ((![v1249] : Fin 1 → IVec S16 32) a x).toNat < S24576.size a)
theorem k0_idx253_inb : ∀ (v1249 : IVec S16 32) (k0_hw253 : k0_chk253 v1249), ∀ a x, ((![v1249] : Fin 1 → IVec S16 32) a x).toNat < S24576.size a := fun v1249 k0_hw253 => k0_hw253

def k0_chk254 (v1251 : IVec S16 32) : Prop :=
  (∀ a x, ((![v1251] : Fin 1 → IVec S16 32) a x).toNat < S24576.size a)
theorem k0_idx254_inb : ∀ (v1251 : IVec S16 32) (k0_hw254 : k0_chk254 v1251), ∀ a x, ((![v1251] : Fin 1 → IVec S16 32) a x).toNat < S24576.size a := fun v1251 k0_hw254 => k0_hw254

def k0_chk255 (v1253 : IVec S16 32) : Prop :=
  (∀ a x, ((![v1253] : Fin 1 → IVec S16 32) a x).toNat < S24576.size a)
theorem k0_idx255_inb : ∀ (v1253 : IVec S16 32) (k0_hw255 : k0_chk255 v1253), ∀ a x, ((![v1253] : Fin 1 → IVec S16 32) a x).toNat < S24576.size a := fun v1253 k0_hw255 => k0_hw255
def k0_off61 (k0_t2 : Fin k0_t2_loop.trips) : Fin 2 → Nat :=
  let c1_i32_250 : BitVec 32 := 1#32
  let c1_i32_251 : BitVec 32 := 1#32
  let arg8 : BitVec 32 := Scf.iv c1_i32_250 c1_i32_251 k0_t2
  let c2_i32_497 : BitVec 32 := 2#32
  let v949 : BitVec 32 := Scalar.muli arg8 c2_i32_497
  let c1_i32_498 : BitVec 32 := 1#32
  let v950 : BitVec 32 := Scalar.addi v949 c1_i32_498
  let v1254 : Index := Scalar.indexCast v950
  let c80_652 : Index := 80#32
  ![v1254.toNat, 80]

def k0_chk256 (v1263 : IVec S16 32) : Prop :=
  (∀ a x, ((![v1263] : Fin 1 → IVec S16 32) a x).toNat < S24576.size a)
theorem k0_idx256_inb : ∀ (v1263 : IVec S16 32) (k0_hw256 : k0_chk256 v1263), ∀ a x, ((![v1263] : Fin 1 → IVec S16 32) a x).toNat < S24576.size a := fun v1263 k0_hw256 => k0_hw256

def k0_chk257 (v1265 : IVec S16 32) : Prop :=
  (∀ a x, ((![v1265] : Fin 1 → IVec S16 32) a x).toNat < S24576.size a)
theorem k0_idx257_inb : ∀ (v1265 : IVec S16 32) (k0_hw257 : k0_chk257 v1265), ∀ a x, ((![v1265] : Fin 1 → IVec S16 32) a x).toNat < S24576.size a := fun v1265 k0_hw257 => k0_hw257

def k0_chk258 (v1267 : IVec S16 32) : Prop :=
  (∀ a x, ((![v1267] : Fin 1 → IVec S16 32) a x).toNat < S24576.size a)
theorem k0_idx258_inb : ∀ (v1267 : IVec S16 32) (k0_hw258 : k0_chk258 v1267), ∀ a x, ((![v1267] : Fin 1 → IVec S16 32) a x).toNat < S24576.size a := fun v1267 k0_hw258 => k0_hw258
def k0_off62 (k0_t2 : Fin k0_t2_loop.trips) : Fin 2 → Nat :=
  let c1_i32_250 : BitVec 32 := 1#32
  let c1_i32_251 : BitVec 32 := 1#32
  let arg8 : BitVec 32 := Scf.iv c1_i32_250 c1_i32_251 k0_t2
  let c2_i32_497 : BitVec 32 := 2#32
  let v949 : BitVec 32 := Scalar.muli arg8 c2_i32_497
  let c1_i32_498 : BitVec 32 := 1#32
  let v950 : BitVec 32 := Scalar.addi v949 c1_i32_498
  let v1268 : Index := Scalar.indexCast v950
  let c96_659 : Index := 96#32
  ![v1268.toNat, 96]

def k0_chk259 (v1277 : IVec S16 32) : Prop :=
  (∀ a x, ((![v1277] : Fin 1 → IVec S16 32) a x).toNat < S24576.size a)
theorem k0_idx259_inb : ∀ (v1277 : IVec S16 32) (k0_hw259 : k0_chk259 v1277), ∀ a x, ((![v1277] : Fin 1 → IVec S16 32) a x).toNat < S24576.size a := fun v1277 k0_hw259 => k0_hw259

def k0_chk260 (v1279 : IVec S16 32) : Prop :=
  (∀ a x, ((![v1279] : Fin 1 → IVec S16 32) a x).toNat < S24576.size a)
theorem k0_idx260_inb : ∀ (v1279 : IVec S16 32) (k0_hw260 : k0_chk260 v1279), ∀ a x, ((![v1279] : Fin 1 → IVec S16 32) a x).toNat < S24576.size a := fun v1279 k0_hw260 => k0_hw260

def k0_chk261 (v1281 : IVec S16 32) : Prop :=
  (∀ a x, ((![v1281] : Fin 1 → IVec S16 32) a x).toNat < S24576.size a)
theorem k0_idx261_inb : ∀ (v1281 : IVec S16 32) (k0_hw261 : k0_chk261 v1281), ∀ a x, ((![v1281] : Fin 1 → IVec S16 32) a x).toNat < S24576.size a := fun v1281 k0_hw261 => k0_hw261
def k0_off63 (k0_t2 : Fin k0_t2_loop.trips) : Fin 2 → Nat :=
  let c1_i32_250 : BitVec 32 := 1#32
  let c1_i32_251 : BitVec 32 := 1#32
  let arg8 : BitVec 32 := Scf.iv c1_i32_250 c1_i32_251 k0_t2
  let c2_i32_497 : BitVec 32 := 2#32
  let v949 : BitVec 32 := Scalar.muli arg8 c2_i32_497
  let c1_i32_498 : BitVec 32 := 1#32
  let v950 : BitVec 32 := Scalar.addi v949 c1_i32_498
  let v1282 : Index := Scalar.indexCast v950
  let c112_666 : Index := 112#32
  ![v1282.toNat, 112]

def k0_chk262 (v1291 : IVec S16 32) : Prop :=
  (∀ a x, ((![v1291] : Fin 1 → IVec S16 32) a x).toNat < S24576.size a)
theorem k0_idx262_inb : ∀ (v1291 : IVec S16 32) (k0_hw262 : k0_chk262 v1291), ∀ a x, ((![v1291] : Fin 1 → IVec S16 32) a x).toNat < S24576.size a := fun v1291 k0_hw262 => k0_hw262

def k0_chk263 (v1293 : IVec S16 32) : Prop :=
  (∀ a x, ((![v1293] : Fin 1 → IVec S16 32) a x).toNat < S24576.size a)
theorem k0_idx263_inb : ∀ (v1293 : IVec S16 32) (k0_hw263 : k0_chk263 v1293), ∀ a x, ((![v1293] : Fin 1 → IVec S16 32) a x).toNat < S24576.size a := fun v1293 k0_hw263 => k0_hw263

def k0_chk264 (v1295 : IVec S16 32) : Prop :=
  (∀ a x, ((![v1295] : Fin 1 → IVec S16 32) a x).toNat < S24576.size a)
theorem k0_idx264_inb : ∀ (v1295 : IVec S16 32) (k0_hw264 : k0_chk264 v1295), ∀ a x, ((![v1295] : Fin 1 → IVec S16 32) a x).toNat < S24576.size a := fun v1295 k0_hw264 => k0_hw264
def k0_off64 (k0_t2 : Fin k0_t2_loop.trips) : Fin 2 → Nat :=
  let c1_i32_250 : BitVec 32 := 1#32
  let c1_i32_251 : BitVec 32 := 1#32
  let arg8 : BitVec 32 := Scf.iv c1_i32_250 c1_i32_251 k0_t2
  let c2_i32_497 : BitVec 32 := 2#32
  let v949 : BitVec 32 := Scalar.muli arg8 c2_i32_497
  let c1_i32_498 : BitVec 32 := 1#32
  let v950 : BitVec 32 := Scalar.addi v949 c1_i32_498
  let v1296 : Index := Scalar.indexCast v950
  let c128_673 : Index := 128#32
  ![v1296.toNat, 128]

def k0_chk265 (v1305 : IVec S16 32) : Prop :=
  (∀ a x, ((![v1305] : Fin 1 → IVec S16 32) a x).toNat < S24576.size a)
theorem k0_idx265_inb : ∀ (v1305 : IVec S16 32) (k0_hw265 : k0_chk265 v1305), ∀ a x, ((![v1305] : Fin 1 → IVec S16 32) a x).toNat < S24576.size a := fun v1305 k0_hw265 => k0_hw265

def k0_chk266 (v1307 : IVec S16 32) : Prop :=
  (∀ a x, ((![v1307] : Fin 1 → IVec S16 32) a x).toNat < S24576.size a)
theorem k0_idx266_inb : ∀ (v1307 : IVec S16 32) (k0_hw266 : k0_chk266 v1307), ∀ a x, ((![v1307] : Fin 1 → IVec S16 32) a x).toNat < S24576.size a := fun v1307 k0_hw266 => k0_hw266

def k0_chk267 (v1309 : IVec S16 32) : Prop :=
  (∀ a x, ((![v1309] : Fin 1 → IVec S16 32) a x).toNat < S24576.size a)
theorem k0_idx267_inb : ∀ (v1309 : IVec S16 32) (k0_hw267 : k0_chk267 v1309), ∀ a x, ((![v1309] : Fin 1 → IVec S16 32) a x).toNat < S24576.size a := fun v1309 k0_hw267 => k0_hw267
def k0_off65 (k0_t2 : Fin k0_t2_loop.trips) : Fin 2 → Nat :=
  let c1_i32_250 : BitVec 32 := 1#32
  let c1_i32_251 : BitVec 32 := 1#32
  let arg8 : BitVec 32 := Scf.iv c1_i32_250 c1_i32_251 k0_t2
  let c2_i32_497 : BitVec 32 := 2#32
  let v949 : BitVec 32 := Scalar.muli arg8 c2_i32_497
  let c1_i32_498 : BitVec 32 := 1#32
  let v950 : BitVec 32 := Scalar.addi v949 c1_i32_498
  let v1310 : Index := Scalar.indexCast v950
  let c144_680 : Index := 144#32
  ![v1310.toNat, 144]

def k0_chk268 (v1319 : IVec S16 32) : Prop :=
  (∀ a x, ((![v1319] : Fin 1 → IVec S16 32) a x).toNat < S24576.size a)
theorem k0_idx268_inb : ∀ (v1319 : IVec S16 32) (k0_hw268 : k0_chk268 v1319), ∀ a x, ((![v1319] : Fin 1 → IVec S16 32) a x).toNat < S24576.size a := fun v1319 k0_hw268 => k0_hw268

def k0_chk269 (v1321 : IVec S16 32) : Prop :=
  (∀ a x, ((![v1321] : Fin 1 → IVec S16 32) a x).toNat < S24576.size a)
theorem k0_idx269_inb : ∀ (v1321 : IVec S16 32) (k0_hw269 : k0_chk269 v1321), ∀ a x, ((![v1321] : Fin 1 → IVec S16 32) a x).toNat < S24576.size a := fun v1321 k0_hw269 => k0_hw269

def k0_chk270 (v1323 : IVec S16 32) : Prop :=
  (∀ a x, ((![v1323] : Fin 1 → IVec S16 32) a x).toNat < S24576.size a)
theorem k0_idx270_inb : ∀ (v1323 : IVec S16 32) (k0_hw270 : k0_chk270 v1323), ∀ a x, ((![v1323] : Fin 1 → IVec S16 32) a x).toNat < S24576.size a := fun v1323 k0_hw270 => k0_hw270
def k0_off66 (k0_t2 : Fin k0_t2_loop.trips) : Fin 2 → Nat :=
  let c1_i32_250 : BitVec 32 := 1#32
  let c1_i32_251 : BitVec 32 := 1#32
  let arg8 : BitVec 32 := Scf.iv c1_i32_250 c1_i32_251 k0_t2
  let c2_i32_497 : BitVec 32 := 2#32
  let v949 : BitVec 32 := Scalar.muli arg8 c2_i32_497
  let c1_i32_498 : BitVec 32 := 1#32
  let v950 : BitVec 32 := Scalar.addi v949 c1_i32_498
  let v1324 : Index := Scalar.indexCast v950
  let c160_687 : Index := 160#32
  ![v1324.toNat, 160]

def k0_chk271 (v1333 : IVec S16 32) : Prop :=
  (∀ a x, ((![v1333] : Fin 1 → IVec S16 32) a x).toNat < S24576.size a)
theorem k0_idx271_inb : ∀ (v1333 : IVec S16 32) (k0_hw271 : k0_chk271 v1333), ∀ a x, ((![v1333] : Fin 1 → IVec S16 32) a x).toNat < S24576.size a := fun v1333 k0_hw271 => k0_hw271

def k0_chk272 (v1335 : IVec S16 32) : Prop :=
  (∀ a x, ((![v1335] : Fin 1 → IVec S16 32) a x).toNat < S24576.size a)
theorem k0_idx272_inb : ∀ (v1335 : IVec S16 32) (k0_hw272 : k0_chk272 v1335), ∀ a x, ((![v1335] : Fin 1 → IVec S16 32) a x).toNat < S24576.size a := fun v1335 k0_hw272 => k0_hw272

def k0_chk273 (v1337 : IVec S16 32) : Prop :=
  (∀ a x, ((![v1337] : Fin 1 → IVec S16 32) a x).toNat < S24576.size a)
theorem k0_idx273_inb : ∀ (v1337 : IVec S16 32) (k0_hw273 : k0_chk273 v1337), ∀ a x, ((![v1337] : Fin 1 → IVec S16 32) a x).toNat < S24576.size a := fun v1337 k0_hw273 => k0_hw273
def k0_off67 (k0_t2 : Fin k0_t2_loop.trips) : Fin 2 → Nat :=
  let c1_i32_250 : BitVec 32 := 1#32
  let c1_i32_251 : BitVec 32 := 1#32
  let arg8 : BitVec 32 := Scf.iv c1_i32_250 c1_i32_251 k0_t2
  let c2_i32_497 : BitVec 32 := 2#32
  let v949 : BitVec 32 := Scalar.muli arg8 c2_i32_497
  let c1_i32_498 : BitVec 32 := 1#32
  let v950 : BitVec 32 := Scalar.addi v949 c1_i32_498
  let v1338 : Index := Scalar.indexCast v950
  let c176_694 : Index := 176#32
  ![v1338.toNat, 176]

def k0_chk274 (v1347 : IVec S16 32) : Prop :=
  (∀ a x, ((![v1347] : Fin 1 → IVec S16 32) a x).toNat < S24576.size a)
theorem k0_idx274_inb : ∀ (v1347 : IVec S16 32) (k0_hw274 : k0_chk274 v1347), ∀ a x, ((![v1347] : Fin 1 → IVec S16 32) a x).toNat < S24576.size a := fun v1347 k0_hw274 => k0_hw274

def k0_chk275 (v1349 : IVec S16 32) : Prop :=
  (∀ a x, ((![v1349] : Fin 1 → IVec S16 32) a x).toNat < S24576.size a)
theorem k0_idx275_inb : ∀ (v1349 : IVec S16 32) (k0_hw275 : k0_chk275 v1349), ∀ a x, ((![v1349] : Fin 1 → IVec S16 32) a x).toNat < S24576.size a := fun v1349 k0_hw275 => k0_hw275

def k0_chk276 (v1351 : IVec S16 32) : Prop :=
  (∀ a x, ((![v1351] : Fin 1 → IVec S16 32) a x).toNat < S24576.size a)
theorem k0_idx276_inb : ∀ (v1351 : IVec S16 32) (k0_hw276 : k0_chk276 v1351), ∀ a x, ((![v1351] : Fin 1 → IVec S16 32) a x).toNat < S24576.size a := fun v1351 k0_hw276 => k0_hw276
def k0_off68 (k0_t2 : Fin k0_t2_loop.trips) : Fin 2 → Nat :=
  let c1_i32_250 : BitVec 32 := 1#32
  let c1_i32_251 : BitVec 32 := 1#32
  let arg8 : BitVec 32 := Scf.iv c1_i32_250 c1_i32_251 k0_t2
  let c2_i32_497 : BitVec 32 := 2#32
  let v949 : BitVec 32 := Scalar.muli arg8 c2_i32_497
  let c1_i32_498 : BitVec 32 := 1#32
  let v950 : BitVec 32 := Scalar.addi v949 c1_i32_498
  let v1352 : Index := Scalar.indexCast v950
  let c192_701 : Index := 192#32
  ![v1352.toNat, 192]

def k0_chk277 (v1361 : IVec S16 32) : Prop :=
  (∀ a x, ((![v1361] : Fin 1 → IVec S16 32) a x).toNat < S24576.size a)
theorem k0_idx277_inb : ∀ (v1361 : IVec S16 32) (k0_hw277 : k0_chk277 v1361), ∀ a x, ((![v1361] : Fin 1 → IVec S16 32) a x).toNat < S24576.size a := fun v1361 k0_hw277 => k0_hw277

def k0_chk278 (v1363 : IVec S16 32) : Prop :=
  (∀ a x, ((![v1363] : Fin 1 → IVec S16 32) a x).toNat < S24576.size a)
theorem k0_idx278_inb : ∀ (v1363 : IVec S16 32) (k0_hw278 : k0_chk278 v1363), ∀ a x, ((![v1363] : Fin 1 → IVec S16 32) a x).toNat < S24576.size a := fun v1363 k0_hw278 => k0_hw278

def k0_chk279 (v1365 : IVec S16 32) : Prop :=
  (∀ a x, ((![v1365] : Fin 1 → IVec S16 32) a x).toNat < S24576.size a)
theorem k0_idx279_inb : ∀ (v1365 : IVec S16 32) (k0_hw279 : k0_chk279 v1365), ∀ a x, ((![v1365] : Fin 1 → IVec S16 32) a x).toNat < S24576.size a := fun v1365 k0_hw279 => k0_hw279
def k0_off69 (k0_t2 : Fin k0_t2_loop.trips) : Fin 2 → Nat :=
  let c1_i32_250 : BitVec 32 := 1#32
  let c1_i32_251 : BitVec 32 := 1#32
  let arg8 : BitVec 32 := Scf.iv c1_i32_250 c1_i32_251 k0_t2
  let c2_i32_497 : BitVec 32 := 2#32
  let v949 : BitVec 32 := Scalar.muli arg8 c2_i32_497
  let c1_i32_498 : BitVec 32 := 1#32
  let v950 : BitVec 32 := Scalar.addi v949 c1_i32_498
  let v1366 : Index := Scalar.indexCast v950
  let c208_708 : Index := 208#32
  ![v1366.toNat, 208]

def k0_chk280 (v1375 : IVec S16 32) : Prop :=
  (∀ a x, ((![v1375] : Fin 1 → IVec S16 32) a x).toNat < S24576.size a)
theorem k0_idx280_inb : ∀ (v1375 : IVec S16 32) (k0_hw280 : k0_chk280 v1375), ∀ a x, ((![v1375] : Fin 1 → IVec S16 32) a x).toNat < S24576.size a := fun v1375 k0_hw280 => k0_hw280

def k0_chk281 (v1377 : IVec S16 32) : Prop :=
  (∀ a x, ((![v1377] : Fin 1 → IVec S16 32) a x).toNat < S24576.size a)
theorem k0_idx281_inb : ∀ (v1377 : IVec S16 32) (k0_hw281 : k0_chk281 v1377), ∀ a x, ((![v1377] : Fin 1 → IVec S16 32) a x).toNat < S24576.size a := fun v1377 k0_hw281 => k0_hw281

def k0_chk282 (v1379 : IVec S16 32) : Prop :=
  (∀ a x, ((![v1379] : Fin 1 → IVec S16 32) a x).toNat < S24576.size a)
theorem k0_idx282_inb : ∀ (v1379 : IVec S16 32) (k0_hw282 : k0_chk282 v1379), ∀ a x, ((![v1379] : Fin 1 → IVec S16 32) a x).toNat < S24576.size a := fun v1379 k0_hw282 => k0_hw282
def k0_off70 (k0_t2 : Fin k0_t2_loop.trips) : Fin 2 → Nat :=
  let c1_i32_250 : BitVec 32 := 1#32
  let c1_i32_251 : BitVec 32 := 1#32
  let arg8 : BitVec 32 := Scf.iv c1_i32_250 c1_i32_251 k0_t2
  let c2_i32_497 : BitVec 32 := 2#32
  let v949 : BitVec 32 := Scalar.muli arg8 c2_i32_497
  let c1_i32_498 : BitVec 32 := 1#32
  let v950 : BitVec 32 := Scalar.addi v949 c1_i32_498
  let v1380 : Index := Scalar.indexCast v950
  let c224_715 : Index := 224#32
  ![v1380.toNat, 224]

def k0_chk283 (v1389 : IVec S16 32) : Prop :=
  (∀ a x, ((![v1389] : Fin 1 → IVec S16 32) a x).toNat < S24576.size a)
theorem k0_idx283_inb : ∀ (v1389 : IVec S16 32) (k0_hw283 : k0_chk283 v1389), ∀ a x, ((![v1389] : Fin 1 → IVec S16 32) a x).toNat < S24576.size a := fun v1389 k0_hw283 => k0_hw283

def k0_chk284 (v1391 : IVec S16 32) : Prop :=
  (∀ a x, ((![v1391] : Fin 1 → IVec S16 32) a x).toNat < S24576.size a)
theorem k0_idx284_inb : ∀ (v1391 : IVec S16 32) (k0_hw284 : k0_chk284 v1391), ∀ a x, ((![v1391] : Fin 1 → IVec S16 32) a x).toNat < S24576.size a := fun v1391 k0_hw284 => k0_hw284

def k0_chk285 (v1393 : IVec S16 32) : Prop :=
  (∀ a x, ((![v1393] : Fin 1 → IVec S16 32) a x).toNat < S24576.size a)
theorem k0_idx285_inb : ∀ (v1393 : IVec S16 32) (k0_hw285 : k0_chk285 v1393), ∀ a x, ((![v1393] : Fin 1 → IVec S16 32) a x).toNat < S24576.size a := fun v1393 k0_hw285 => k0_hw285
def k0_off71 (k0_t2 : Fin k0_t2_loop.trips) : Fin 2 → Nat :=
  let c1_i32_250 : BitVec 32 := 1#32
  let c1_i32_251 : BitVec 32 := 1#32
  let arg8 : BitVec 32 := Scf.iv c1_i32_250 c1_i32_251 k0_t2
  let c2_i32_497 : BitVec 32 := 2#32
  let v949 : BitVec 32 := Scalar.muli arg8 c2_i32_497
  let c1_i32_498 : BitVec 32 := 1#32
  let v950 : BitVec 32 := Scalar.addi v949 c1_i32_498
  let v1394 : Index := Scalar.indexCast v950
  let c240_722 : Index := 240#32
  ![v1394.toNat, 240]

def k0_chk286 (v1403 : IVec S16 32) : Prop :=
  (∀ a x, ((![v1403] : Fin 1 → IVec S16 32) a x).toNat < S24576.size a)
theorem k0_idx286_inb : ∀ (v1403 : IVec S16 32) (k0_hw286 : k0_chk286 v1403), ∀ a x, ((![v1403] : Fin 1 → IVec S16 32) a x).toNat < S24576.size a := fun v1403 k0_hw286 => k0_hw286

def k0_chk287 (v1405 : IVec S16 32) : Prop :=
  (∀ a x, ((![v1405] : Fin 1 → IVec S16 32) a x).toNat < S24576.size a)
theorem k0_idx287_inb : ∀ (v1405 : IVec S16 32) (k0_hw287 : k0_chk287 v1405), ∀ a x, ((![v1405] : Fin 1 → IVec S16 32) a x).toNat < S24576.size a := fun v1405 k0_hw287 => k0_hw287

def k0_chk288 (v1407 : IVec S16 32) : Prop :=
  (∀ a x, ((![v1407] : Fin 1 → IVec S16 32) a x).toNat < S24576.size a)
theorem k0_idx288_inb : ∀ (v1407 : IVec S16 32) (k0_hw288 : k0_chk288 v1407), ∀ a x, ((![v1407] : Fin 1 → IVec S16 32) a x).toNat < S24576.size a := fun v1407 k0_hw288 => k0_hw288
def k0_off72 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c1_i32_250 : BitVec 32 := 1#32
  let c1_i32_251 : BitVec 32 := 1#32
  let arg8 : BitVec 32 := Scf.iv c1_i32_250 c1_i32_251 k0_t2
  let c2_i32_497 : BitVec 32 := 2#32
  let v949 : BitVec 32 := Scalar.muli arg8 c2_i32_497
  let c1_i32_498 : BitVec 32 := 1#32
  let v950 : BitVec 32 := Scalar.addi v949 c1_i32_498
  let v1408 : BitVec 32 := Scalar.addi v2 v950
  let c0_i32_730 : BitVec 32 := 0#32
  ![v1408.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x256 : Shape := ⟨2, ![4096, 256]⟩
abbrev S4096x768 : Shape := ⟨2, ![4096, 768]⟩
abbrev S_ : Shape := ⟨0, ![]⟩
abbrev S4096 : Shape := ⟨1, ![4096]⟩
abbrev S4096x1 : Shape := ⟨2, ![4096, 1]⟩
abbrev S4096x12288 : Shape := ⟨2, ![4096, 12288]⟩
abbrev S3145728 : Shape := ⟨1, ![3145728]⟩
abbrev S3145728x1 : Shape := ⟨2, ![3145728, 1]⟩
abbrev S3145728x2 : Shape := ⟨2, ![3145728, 2]⟩

abbrev nBuf : Space → Nat
  | .hbm => 54
  | .vmem => 0
  | .smem => 0
  | _ => 0

abbrev bufTy : (tb : Table) → Fin (tcTables nBuf tb) → BufTy
  | .hbm, ⟨0, _⟩ => ⟨S4096x256, .i32⟩
  | .hbm, ⟨1, _⟩ => ⟨S4096x768, .f32⟩
  | .hbm, ⟨2, _⟩ => ⟨S_, .i32⟩
  | .hbm, ⟨3, _⟩ => ⟨S4096x256, .i32⟩
  | .hbm, ⟨4, _⟩ => ⟨S4096x256, .i32⟩
  | .hbm, ⟨5, _⟩ => ⟨S_, .i32⟩
  | .hbm, ⟨6, _⟩ => ⟨S4096x256, .i32⟩
  | .hbm, ⟨7, _⟩ => ⟨S4096x256, .i32⟩
  | .hbm, ⟨8, _⟩ => ⟨S_, .i32⟩
  | .hbm, ⟨9, _⟩ => ⟨S4096x256, .i32⟩
  | .hbm, ⟨10, _⟩ => ⟨S4096x256, .i32⟩
  | .hbm, ⟨11, _⟩ => ⟨S_, .i32⟩
  | .hbm, ⟨12, _⟩ => ⟨S4096x256, .i32⟩
  | .hbm, ⟨13, _⟩ => ⟨S4096x256, .i32⟩
  | .hbm, ⟨14, _⟩ => ⟨S4096x768, .i32⟩
  | .hbm, ⟨15, _⟩ => ⟨S_, .i32⟩
  | .hbm, ⟨16, _⟩ => ⟨S4096x768, .i32⟩
  | .hbm, ⟨17, _⟩ => ⟨S4096x768, .i1⟩
  | .hbm, ⟨18, _⟩ => ⟨S_, .i32⟩
  | .hbm, ⟨19, _⟩ => ⟨S_, .i32⟩
  | .hbm, ⟨20, _⟩ => ⟨S4096x768, .i32⟩
  | .hbm, ⟨21, _⟩ => ⟨S4096x768, .i32⟩
  | .hbm, ⟨22, _⟩ => ⟨S4096, .i32⟩
  | .hbm, ⟨23, _⟩ => ⟨S4096x1, .i32⟩
  | .hbm, ⟨24, _⟩ => ⟨S4096x768, .i32⟩
  | .hbm, ⟨25, _⟩ => ⟨S_, .f32⟩
  | .hbm, ⟨26, _⟩ => ⟨S4096x12288, .f32⟩
  | .hbm, ⟨27, _⟩ => ⟨S3145728, .i32⟩
  | .hbm, ⟨28, _⟩ => ⟨S3145728, .i32⟩
  | .hbm, ⟨29, _⟩ => ⟨S3145728, .f32⟩
  | .hbm, ⟨30, _⟩ => ⟨S_, .i32⟩
  | .hbm, ⟨31, _⟩ => ⟨S3145728, .i32⟩
  | .hbm, ⟨32, _⟩ => ⟨S3145728, .i1⟩
  | .hbm, ⟨33, _⟩ => ⟨S_, .i32⟩
  | .hbm, ⟨34, _⟩ => ⟨S3145728, .i32⟩
  | .hbm, ⟨35, _⟩ => ⟨S3145728, .i32⟩
  | .hbm, ⟨36, _⟩ => ⟨S3145728, .i32⟩
  | .hbm, ⟨37, _⟩ => ⟨S_, .i32⟩
  | .hbm, ⟨38, _⟩ => ⟨S3145728, .i32⟩
  | .hbm, ⟨39, _⟩ => ⟨S3145728, .i1⟩
  | .hbm, ⟨40, _⟩ => ⟨S_, .i32⟩
  | .hbm, ⟨41, _⟩ => ⟨S3145728, .i32⟩
  | .hbm, ⟨42, _⟩ => ⟨S3145728, .i32⟩
  | .hbm, ⟨43, _⟩ => ⟨S3145728, .i32⟩
  | .hbm, ⟨44, _⟩ => ⟨S3145728x1, .i32⟩
  | .hbm, ⟨45, _⟩ => ⟨S3145728x1, .i32⟩
  | .hbm, ⟨46, _⟩ => ⟨S3145728x2, .i32⟩
  | .hbm, ⟨47, _⟩ => ⟨S4096x12288, .f32⟩
  | .hbm, ⟨48, _⟩ => ⟨S_, .f32⟩
  | .hbm, ⟨49, _⟩ => ⟨S4096x12288, .f32⟩
  | .hbm, ⟨50, _⟩ => ⟨S4096x12288, .f32⟩
  | .hbm, ⟨51, _⟩ => ⟨S_, .f32⟩
  | .hbm, ⟨52, _⟩ => ⟨S4096x12288, .f32⟩
  | .hbm, ⟨53, _⟩ => ⟨S4096x12288, .f32⟩
  | _, _ => ⟨S4096x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_c_1 : Ref sig .tc := ⟨.hbm, 8, rfl⟩
abbrev main_v4 : Ref sig .tc := ⟨.hbm, 9, rfl⟩
abbrev main_v5 : Ref sig .tc := ⟨.hbm, 10, rfl⟩
abbrev main_c_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_3 : Ref sig .tc := ⟨.hbm, 15, rfl⟩
abbrev main_v9 : Ref sig .tc := ⟨.hbm, 16, rfl⟩
abbrev main_v10 : Ref sig .tc := ⟨.hbm, 17, rfl⟩
abbrev main_c_4 : Ref sig .tc := ⟨.hbm, 18, rfl⟩
abbrev main_call0_v0 : Ref sig .tc := ⟨.hbm, 19, rfl⟩
abbrev main_call0_v1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_5 : Ref sig .tc := ⟨.hbm, 30, rfl⟩
abbrev main_v19 : Ref sig .tc := ⟨.hbm, 31, rfl⟩
abbrev main_v20 : Ref sig .tc := ⟨.hbm, 32, rfl⟩
abbrev main_c_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_7 : Ref sig .tc := ⟨.hbm, 37, rfl⟩
abbrev main_v24 : Ref sig .tc := ⟨.hbm, 38, rfl⟩
abbrev main_v25 : Ref sig .tc := ⟨.hbm, 39, rfl⟩
abbrev main_c_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_9 : Ref sig .tc := ⟨.hbm, 48, rfl⟩
abbrev main_v33 : Ref sig .tc := ⟨.hbm, 49, rfl⟩
abbrev main_v34 : Ref sig .tc := ⟨.hbm, 50, rfl⟩
abbrev main_cst_10 : Ref sig .tc := ⟨.hbm, 51, rfl⟩
abbrev main_v35 : Ref sig .tc := ⟨.hbm, 52, rfl⟩
abbrev main_v36 : Ref sig .tc := ⟨.hbm, 53, rfl⟩

abbrev nD : Nat := 1
abbrev τ : Topo := Topo.v7x

variable {F : FTy → Type} [FloatOps F]
-- ==== Proof.Sim.lean ====
/-
  A store narrowed to the part it changes. A masked vector store of a SparseCore tile is, on the machine,
  a load of the whole memref and a store of the whole memref; a proof in the logic then owes every element
  of it, those that keep their value included. This module replaces that store by a load of the memref and
  a store through a smaller rectangle of it, chosen from what the load answers, and proves that the
  replacement may be undone: whatever every fair run of the changed program establishes, every fair run of
  the program as printed does (`sim_run`). The load and the narrow store, taken at once, leave exactly what
  the whole store leaves, so each run of the printed program is matched by a run of the changed one that
  makes the two steps together.
-/
module

public import Idealize.ShloMosaic.Lib.Pipeline
public import Idealize.ShloMosaic.Lib.SparseCore
public import Idealize.ShloMosaic.Lib.Scf
public import Idealize.ShloMosaic.Machine.Run

@[expose] public section

namespace Cert.Sim

open Idealize.ShloMosaic Idealize.SL.Sem

/-! ## Runs of two step relations, one making some steps in two -/

section Runs

variable {nD : Nat} {τ : Topo} {sig : RefSig} {Val : EltTy → Type} {Λ : Labels}
variable {D D' : Defs nD τ sig Val Λ}

/-- A state relation under which `D'` answers each step of `D` by one step or by two of the same agent. -/
structure Answers (D D' : Defs nD τ sig Val Λ) (R : RunSt nD τ sig Val Λ → RunSt nD τ sig Val Λ → Prop) : Prop where
  mem : ∀ {s t}, R s t → s.mem = t.mem
  fin : ∀ {s t}, R s t → (Final s ↔ Final t)
  en : ∀ {s t} a, R s t → Enabled D' a t → Enabled D a s
  step : ∀ {s t a s'}, R s t → MeshStep D a s s' →
    (∃ t', MeshStep D' a t t' ∧ R s' t') ∨
      ∃ tm t', MeshStep D' a t tm ∧ ¬ Final tm ∧ (∀ b, Enabled D' b tm → Enabled D b s) ∧ MeshStep D' a tm t' ∧ R s' t'

variable {R : RunSt nD τ sig Val Λ → RunSt nD τ sig Val Λ → Prop}

/-- A state reached under `D` is related to one reached under `D'`. -/
theorem Answers.reaches (H : Answers D D' R) {s t s' : RunSt nD τ sig Val Λ} (h : R s t) (hr : Reaches D s s') :
    ∃ t', Reaches D' t t' ∧ R s' t' := by
  unfold Reaches at hr
  induction hr with
  | refl => exact ⟨t, .refl, h⟩
  | tail _ hst ih =>
    obtain ⟨t₁, ht₁, hR⟩ := ih
    obtain ⟨hn, a, hs⟩ := hst
    have hn' : ¬ Final t₁ := fun hf => hn ((H.fin hR).mpr hf)
    rcases H.step hR hs with ⟨t', h1, h2⟩ | ⟨tm, t', h1, h2, -, h3, h4⟩
    · exact ⟨t', .tail ht₁ ⟨hn', a, h1⟩, h2⟩
    · exact ⟨t', .tail (.tail ht₁ ⟨hn', a, h1⟩) ⟨h2, a, h3⟩, h4⟩

section Fair

variable {s₀ : RunSt nD τ sig Val Λ} (ρ : InfRun D s₀)

/-- Where the answering run stands: at a state related to the `n`-th of `ρ`, or between the two steps
    that answer the `n`-th step of `ρ`. -/
inductive Pos (D' : Defs nD τ sig Val Λ) (R : RunSt nD τ sig Val Λ → RunSt nD τ sig Val Λ → Prop) : Type 1
  | at (n : Nat) (t : RunSt nD τ sig Val Λ) (h : R (ρ.st n) t)
  | mid (n : Nat) (tm t' : RunSt nD τ sig Val Λ) (h₁ : ¬ Final tm) (h₂ : ∀ b, Enabled D' b tm → Enabled D b (ρ.st n))
      (h₃ : MeshStep D' (ρ.ag n) tm t') (h₄ : R (ρ.st (n + 1)) t')

namespace Pos

variable {ρ}

/-- The step of `ρ` being answered, -/
def idx : Pos ρ D' R → Nat
  | .at n _ _ => n
  | .mid n _ _ _ _ _ _ => n

/-- and the answering state. -/
def state : Pos ρ D' R → RunSt nD τ sig Val Λ
  | .at _ t _ => t
  | .mid _ tm _ _ _ _ _ => tm

/-- From each place the answering run makes a step, and two steps at most move `ρ` on. -/
theorem next_spec (H : Answers D D' R) (c : Pos ρ D' R) :
    ∃ c' : Pos ρ D' R, MeshStep D' (ρ.ag c.idx) c.state c'.state ∧
      (c'.idx = c.idx + 1 ∨ (c'.idx = c.idx ∧ (∃ n t h, c = .at n t h) ∧ ∃ n tm t' h₁ h₂ h₃ h₄, c' = .mid n tm t' h₁ h₂ h₃ h₄)) := by
  cases c with
  | «at» n t h =>
    rcases H.step h (ρ.step n).2 with ⟨t', h1, h2⟩ | ⟨tm, t', h1, h2, h5, h3, h4⟩
    · exact ⟨.at (n + 1) t' h2, h1, .inl rfl⟩
    · exact ⟨.mid n tm t' h2 h5 h3 h4, h1, .inr ⟨rfl, ⟨n, t, h, rfl⟩, n, tm, t', h2, h5, h3, h4, rfl⟩⟩
  | mid n tm t' h1 h2 h3 h4 => exact ⟨.at (n + 1) t' h4, h3, .inl rfl⟩

noncomputable def next (H : Answers D D' R) (c : Pos ρ D' R) : Pos ρ D' R := (next_spec H c).choose

theorem not_final (H : Answers D D' R) (c : Pos ρ D' R) : ¬ Final c.state := by
  cases c with
  | «at» n t h => exact fun hf => (ρ.step n).1 ((H.fin h).mpr hf)
  | mid n tm t' h1 h2 h3 h4 => exact h1

theorem enabled (H : Answers D D' R) (c : Pos ρ D' R) (a : Agent nD τ) (h : Enabled D' a c.state) : Enabled D a (ρ.st c.idx) := by
  cases c with
  | «at» n t h' => exact H.en a h' h
  | mid n tm t' h1 h2 h3 h4 => exact h2 a h

noncomputable def iter (H : Answers D D' R) (c : Pos ρ D' R) : Nat → Pos ρ D' R
  | 0 => c
  | k + 1 => next H (iter H c k)

theorem iter_idx (H : Answers D D' R) (c : Pos ρ D' R) (k : Nat) :
    ∃ j, k < j ∧ (iter H c j).idx = (iter H c k).idx + 1 := by
  rcases (next_spec H (iter H c k)).choose_spec.2 with h | ⟨h, -, n, tm, t', h1, h2, h3, h4, hc⟩
  · exact ⟨k + 1, Nat.lt_succ_self k, h⟩
  · refine ⟨k + 2, by omega, ?_⟩
    have hk : iter H c (k + 1) = .mid n tm t' h1 h2 h3 h4 := hc
    have hi : (iter H c (k + 1)).idx = (iter H c k).idx := h
    rcases (next_spec H (iter H c (k + 1))).choose_spec.2 with h' | ⟨-, ⟨m, t, g, hc'⟩, -⟩
    · rw [← hi]; exact h'
    · rw [hk] at hc'; cases hc'

theorem iter_reach (H : Answers D D' R) (c : Pos ρ D' R) (k d : Nat) :
    ∃ j, k ≤ j ∧ (iter H c j).idx = (iter H c k).idx + d := by
  induction d with
  | zero => exact ⟨k, le_rfl, rfl⟩
  | succ d ih =>
    obtain ⟨j, hj, he⟩ := ih
    obtain ⟨j', hj', he'⟩ := iter_idx H c j
    exact ⟨j', by omega, by omega⟩

end Pos

/-- The answering run. -/
noncomputable def Answers.run (H : Answers D D' R) {t₀ : RunSt nD τ sig Val Λ} (h₀ : R s₀ t₀) : InfRun D' t₀ where
  st := fun k => (Pos.iter H (.at 0 t₀ (by rw [ρ.head]; exact h₀) : Pos ρ D' R) k).state
  ag := fun k => ρ.ag (Pos.iter H (.at 0 t₀ (by rw [ρ.head]; exact h₀) : Pos ρ D' R) k).idx
  head := rfl
  step := fun k => ⟨Pos.not_final H _, (Pos.next_spec H _).choose_spec.1⟩

theorem Answers.run_fair (H : Answers D D' R) {t₀ : RunSt nD τ sig Val Λ} (h₀ : R s₀ t₀) (hρ : ρ.WeaklyFair) :
    (H.run ρ h₀).WeaklyFair := by
  intro a k hen
  set c : Pos ρ D' R := .at 0 t₀ (by rw [ρ.head]; exact h₀) with hc
  obtain ⟨n, hn, ha⟩ := hρ a (Pos.iter H c k).idx fun m hm => by
    obtain ⟨j, hj, he⟩ := Pos.iter_reach H c k (m - (Pos.iter H c k).idx)
    have : (Pos.iter H c j).idx = m := by omega
    rw [← this]
    exact Pos.enabled H _ a (hen j hj)
  obtain ⟨j, hj, he⟩ := Pos.iter_reach H c k (n - (Pos.iter H c k).idx)
  refine ⟨j, hj, ?_⟩
  show ρ.ag (Pos.iter H c j).idx = a
  rw [show (Pos.iter H c j).idx = n by omega, ha]

end Fair

/-- What every fair run from `t` under `D'` establishes, every fair run from a related `s` under `D` does. -/
theorem Answers.meshRun (H : Answers D D' R) {Q : MemSt nD τ sig Val → Prop} {s t : RunSt nD τ sig Val Λ} (h : R s t)
    (hr : MeshRun D' Q t) : MeshRun D Q s where
  post s' hs hf := by
    obtain ⟨t', ht, hR⟩ := H.reaches h hs
    rw [H.mem hR]
    exact hr.post t' ht ((H.fin hR).mp hf)
  progress s' hs hf := by
    obtain ⟨t', ht, hR⟩ := H.reaches h hs
    obtain ⟨a, t'', hst⟩ := hr.progress t' ht fun hf' => hf ((H.fin hR).mpr hf')
    obtain ⟨s'', hs''⟩ := H.en a hR ⟨t'', hst⟩
    exact ⟨a, s'', hs''⟩
  fair ρ hρ := hr.fair (H.run ρ h) (H.run_fair ρ h hρ)

end Runs

/-! ## Programs that differ in how much of a memref a store rewrites -/

section Progs

variable {nD : Nat} {τ : Topo} {sig : RefSig} {Val : EltTy → Type} {Λ : Labels} {p : Proc τ}

/-- The second program is the first with some stores narrowed: such a store is a load of the whole memref
    and a store that, on the contents the load answered with, leaves what the first's store leaves. -/
inductive Narrows : {α : Type} → Prog (TpuEff nD τ sig Val Λ p) α → Prog (TpuEff nD τ sig Val Λ p) α → Prop
  | ret {α : Type} (a : α) : Narrows (.ret a) (.ret a)
  | op {α β : Type} (e : TpuEff nD τ sig Val Λ p β) {k k' : β → Prog (TpuEff nD τ sig Val Λ p) α}
      (h : ∀ x, Narrows (k x) (k' x)) : Narrows (.op e k) (.op e k')
  | store {α : Type} {cs : CoreSpace} {s : Shape} {e : EltTy} (m : Memref sig p.kind cs s e) (r : Rect s) (w : r.shape.Idx → Val e)
      (M : Finset r.shape.Idx) (hx : (m.access r).Stores M) (hm : M = Finset.univ ∨ ∀ a, r.stride a = 1)
      (l : LoadRect s) (hl : m.view.LoadsAt l)
      (pick : (l.shape.Idx → Val e) → (r' : Rect s) × (r'.shape.Idx → Val e) × Finset r'.shape.Idx)
      (hx' : ∀ f, (m.access (pick f).1).Stores (pick f).2.2)
      (hm' : ∀ f, (pick f).2.2 = Finset.univ ∨ ∀ a, (pick f).1.stride a = 1)
      (hw : ∀ b : m.view.ty.Contents Val, (m.access r).write Val b w M =
        (m.access (pick (m.view.readAt Val l b)).1).write Val b (pick (m.view.readAt Val l b)).2.1 (pick (m.view.readAt Val l b)).2.2)
      (hn : ∀ f, M.Nonempty ↔ (pick f).2.2.Nonempty)
      {k k' : PUnit → Prog (TpuEff nD τ sig Val Λ p) α} (h : ∀ x, Narrows (k x) (k' x)) :
      Narrows (.op (.store m r w M hx hm) k)
        (.op (.load m l hl) fun f => .op (.store m (pick f).1 (pick f).2.1 (pick f).2.2 (hx' f) (hm' f)) k')

namespace Narrows

theorem refl {α : Type} (q : Prog (TpuEff nD τ sig Val Λ p) α) : Narrows q q := by
  induction q with
  | ret a => exact .ret a
  | op e k ih => exact .op e ih

theorem bind {α β : Type} {q q' : Prog (TpuEff nD τ sig Val Λ p) α} (h : Narrows q q') :
    ∀ {k k' : α → Prog (TpuEff nD τ sig Val Λ p) β}, (∀ x, Narrows (k x) (k' x)) → Narrows (q >>= k) (q' >>= k') := by
  induction h with
  | ret a => exact fun hk => hk a
  | op e _ ih => exact fun hk => .op e fun x => ih x hk
  | store m r w M hx hm l hl pick hx' hm' hw hn _ ih =>
    exact fun hk => .store m r w M hx hm l hl pick hx' hm' hw hn fun x => ih x hk

theorem inl {Λ' : Labels} {α : Type} {q q' : Prog (TpuEff nD τ sig Val Λ p) α} (h : Narrows q q') :
    Narrows (TpuEff.inlProg (Λ' := Λ') q) (TpuEff.inlProg (Λ' := Λ') q') := by
  induction h with
  | ret a => exact .ret a
  | op e _ ih => exact .op e.inl ih
  | store m r w M hx hm l hl pick hx' hm' hw hn _ ih =>
    exact .store m r w M hx hm l hl pick hx' hm' hw hn ih

theorem forFrom {σ : Type} {n : Nat} {b b' : Fin n → σ → Prog (TpuEff nD τ sig Val Λ p) σ} (h : ∀ k a, Narrows (b k a) (b' k a))
    (ks : List (Fin n)) (a : σ) : Narrows (Scf.forFrom b ks a) (Scf.forFrom b' ks a) := by
  induction ks generalizing a with
  | nil => exact .ret a
  | cons k ks ih => exact (h k a).bind ih

theorem «for» {σ : Type} {w : Nat} (l : Scf.Loop w) (hok : l.OK) (a : σ)
    {b b' : Fin l.trips → σ → Prog (TpuEff nD τ sig Val Λ p) σ} (h : ∀ k a, Narrows (b k a) (b' k a)) :
    Narrows (Scf.Loop.for l hok a b) (Scf.Loop.for l hok a b') := by
  rw [Scf.Loop.for, Scf.Loop.for, Scf.for_eq, Scf.for_eq]
  exact forFrom h _ a

end Narrows

/-- Body tables related at every processor and label. -/
def DefsNarrow (D D' : Defs nD τ sig Val Λ) : Prop := ∀ (q : Proc τ) (ℓ : Λ.Label) (a : Λ.Args ℓ), Narrows (D q ℓ a) (D' q ℓ a)

theorem DefsNarrow.pipeline {P : Type} [Fintype P] (pcs : P → Pipeline.PCfg sig Λ Val) {D D' : Defs nD τ sig Val Λ} (h : DefsNarrow D D') :
    DefsNarrow (Pipeline.defs pcs D) (Pipeline.defs pcs D') := by
  intro q ℓ a
  rcases ℓ with ℓ | ℓ
  · exact (h q ℓ a).inl
  · rcases q with _ | _ | _ <;> rcases ℓ with _ | _ <;> exact .refl _

theorem DefsNarrow.sparse {Q : Nat} (K : SparseCore.Cfg τ sig Λ Q) {D D' : Defs nD τ sig Val Λ} (h : DefsNarrow D D') :
    DefsNarrow (K.defs D) (K.defs D') := by
  intro q ℓ a
  rcases ℓ with ℓ | ℓ
  · exact (h q ℓ a).inl
  · rcases q with _ | _ | _ <;> exact .refl _

/-! ## Their steps -/

variable {c : Thread nD τ} {D D' : Defs nD τ sig Val Λ} {P : Phys nD τ sig Val}
  {sp tp : (c : Thread nD τ) → Option (Prog (TpuEff nD τ sig Val Λ c.2) PUnit)} {ω : Valuation τ sig Val}

/-- The two programs at the same effect make the same step. -/
theorem step_op (hD : DefsNarrow D D') {β : Type} {e : TpuEff nD τ sig Val Λ c.2 β}
    {k k' : β → Prog (TpuEff nD τ sig Val Λ c.2) PUnit} (hk : ∀ x, Narrows (k x) (k' x))
    {p' : Option (Prog (TpuEff nD τ sig Val Λ c.2) PUnit)} {m' : RunSt nD τ sig Val Λ}
    (h : coreStepInner D c ⟨P, sp⟩ ω (.op e k) = some (p', m')) :
    ∃ p'' P', m' = ⟨P', sp⟩ ∧ Option.Rel Narrows p' p'' ∧ coreStepInner D' c ⟨P, tp⟩ ω (.op e k') = some (p'', ⟨P', tp⟩) := by
  cases e
  case call ℓ a =>
    simp only [coreStepInner, Option.some.injEq, Prod.mk.injEq] at h
    obtain ⟨rfl, rfl⟩ := h
    exact ⟨_, _, rfl, .some ((hD _ _ _).bind hk), rfl⟩
  case customCall ℓ a =>
    simp only [coreStepInner, Option.some.injEq, Prod.mk.injEq] at h
    obtain ⟨rfl, rfl⟩ := h
    exact ⟨_, _, rfl, .some ((hD _ _ _).bind fun x => .op _ fun _ => hk x), rfl⟩
  all_goals
    simp only [coreStepInner, Option.map_eq_some_iff, Prod.mk.injEq] at h
    obtain ⟨⟨x, P'⟩, he, rfl, rfl⟩ := h
    refine ⟨some (k' x), P', rfl, .some (hk x), ?_⟩
    simp only [coreStepInner, he, Option.map_some]

/-- Whether a program has a step depends on its effect alone. -/
theorem some_op {β : Type} {e : TpuEff nD τ sig Val Λ c.2 β} {k k' : β → Prog (TpuEff nD τ sig Val Λ c.2) PUnit}
    (h : (coreStepInner D' c ⟨P, tp⟩ ω (.op e k')).isSome) : (coreStepInner D c ⟨P, sp⟩ ω (.op e k)).isSome := by
  cases e
  case call ℓ a => rfl
  case customCall ℓ a => rfl
  all_goals simpa only [coreStepInner, Option.isSome_map] using h

/-- The state relation: the same interpreted state, every thread's programs related. -/
def Rel (s t : RunSt nD τ sig Val Λ) : Prop := s.toPhys = t.toPhys ∧ ∀ c, Option.Rel Narrows (s.prog c) (t.prog c)

theorem Rel.final {s t : RunSt nD τ sig Val Λ} (h : Rel s t) : Final s ↔ Final t := by
  refine forall_congr' fun c => ?_
  have := h.2 c
  revert this
  cases s.prog c <;> cases t.prog c <;> intro h <;> cases h <;> simp

theorem Rel.setProg {s t : RunSt nD τ sig Val Λ} (h : ∀ c, Option.Rel Narrows (s.prog c) (t.prog c)) {P : Phys nD τ sig Val} (c : Thread nD τ)
    {q q' : Option (Prog (TpuEff nD τ sig Val Λ c.2) PUnit)} (hq : Option.Rel Narrows q q') :
    Rel ((⟨P, s.prog⟩ : RunSt nD τ sig Val Λ).setProg c q) ((⟨P, t.prog⟩ : RunSt nD τ sig Val Λ).setProg c q') := by
  refine ⟨rfl, fun d => ?_⟩
  show Option.Rel Narrows (Function.update s.prog c q d) (Function.update t.prog c q' d)
  by_cases hd : d = c
  · subst hd; rw [Function.update_self, Function.update_self]; exact hq
  · rw [Function.update_of_ne hd, Function.update_of_ne hd]; exact h d

/-- A thread's step is the step at its residual program. -/
theorem coreStep_of {D : Defs nD τ sig Val Λ} {s : RunSt nD τ sig Val Λ} {q : Prog (TpuEff nD τ sig Val Λ c.2) PUnit} (hq : s.prog c = some q)
    {r : Option (Option (Prog (TpuEff nD τ sig Val Λ c.2) PUnit) × RunSt nD τ sig Val Λ)} (h : coreStepInner D c s ω q = r) :
    coreStep D c s ω = r := by
  rw [coreStep, hq]; exact h

/-- A thread at a program has a step of the mesh when the program has one. -/
theorem enabled_thread {D : Defs nD τ sig Val Λ} {s : RunSt nD τ sig Val Λ} {q : Prog (TpuEff nD τ sig Val Λ c.2) PUnit} (hq : s.prog c = some q)
    (h : (coreStepInner D c s ω q).isSome) : Enabled D (.thread c) s := by
  obtain ⟨⟨p', m'⟩, hs⟩ := Option.isSome_iff_exists.mp h
  exact ⟨_, .core c ω (p' := p') (m' := m') (by rw [coreStep, hq]; exact hs)⟩

/-- An agent enabled at the second of two states with one interpreted part is enabled at the first, if it
    is no thread. -/
theorem enabled_engine {D D' : Defs nD τ sig Val Λ} {s t : RunSt nD τ sig Val Λ} (hP : s.toPhys = t.toPhys) {a : Agent nD τ}
    (ha : ∀ c, a ≠ .thread c) (h : Enabled D' a t) : Enabled D a s := by
  obtain ⟨P, sp⟩ := s
  obtain ⟨P', tp⟩ := t
  obtain rfl : P = P' := hP
  obtain ⟨t', h⟩ := h
  cases h with
  | core c ω h => exact absurd rfl (ha c)
  | dmaRead i M alt h hM => exact ⟨_, .dmaRead i M alt h hM⟩
  | dmaWrite i M h hM => exact ⟨_, .dmaWrite i M h hM⟩
  | dmaPaySrc i k h hk => exact ⟨_, .dmaPaySrc i k h hk⟩
  | dmaPayDst i k h hk => exact ⟨_, .dmaPayDst i k h hk⟩
  | dmaRetire i h hk => exact ⟨_, .dmaRetire i h hk⟩
  | serve i k alt h hk => exact ⟨_, .serve i k alt h hk⟩
  | deliver i h => exact ⟨_, .deliver i h⟩

theorem enabled_of_narrows {D D' : Defs nD τ sig Val Λ} {s t : RunSt nD τ sig Val Λ} (hP : s.toPhys = t.toPhys)
    (hc : Option.Rel Narrows (s.prog c) (t.prog c)) (h : Enabled D' (.thread c) t) : Enabled D (.thread c) s := by
  obtain ⟨P, sp⟩ := s
  obtain ⟨P', tp⟩ := t
  obtain rfl : P = P' := hP
  obtain ⟨t', h⟩ := h
  cases h with
  | core c ω h =>
    rename_i p' m'
    rw [coreStep] at h
    obtain ⟨q', hq', h⟩ := Option.bind_eq_some_iff.mp h
    have hq'' : tp c = some q' := hq'
    obtain ⟨q, hq, hN⟩ : ∃ q, sp c = some q ∧ Narrows q q' := by
      have hc' : Option.Rel Narrows (sp c) (tp c) := hc
      rw [hq''] at hc'
      cases hs : sp c with
      | none => rw [hs] at hc'; cases hc'
      | some q => rw [hs] at hc'; cases hc' with | some hN => exact ⟨q, rfl, hN⟩
    refine enabled_thread (ω := ω) (q := q) hq ?_
    cases hN with
    | ret a => rfl
    | op e hk => exact some_op (by rw [h]; rfl)
    | store m r w M hx hm l hl pick hx' hm' hw hn hk => rfl

/-- The two programs' runs answer each other. -/
theorem answers (hD : DefsNarrow D D') : Answers D D' (Rel (nD := nD) (τ := τ) (sig := sig) (Val := Val) (Λ := Λ)) where
  mem h := congrArg Phys.mem h.1
  fin h := h.final
  en a h hen := by
    rcases a with c | n | n
    · exact enabled_of_narrows h.1 (h.2 c) hen
    · exact enabled_engine h.1 (fun _ h => by cases h) hen
    · exact enabled_engine h.1 (fun _ h => by cases h) hen
  step {s t a s'} hR h := by
    obtain ⟨P, sp⟩ := s
    obtain ⟨P', tp⟩ := t
    obtain ⟨hP, hc⟩ := hR
    obtain rfl : P = P' := hP
    cases h with
    | dmaRead i M alt h hM => exact .inl ⟨_, .dmaRead i M alt h hM, rfl, hc⟩
    | dmaWrite i M h hM => exact .inl ⟨_, .dmaWrite i M h hM, rfl, hc⟩
    | dmaPaySrc i k h hk => exact .inl ⟨_, .dmaPaySrc i k h hk, rfl, hc⟩
    | dmaPayDst i k h hk => exact .inl ⟨_, .dmaPayDst i k h hk, rfl, hc⟩
    | dmaRetire i h hk => exact .inl ⟨_, .dmaRetire i h hk, rfl, hc⟩
    | serve i k alt h hk => exact .inl ⟨_, .serve i k alt h hk, rfl, hc⟩
    | deliver i h => exact .inl ⟨_, .deliver i h, rfl, hc⟩
    | core c ω h =>
      rename_i p' m'
      rw [coreStep] at h
      obtain ⟨q, hq, h⟩ := Option.bind_eq_some_iff.mp h
      have hq' : sp c = some q := hq
      obtain ⟨q', hq'', hN⟩ : ∃ q', tp c = some q' ∧ Narrows q q' := by
        have hc' := hc c
        simp only [hq'] at hc'
        cases hs : tp c with
        | none => rw [hs] at hc'; cases hc'
        | some q => rw [hs] at hc'; cases hc' with | some hN => exact ⟨q, rfl, hN⟩
      cases hN with
      | ret a =>
        simp only [coreStepInner, Option.some.injEq, Prod.mk.injEq] at h
        obtain ⟨rfl, rfl⟩ := h
        refine .inl ⟨(⟨P, tp⟩ : RunSt nD τ sig Val Λ).setProg c none, .core c ω (coreStep_of (s := ⟨P, tp⟩) hq'' rfl), ?_⟩
        exact Rel.setProg (s := ⟨P, sp⟩) (t := ⟨P, tp⟩) hc c .none
      | op e hk =>
        obtain ⟨p'', P', rfl, hp, hs⟩ := step_op (tp := tp) hD hk h
        refine .inl ⟨(⟨P', tp⟩ : RunSt nD τ sig Val Λ).setProg c p'', .core c ω (coreStep_of (s := ⟨P, tp⟩) hq'' hs), ?_⟩
        exact Rel.setProg (s := ⟨P, sp⟩) (t := ⟨P, tp⟩) hc c hp
      | store m r w M hx hm l hl pick hx' hm' hw hn hk =>
        rename_i k k'
        simp only [coreStepInner, effStep, Option.map_some, Option.some.injEq, Prod.mk.injEq] at h
        obtain ⟨rfl, rfl⟩ := h
        let f := m.view.readAt Val l (P.mem.mem (m.view.loc c))
        let tm : RunSt nD τ sig Val Λ := (⟨P, tp⟩ : RunSt nD τ sig Val Λ).setProg c
          (some (.op (.store m (pick f).1 (pick f).2.1 (pick f).2.2 (hx' f) (hm' f)) k'))
        have htm : tm.prog c = some (.op (.store m (pick f).1 (pick f).2.1 (pick f).2.2 (hx' f) (hm' f)) k') := Function.update_self ..
        have hen : Enabled D (.thread c) (⟨P, sp⟩ : RunSt nD τ sig Val Λ) := enabled_thread (ω := ω) hq' rfl
        refine .inr ⟨tm, (⟨_, tm.prog⟩ : RunSt nD τ sig Val Λ).setProg c (some (k' ⟨⟩)),
          .core c ω (coreStep_of (s := ⟨P, tp⟩) hq'' rfl), fun hf => (by have := hf c; rw [htm] at this; cases this), ?_,
          .core c ω (coreStep_of htm rfl), ?_⟩
        · intro b hb
          rcases b with d | n | n
          · by_cases hd : d = c
            · subst hd; exact hen
            · refine enabled_of_narrows (t := tm) rfl ?_ hb
              show Option.Rel Narrows (sp d) (Function.update tp c _ d)
              rw [Function.update_of_ne hd]; exact hc d
          · exact enabled_engine (s := ⟨P, sp⟩) (t := tm) rfl (fun _ h => by cases h) hb
          · exact enabled_engine (s := ⟨P, sp⟩) (t := tm) rfl (fun _ h => by cases h) hb
        · have hmem : P.mem.writeView c (m.access r) w M =
              P.mem.writeView c (m.access (pick f).1) (pick f).2.1 (pick f).2.2 :=
            congrArg (P.mem.write (m.view.loc c)) (hw (P.mem.mem (m.view.loc c)))
          have hops : Phys.touch P.ops c.1 (c.2.devRef m.view.ref) M = Phys.touch P.ops c.1 (c.2.devRef m.view.ref) (pick f).2.2 := by
            unfold Phys.touch
            simp only [hn f]
          refine ⟨?_, fun d => ?_⟩
          · show (⟨P.mem.writeView c (m.access r) w M, P.dmas, P.streams, P.sigs, Phys.touch P.ops c.1 (c.2.devRef m.view.ref) M, P.issued⟩ :
                Phys nD τ sig Val) =
              ⟨P.mem.writeView c (m.access (pick f).1) (pick f).2.1 (pick f).2.2, P.dmas, P.streams, P.sigs,
                Phys.touch P.ops c.1 (c.2.devRef m.view.ref) (pick f).2.2, P.issued⟩
            rw [hmem, hops]
          · show Option.Rel Narrows (Function.update sp c _ d) (Function.update (Function.update tp c _) c _ d)
            by_cases hd : d = c
            · subst hd; rw [Function.update_self, Function.update_self]; exact .some (hk _)
            · rw [Function.update_of_ne hd, Function.update_of_ne hd, Function.update_of_ne hd]; exact hc d

/-- What every fair run of the threads `q` establishes with the narrowed bodies, every fair run of them
    establishes with the bodies as they were. -/
theorem sim_run (hD : DefsNarrow D D') (q : (c : Thread nD τ) → Prog (TpuEff nD τ sig Val Λ c.2) PUnit)
    (s : MemSt nD τ sig Val) (Q : PUnit × MemSt nD τ sig Val → Prop) (h : θ_run D' q s Q) : θ_run D q s Q :=
  (answers hD).meshRun (s := load q s) (t := load q s) ⟨rfl, fun _ => .some (.refl _)⟩ h

end Progs

end Cert.Sim
-- ==== Proof.Body.lean ====
/-
  The kernel's body, written once over the row, the half of the row buffer and the scatter it calls: the
  printed text is this program at the scatter it names, and this program at a scatter that writes the row
  buffer's own half narrows it.
-/
module

public import proofs.«01_k».proof.KernelIdeal
public import proofs.«01_k».proof.Proof.Gen.KernelIdeal
public import proofs.«01_k».proof.Proof.Sim
public import Idealize.ShloMosaic.Lib.SparseCore

@[expose] public section

namespace Cert.Body

open Idealize.ShloMosaic Idealize.SL.Sem
open Cert.KernelIdeal Cert.KernelIdeal.Facts₀ Cert.KernelIdeal.Facts
open Cert.Sim

variable {F : FTy → Type} [FloatOps F]
variable [Cert.KernelIdeal.Facts₀] [Cert.KernelIdeal.Facts]

/-- The hands, in HBM. -/
abbrev hands : Memref sig .scVector .hbm S4096x256 .i32 := Memref.whole main_arg0_scv
/-- The result, in HBM. -/
abbrev out : Memref sig .scVector .hbm S4096x12288 .f32 := Memref.whole main_v0_scv
/-- The tile's rows of the hands. -/
abbrev handsV : Memref sig .scVector .vmem S128x256 .i32 := Memref.whole cc0_scratch0
/-- The tile's two rows of the result. -/
abbrev rowbuf : Memref sig .scVector .vmem S24576 .f32 := Memref.whole cc0_scratch1

/-- The programs of the tile at grid point `i`. -/
abbrev TileProg (F : FTy → Type) (i : grid0.Coords) (α : Type) :=
  Prog (TpuEff nD τ sig (Elt F) Λ₀ (.scVector ((i 0).castLE hcore0) ((i 1).castLE hsub0))) α

/-- A scatter of the tile, told which half it writes: at these indices these values, where the mask is set. -/
abbrev Step (F : FTy → Type) (i : grid0.Coords) :=
  Fin 2 → IVec S16 32 → FVec F S16 .f32 → IVec S16 1 → TileProg F i PUnit

/-- The scatter the kernel calls. -/
def scat (i : grid0.Coords) : Step F i := fun _ v val mask =>
  .op (.assume (k0_chk1 v) (k0_chk1.dec v)) fun hw =>
    SparseCore.vectorStoreIdx rowbuf ![v] val mask false (k0_idx1_inb v hw.down) (View.stores_vmem_bits_univ h_S24576 rfl)

/-- The first of a hand's three columns in the half `p`, as the kernel computes it. -/
def idx (p : Fin 2) (h : IVec S16 32) : IVec S16 32 :=
  maxsi (addi (muli h (broadcast S16 3#32)) (broadcast S16 (![4294967293#32, 12285#32] p))) (broadcast S16 0#32)

theorem inb_chunk {r c : Nat} (hr : r < 128) (hc : c < 16) :
    ∀ a, (![r, 16 * c] : Fin 2 → Nat) a + S1x16.size a ≤ S128x256.size a := by
  intro a
  match a with
  | 0 => show r + 1 ≤ 128; omega
  | 1 => show 16 * c + 16 ≤ 256; omega

/-- Sixteen hands of row `r` scattered. -/
def chunk {i : grid0.Coords} (st : Step F i) (p : Fin 2) (val : FVec F S16 .f32) (r c : Nat) (hr : r < 128) (hc : c < 16) : TileProg F i PUnit :=
  .op (.load handsV (Rect.unit (s := S128x256) ![r, 16 * c] S1x16.size (inb_chunk hr hc)).toLoadRect (View.loadsAt_vmem h_S1x16)) fun ld =>
    st p (idx p (shapeCast S16 ld shapeCasts_S1x16_S16)) val (cmpi .sge (shapeCast S16 ld shapeCasts_S1x16_S16) (broadcast S16 1#32)) >>= fun _ =>
    st p (addi (idx p (shapeCast S16 ld shapeCasts_S1x16_S16)) (broadcast S16 1#32)) val (cmpi .sge (shapeCast S16 ld shapeCasts_S1x16_S16) (broadcast S16 1#32)) >>= fun _ =>
    st p (addi (idx p (shapeCast S16 ld shapeCasts_S1x16_S16)) (broadcast S16 2#32)) val (cmpi .sge (shapeCast S16 ld shapeCasts_S1x16_S16) (broadcast S16 1#32))

/-- The `n` chunks of a row from `c` on. -/
def rowFrom {i : grid0.Coords} (st : Step F i) (p : Fin 2) (val : FVec F S16 .f32) (r : Nat) (hr : r < 128) :
    (n c : Nat) → c + n ≤ 16 → TileProg F i PUnit
  | 0, _, _ => .ret ⟨⟩
  | n + 1, c, h => chunk st p val r c hr (by omega) >>= fun _ => rowFrom st p val r hr n (c + 1) (by omega)

/-- A row's hands scattered. -/
abbrev row {i : grid0.Coords} (st : Step F i) (p : Fin 2) (val : FVec F S16 .f32) (r : Nat) (hr : r < 128) : TileProg F i PUnit :=
  rowFrom st p val r hr 16 0 (le_refl 16)

/-- What an empty entry of the result reads. -/
def hole : FVec F S16 .f32 := broadcast S16 (Scalar.ofBits .f32 0xC2C80000#32)
/-- What an entry some hand names reads. -/
def zero : FVec F S16 .f32 := broadcast S16 (Scalar.ofBits .f32 0x00000000#32)

theorem inb_half (p : Fin 2) : ∀ a, (![12288 * p.val] : Fin 1 → Nat) a + S12288.size a ≤ S24576.size a := by
  intro a
  match a with
  | 0 => show 12288 * p.val + 12288 ≤ 24576; omega

/-- The half `p` of the row buffer. -/
abbrev half (p : Fin 2) : Memref sig .scVector .vmem S12288 .f32 :=
  rowbuf.slice (Rect.unit (s := S24576) ![12288 * p.val] S12288.size (inb_half p)) (fun _ => rfl)
/-- A row of the result. -/
abbrev outRow (off : Fin 2 → Nat) (h : ∀ a, off a + S1x12288.size a ≤ S4096x12288.size a) : Memref sig .scVector .hbm S12288 .f32 :=
  (out.slice (Rect.unit (s := S4096x12288) off S1x12288.size h) (fun _ => rfl)).squeeze S12288 squeezes_S1x12288_S12288
/-- The half's semaphore. -/
abbrev sem : Fin 2 → DmaSems sig S_ := ![cc0_scratch2, cc0_scratch3]

/-- The copy of half `p` to a row of the result starts. -/
abbrev start (i : grid0.Coords) (p : Fin 2) (off : Fin 2 → Nat) (h : ∀ a, off a + S1x12288.size a ≤ S4096x12288.size a) :
    TpuEff nD τ sig (Elt F) Λ₀ (.scVector ((i 0).castLE hcore0) ((i 1).castLE hsub0)) PUnit :=
  .enqueueDma (half p) (.here (outRow off h)) (.dma (sem p).sem) (View.wordExact_bits rfl) ((View.wordExact_bits rfl).reshape _ _) ⟨Or.inl rfl, trivial⟩
/-- The wait for it. -/
abbrev await (i : grid0.Coords) (p : Fin 2) (off : Fin 2 → Nat) (h : ∀ a, off a + S1x12288.size a ≤ S4096x12288.size a) :
    TpuEff nD τ sig (Elt F) Λ₀ (.scVector ((i 0).castLE hcore0) ((i 1).castLE hsub0)) PUnit :=
  .waitDma2 (sem p).sem (half p) (outRow off h) (View.wordExact_bits rfl) ((View.wordExact_bits rfl).reshape _ _)

/-- A trip's offsets of the row it waits for and of the row it starts, and its rows of the tile's hands. -/
abbrev offWait (i : grid0.Coords) (t : Fin k0_t2_loop.trips) (p : Fin 2) : Fin 2 → Nat := (![k0_off5 i t, k0_off39 i t] : Fin 2 → Fin 2 → Nat) p
abbrev offStart (i : grid0.Coords) (t : Fin k0_t2_loop.trips) (p : Fin 2) : Fin 2 → Nat := (![k0_off38 i t, k0_off72 i t] : Fin 2 → Fin 2 → Nat) p
abbrev rowOld (t : Fin k0_t2_loop.trips) (p : Fin 2) : Nat := (![k0_off6 t 0, k0_off40 t 0] : Fin 2 → Nat) p
abbrev rowNew (t : Fin k0_t2_loop.trips) (p : Fin 2) : Nat := (![k0_off22 t 0, k0_off56 t 0] : Fin 2 → Nat) p

theorem offWait_inb (i : grid0.Coords) (t : Fin k0_t2_loop.trips) (p : Fin 2) : ∀ a, offWait i t p a + S1x12288.size a ≤ S4096x12288.size a := by
  match p with
  | 0 => exact k0_off5_inb i t
  | 1 => exact k0_off39_inb i t
theorem offStart_inb (i : grid0.Coords) (t : Fin k0_t2_loop.trips) (p : Fin 2) : ∀ a, offStart i t p a + S1x12288.size a ≤ S4096x12288.size a := by
  match p with
  | 0 => exact k0_off38_inb i t
  | 1 => exact k0_off72_inb i t
theorem rowOld_lt (t : Fin k0_t2_loop.trips) (p : Fin 2) : rowOld t p < 128 := by
  match p with
  | 0 => exact k0_off6_inb t 0
  | 1 => exact k0_off40_inb t 0
theorem rowNew_lt (t : Fin k0_t2_loop.trips) (p : Fin 2) : rowNew t p < 128 := by
  match p with
  | 0 => exact k0_off22_inb t 0
  | 1 => exact k0_off56_inb t 0

/-- A trip's work on the half `p`. -/
def turn {i : grid0.Coords} (st : Step F i) (t : Fin k0_t2_loop.trips) (p : Fin 2) : TileProg F i PUnit :=
  .op (await i p (offWait i t p) (offWait_inb i t p)) fun _ =>
    row st p hole (rowOld t p) (rowOld_lt t p) >>= fun _ =>
    row st p zero (rowNew t p) (rowNew_lt t p) >>= fun _ =>
    .op (start i p (offStart i t p) (offStart_inb i t p)) fun _ => .ret ⟨⟩

def trip {i : grid0.Coords} (st : Step F i) (t : Fin k0_t2_loop.trips) (_ : PUnit) : TileProg F i PUnit :=
  turn st t 0 >>= fun _ => turn st t 1

/-- A trip of the loop that fills the row buffer. -/
def fill (i : grid0.Coords) (t : Fin k0_t1_loop.trips) (_ : PUnit) : TileProg F i PUnit :=
  .op (.load rowbuf (Rect.unit (s := S24576) (k0_off2 t) S16.size (k0_off2_inb t)).toLoadRect (View.loadsAt_vmem h_S16)) fun _ =>
    .op (.store rowbuf (Rect.unit (s := S24576) (k0_off2 t) S16.size (k0_off2_inb t)) hole Finset.univ (View.stores_vmem_bits_univ h_S16 rfl) (.inl rfl)) fun _ =>
      .ret ⟨⟩

/-- After the loop. -/
def tail (i : grid0.Coords) : TileProg F i PUnit :=
  .op (await i 0 (k0_off4 i 126#32) (k0_off4_inb i 1)) fun _ =>
    .op (await i 1 (k0_off4 i 127#32) (k0_off4_inb i 2)) fun _ => .ret ⟨⟩

/-- From the first row on. -/
def rows {i : grid0.Coords} (st : Step F i) : TileProg F i PUnit :=
  row st 0 zero 0 (by decide) >>= fun _ =>
  .op (start i 0 (k0_off3 i) (k0_off3_inb i)) fun _ =>
    row st 1 zero 1 (by decide) >>= fun _ =>
    .op (start i 1 (k0_off4 i 1#32) (k0_off4_inb i 0)) fun _ =>
      Scf.Loop.for k0_t2_loop k0_t2_ok ⟨⟩ (trip st) >>= fun _ => tail i

/-- The body. -/
def body {i : grid0.Coords} (st : Step F i) : TileProg F i PUnit :=
  .op (.enqueueDma (hands.slice (Rect.unit (s := S4096x256) (k0_off1 i) S128x256.size (k0_off1_inb i)) (fun _ => rfl)) (.here handsV) (.dma cc0_scoped0.sem)
      (View.wordExact_bits rfl) (Memref.isWhole_whole _).wordExact ⟨Or.inl rfl, trivial⟩) fun _ =>
    .op (.waitDma2 cc0_scoped0.sem (hands.slice (Rect.unit (s := S4096x256) (k0_off1 i) S128x256.size (k0_off1_inb i)) (fun _ => rfl)) handsV
        (View.wordExact_bits rfl) (Memref.isWhole_whole _).wordExact) fun _ =>
      Scf.Loop.for k0_t1_loop k0_t1_ok ⟨⟩ (fill i) >>= fun _ => rows st

theorem op_congr {E : Type → Type} {α β : Type} (e : E β) {k k' : β → Prog E α} (h : ∀ x, k x = k' x) : Prog.op e k = Prog.op e k' :=
  congrArg (Prog.op e) (funext h)

theorem for_congr {E : Type → Type} {α : Type} {w : Nat} {l : Scf.Loop w} {hok : l.OK} {f f' : Fin l.trips → PUnit → Prog E PUnit}
    {k k' : PUnit → Prog E α} (hf : ∀ t x, f t x = f' t x) (hk : ∀ x, k x = k' x) :
    Scf.Loop.for l hok ⟨⟩ f >>= k = Scf.Loop.for l hok ⟨⟩ f' >>= k' := by
  rw [show f = f' from funext fun t => funext fun x => hf t x, show k = k' from funext hk]

section
set_option maxRecDepth 100000
set_option pp.maxSteps 300
set_option maxHeartbeats 40000000

theorem body_scat (i : grid0.Coords) :
    cc0__tec_body (F := F) i hands (Memref.isWhole_whole _) out (Memref.isWhole_whole _) handsV (Memref.isWhole_whole _) rowbuf (Memref.isWhole_whole _)
      cc0_scratch2 cc0_scratch3 cc0_scoped0 = body (scat i) := by
  unfold cc0__tec_body k0_part48 k0_part32 k0_part33 k0_part34 k0_part35 k0_part36 k0_part37 k0_part38 k0_part39 k0_part40
    k0_part41 k0_part42 k0_part43 k0_part44 k0_part45 k0_part46 k0_part47
  simp only [bind_assoc, pure_bind]
  refine op_congr _ fun _ => ?_
  refine op_congr _ fun _ => ?_
  refine for_congr (fun t x => ?_) fun _ => ?_
  · rfl
  iterate 322 (refine op_congr _ fun _ => ?_)
  refine for_congr (fun t x => ?_) fun _ => ?_
  · clear * -
    unfold k0_part31 k0_part1 k0_part2 k0_part3 k0_part4 k0_part5 k0_part6 k0_part7 k0_part8 k0_part9 k0_part10 k0_part11 k0_part12
      k0_part13 k0_part14 k0_part15 k0_part16 k0_part17 k0_part18 k0_part19 k0_part20 k0_part21 k0_part22 k0_part23 k0_part24
      k0_part25 k0_part26 k0_part27 k0_part28 k0_part29 k0_part30
    simp only [bind_assoc, pure_bind]
    iterate 644 (refine op_congr _ fun _ => ?_)
    rfl
  · rfl

end

end Cert.Body
-- ==== Proof.Narrow.lean ====
/-
  The scatter narrowed to the half of the row buffer it writes, and the kernel's body table with it.
-/
module

public import proofs.«01_k».proof.Proof.Body

@[expose] public section

set_option maxRecDepth 65536

namespace Cert.Body

open Idealize.ShloMosaic Idealize.SL.Sem
open Cert.KernelIdeal Cert.KernelIdeal.Facts₀ Cert.KernelIdeal.Facts
open Cert.Sim

variable {F : FTy → Type} [FloatOps F]
variable [Cert.KernelIdeal.Facts₀] [Cert.KernelIdeal.Facts]

/-- The elements of the row buffer's half `p`. -/
abbrev halfRect (p : Fin 2) : Rect S24576 := Rect.unit (s := S24576) ![12288 * p.val] S12288.size (inb_half p)

open scoped Classical in
/-- Where to store the scattered contents `w` over the contents `f`: through the half where they agree off it. -/
noncomputable def pick (p : Fin 2) (w f : S24576.Idx → Elt F .f32) :
    (r : Rect S24576) × (r.shape.Idx → Elt F .f32) × Finset r.shape.Idx :=
  if ∀ x, x ∉ Finset.univ.map (halfRect p).emb → w x = f x then ⟨halfRect p, fun y => w ((halfRect p).emb y), Finset.univ⟩
  else ⟨.whole S24576, w, Finset.univ⟩

theorem pick_pos {p : Fin 2} {w f : S24576.Idx → Elt F .f32} (h : ∀ x, x ∉ Finset.univ.map (halfRect p).emb → w x = f x) :
    pick p w f = ⟨halfRect p, fun y => w ((halfRect p).emb y), Finset.univ⟩ := if_pos h

theorem pick_cases (p : Fin 2) (w f : S24576.Idx → Elt F .f32) :
    pick p w f = ⟨halfRect p, fun y => w ((halfRect p).emb y), Finset.univ⟩ ∨ pick p w f = ⟨.whole S24576, w, Finset.univ⟩ := by
  by_cases h : ∀ x, x ∉ Finset.univ.map (halfRect p).emb → w x = f x
  · exact .inl (if_pos h)
  · exact .inr (if_neg h)

theorem h_half (p : Fin 2) : 0 < (halfRect p).shape.numel := by
  show 0 < S12288.numel
  decide

theorem pick_stores (p : Fin 2) (w f : S24576.Idx → Elt F .f32) : (rowbuf.access (pick p w f).1).Stores (pick p w f).2.2 := by
  rcases pick_cases p w f with h | h <;> rw [h]
  · exact View.stores_vmem_bits_univ (h_half p) rfl
  · exact View.stores_vmem_bits_univ h_S24576 rfl

theorem pick_mask (p : Fin 2) (w f : S24576.Idx → Elt F .f32) : (pick p w f).2.2 = Finset.univ := by
  rcases pick_cases p w f with h | h <;> rw [h]

theorem univ_nonempty {s : Shape} (h : 0 < s.numel) : (Finset.univ : Finset s.Idx).Nonempty :=
  ⟨s.rowMajor.symm ⟨0, h⟩, Finset.mem_univ _⟩

/-- The contents `f` of the row buffer after a scatter. -/
def scattered (f : Vec F S24576 .f32) (v : IVec S16 32) (val : FVec F S16 .f32) (mask : IVec S16 1) (hv : k0_chk1 v) : Vec F S24576 .f32 :=
  storeIdx f ![v] val mask false (k0_idx1_inb v hv)

/-- The row buffer loaded again, and the contents `w` stored through the half. -/
noncomputable def storeN (i : grid0.Coords) (p : Fin 2) (w : Vec F S24576 .f32) : TileProg F i PUnit :=
  .op (.load rowbuf (.whole S24576) (View.loadsAt_rect (View.stores_vmem_bits_univ h_S24576 rfl).loads)) fun f' =>
    .op (.store rowbuf (pick p w f').1 (pick p w f').2.1 (pick p w f').2.2 (pick_stores p w f') (.inl (pick_mask p w f'))) fun _ => .ret PUnit.unit

/-- The contents `w` stored. -/
def storeW (i : grid0.Coords) (w : Vec F S24576 .f32) : TileProg F i PUnit :=
  .op (.store rowbuf (.whole S24576) w Finset.univ (View.stores_vmem_bits_univ h_S24576 rfl) (.inl rfl)) fun _ => .ret PUnit.unit

/-- The narrowed scatter: it loads the row buffer a second time and stores through the half. -/
noncomputable def scatN (i : grid0.Coords) : Step F i := fun p v val mask =>
  .op (.assume (k0_chk1 v) (k0_chk1.dec v)) fun hw =>
    .op (.load rowbuf (.whole S24576) (View.loadsAt_rect (View.stores_vmem_bits_univ h_S24576 rfl).loads)) fun f =>
      storeN i p (scattered f v val mask hw.down)

theorem pick_write (p : Fin 2) (w b : S24576.Idx → Elt F .f32) :
    (rowbuf.access (.whole S24576)).write (Elt F) b w Finset.univ =
      (rowbuf.access (pick p w b).1).write (Elt F) b (pick p w b).2.1 (pick p w b).2.2 := by
  by_cases h : ∀ x, x ∉ Finset.univ.map (halfRect p).emb → w x = b x
  · rw [pick_pos h]
    rw [show (rowbuf.access (.whole S24576)).write (Elt F) b w Finset.univ = w from Memref.write_access_whole_univ _ _ _ _]
    funext x
    by_cases hx : x ∈ Finset.univ.map (halfRect p).emb
    · obtain ⟨y, -, rfl⟩ := Finset.mem_map.mp hx
      show w ((halfRect p).emb y) = (rowbuf.access (halfRect p)).write (Elt F) b (fun y => w ((halfRect p).emb y)) Finset.univ
        ((rowbuf.access (halfRect p)).emb y)
      rw [View.write_emb_of_mem _ _ (Finset.mem_univ y)]
      rfl
    · refine (h x hx).trans ((rowbuf.access (halfRect p)).write_of_not_mem b _ _ ?_).symm
      exact hx
  · rw [show pick p w b = ⟨.whole S24576, w, Finset.univ⟩ from if_neg h]

theorem narrows_store (i : grid0.Coords) (p : Fin 2) (w : Vec F S24576 .f32) : Narrows (storeW i w) (storeN i p w) := by
  refine .store (p := .scVector ((i 0).castLE hcore0) ((i 1).castLE hsub0)) (cs := .vmem) rowbuf (.whole S24576) w Finset.univ _ _
    (.whole S24576) _ (pick p w) _ _ (fun b => ?_) (fun f' => ?_) fun _ => .ret _
  · have hb : rowbuf.view.readAt (Elt F) (.whole S24576) b = b := Memref.readAt_whole _ _ _
    rw [hb]
    exact pick_write p w b
  · rcases pick_cases p w f' with h | h <;> rw [h]
    exact ⟨fun _ => univ_nonempty (h_half p), fun _ => univ_nonempty h_S24576⟩

theorem scat_eq (i : grid0.Coords) (p : Fin 2) (v : IVec S16 32) (val : FVec F S16 .f32) (mask : IVec S16 1) :
    scat i p v val mask = .op (.assume (k0_chk1 v) (k0_chk1.dec v)) fun hw =>
      .op (.load rowbuf (.whole S24576) (View.loadsAt_rect (View.stores_vmem_bits_univ h_S24576 rfl).loads)) fun f =>
        storeW i (scattered f v val mask hw.down) := by
  unfold scat SparseCore.vectorStoreIdx scattered storeW
  rfl

theorem narrows_scat (i : grid0.Coords) (p : Fin 2) (v : IVec S16 32) (val : FVec F S16 .f32) (mask : IVec S16 1) :
    Narrows (scat i p v val mask) (scatN i p v val mask) := by
  rw [scat_eq, scatN]
  exact .op _ fun hw => .op _ fun f => narrows_store i p _

theorem narrows_chunk {i : grid0.Coords} (p : Fin 2) (val : FVec F S16 .f32) (r c : Nat) (hr : r < 128) (hc : c < 16) :
    Narrows (chunk (scat i) p val r c hr hc) (chunk (scatN i) p val r c hr hc) :=
  .op _ fun _ => (narrows_scat i _ _ _ _).bind fun _ => (narrows_scat i _ _ _ _).bind fun _ => narrows_scat i _ _ _ _

theorem narrows_row {i : grid0.Coords} (p : Fin 2) (val : FVec F S16 .f32) (r : Nat) (hr : r < 128) (n c : Nat) (h : c + n ≤ 16) :
    Narrows (rowFrom (scat i) p val r hr n c h) (rowFrom (scatN i) p val r hr n c h) := by
  induction n generalizing c with
  | zero => exact .ret _
  | succ n ih => exact (narrows_chunk p val r c hr _).bind fun _ => ih _ _

theorem narrows_turn {i : grid0.Coords} (t : Fin k0_t2_loop.trips) (p : Fin 2) :
    Narrows (turn (F := F) (scat i) t p) (turn (scatN i) t p) :=
  .op _ fun _ => (narrows_row ..).bind fun _ => (narrows_row ..).bind fun _ => .op _ fun _ => .ret _

theorem narrows_body (i : grid0.Coords) : Narrows (body (F := F) (scat i)) (body (scatN i)) :=
  .op _ fun _ => .op _ fun _ => (Narrows.refl _).bind fun _ =>
    (narrows_row ..).bind fun _ => .op _ fun _ => (narrows_row ..).bind fun _ => .op _ fun _ =>
      (Narrows.for _ _ _ fun t _ => (narrows_turn t 0).bind fun _ => narrows_turn t 1).bind fun _ => .refl _

/-- The kernel's body table with the narrowed scatter. -/
noncomputable def defsN₀ : Defs nD τ sig (Elt F) Λ₀
  | .scVector c s, 0, _ => SparseCore.onTile hcore0 hsub0 (fun c s => body (scatN (fun | 0 => c | 1 => s | ⟨_ + 2, h⟩ => absurd h (Nat.not_lt.2 (Nat.le_add_left _ _))))) ⟨⟩ c s
  | _, ℓ, a => .op (.call ℓ a) .ret

/-- The program's, from it. -/
noncomputable def defsN : Defs nD τ sig (Elt F) (SparseCore.Sig (Pipeline.Sig Λ₀ (Fin 0) fun p => (pcfgs (F := F) p).Adm) 1) :=
  sc.defs (Pipeline.defs pcfgs defsN₀)

theorem narrows_defs₀ : DefsNarrow (defs₀ (F := F)) defsN₀ := by
  intro q ℓ a
  match q, ℓ, a with
  | .scVector c s, 0, _ =>
    simp only [defs₀, defsN₀, SparseCore.onTile]
    split
    · have h := narrows_body (F := F) (fun | 0 => ⟨c.val, ‹_ ∧ _›.1⟩ | 1 => ⟨s.val, ‹_ ∧ _›.2⟩ | ⟨_ + 2, h⟩ => absurd h (Nat.not_lt.2 (Nat.le_add_left _ _)))
      rw [← body_scat] at h
      exact h
    · exact .refl _
  | .tc, ℓ, a => exact .refl _
  | .scScalar _, ℓ, a => exact .refl _

theorem narrows_defs : DefsNarrow (defs (F := F)) defsN := (narrows_defs₀.pipeline pcfgs).sparse sc

end Cert.Body
-- ==== Proof.Paint.lean ====
/-
  What a chunk of scatters leaves in the row buffer: the old contents with the entries the hands name rewritten.
-/
module

public import proofs.«01_k».proof.Proof.Narrow
public import Idealize.ShloMosaic.Lib.Pipeline.Value

@[expose] public section

set_option maxRecDepth 65536

namespace Cert.Body

open Idealize.ShloMosaic Idealize.SL.Sem
open Cert.KernelIdeal Cert.KernelIdeal.Facts₀ Cert.KernelIdeal.Facts

variable {F : FTy → Type} [FloatOps F]
variable [Cert.KernelIdeal.Facts₀] [Cert.KernelIdeal.Facts]

open scoped Classical in
/-- The contents `f` with the entries of `S` at `w`. -/
noncomputable def paint (S : Set S24576.Idx) (w : Elt F .f32) (f : Vec F S24576 .f32) : Vec F S24576 .f32 :=
  fun x => if x ∈ S then w else f x

theorem paint_mem {S : Set S24576.Idx} {w : Elt F .f32} {f : Vec F S24576 .f32} {x : S24576.Idx} (h : x ∈ S) : paint S w f x = w := if_pos h
theorem paint_not_mem {S : Set S24576.Idx} {w : Elt F .f32} {f : Vec F S24576 .f32} {x : S24576.Idx} (h : x ∉ S) : paint S w f x = f x := if_neg h

theorem paint_paint (S T : Set S24576.Idx) (w : Elt F .f32) (f : Vec F S24576 .f32) : paint S w (paint T w f) = paint (S ∪ T) w f := by
  funext x
  by_cases hS : x ∈ S
  · rw [paint_mem hS, paint_mem (Or.inl hS)]
  · by_cases hT : x ∈ T
    · rw [paint_not_mem hS, paint_mem hT, paint_mem (Or.inr hT)]
    · rw [paint_not_mem hS, paint_not_mem hT, paint_not_mem (fun h => h.elim hS hT)]

theorem paint_empty (w : Elt F .f32) (f : Vec F S24576 .f32) : paint ∅ w f = f := funext fun _ => paint_not_mem (fun h => h)

/-- The entries the lanes under the mask name. -/
def lanes (v : IVec S16 32) (mask : IVec S16 1) : Set S24576.Idx := {x | ∃ l : S16.Idx, mask l = 1#1 ∧ (v l).toNat = (x 0).val}

theorem scattered_eq (f : Vec F S24576 .f32) (v : IVec S16 32) (w : Elt F .f32) (mask : IVec S16 1) (hv : k0_chk1 v) :
    scattered f v (fun _ => w) mask hv = paint (lanes v mask) w f := by
  have key : ∀ (L : List (Fin ((![16] : Fin 1 → Nat) 0))) (f : Vec F S24576 .f32),
      L.foldl (fun g k =>
        let x : S16.Idx := Shape.ofLane k
        if mask x = 1 then
          let i := idxAt ![v] (k0_idx1_inb v hv) x
          let y := w
          fun j => if (∀ a, (j a).val = (i a).val) then y else g j
        else g) f = paint {x | ∃ k ∈ L, mask (Shape.ofLane k) = 1#1 ∧ (v (Shape.ofLane k)).toNat = (x 0).val} w f := by
    intro L
    induction L with
    | nil => intro f; exact (funext fun x => (paint_not_mem (by rintro ⟨k, hk, -⟩; exact absurd hk List.not_mem_nil)).symm)
    | cons k L ih =>
      intro f
      rw [List.foldl_cons, ih]
      funext x
      by_cases h1 : ∃ k ∈ L, mask (Shape.ofLane k) = 1#1 ∧ (v (Shape.ofLane k)).toNat = (x 0).val
      · rw [paint_mem h1, paint_mem (by obtain ⟨k', hk', h⟩ := h1; exact ⟨k', List.mem_cons_of_mem _ hk', h⟩)]
      · rw [paint_not_mem h1]
        by_cases h2 : mask (Shape.ofLane k) = 1#1
        · by_cases h3 : (v (Shape.ofLane k)).toNat = (x 0).val
          · rw [paint_mem (S := {x | ∃ k' ∈ k :: L, mask (Shape.ofLane k') = 1#1 ∧ (v (Shape.ofLane k')).toNat = (x 0).val}) ⟨k, List.mem_cons_self, h2, h3⟩]
            dsimp only
            rw [if_pos (show mask (Shape.ofLane k) = 1 from h2), if_pos]
            intro a
            obtain rfl : a = 0 := Subsingleton.elim _ _
            exact h3.symm
          · rw [paint_not_mem]
            · dsimp only
              rw [if_pos (show mask (Shape.ofLane k) = 1 from h2), if_neg]
              intro h
              exact h3 (h 0).symm
            · rintro ⟨k', hk', h4, h5⟩
              rcases List.mem_cons.mp hk' with rfl | hk'
              · exact h3 h5
              · exact h1 ⟨k', hk', h4, h5⟩
        · rw [paint_not_mem]
          · dsimp only
            rw [if_neg (show ¬ mask (Shape.ofLane k) = 1 from h2)]
          · rintro ⟨k', hk', h4, h5⟩
            rcases List.mem_cons.mp hk' with rfl | hk'
            · exact h2 h4
            · exact h1 ⟨k', hk', h4, h5⟩
  unfold scattered storeIdx
  simp only [Bool.false_eq_true, if_false]
  refine (key (List.finRange _) f).trans ?_
  congr 1
  ext x
  constructor
  · rintro ⟨k, -, h⟩
    exact ⟨_, h⟩
  · rintro ⟨l, h⟩
    have hl : Shape.ofLane (d := ![16]) (l 0) = l := by
      funext a
      obtain rfl : a = 0 := Subsingleton.elim _ _
      rfl
    exact ⟨l 0, List.mem_finRange _, by rw [hl]; exact h⟩

/-- The entries of the half `p` that the hands of row `r` in the columns from `a` to `b` name. -/
def names (H : S128x256.Idx → BitVec 32) (p : Fin 2) (r a b : Nat) : Set S24576.Idx :=
  {x | ∃ y : S128x256.Idx, (y 0).val = r ∧ a ≤ (y 1).val ∧ (y 1).val < b ∧ 0 < (H y).toNat ∧
    12288 * p.val + 3 * (H y).toNat ≤ (x 0).val + 3 ∧ (x 0).val < 12288 * p.val + 3 * (H y).toNat}

theorem names_union (H : S128x256.Idx → BitVec 32) (p : Fin 2) (r : Nat) {a b c : Nat} (hab : a ≤ b) (hbc : b ≤ c) :
    names H p r b c ∪ names H p r a b = names H p r a c := by
  ext x
  constructor
  · rintro (⟨y, h0, h1, h2, h⟩ | ⟨y, h0, h1, h2, h⟩)
    · exact ⟨y, h0, by omega, h2, h⟩
    · exact ⟨y, h0, h1, by omega, h⟩
  · rintro ⟨y, h0, h1, h2, h⟩
    rcases Nat.lt_or_ge (y 1).val b with hb | hb
    · exact .inr ⟨y, h0, h1, hb, h⟩
    · exact .inl ⟨y, h0, hb, h2, h⟩

theorem names_empty (H : S128x256.Idx → BitVec 32) (p : Fin 2) (r a : Nat) : names H p r a a = ∅ := by
  ext x
  constructor
  · rintro ⟨y, h0, h1, h2, h⟩
    omega
  · intro h; exact h.elim

theorem mem_half {p : Fin 2} {x : S24576.Idx} : x ∈ Finset.univ.map (halfRect p).emb ↔ 12288 * p.val ≤ (x 0).val ∧ (x 0).val < 12288 * p.val + 12288 := by
  constructor
  · intro h
    obtain ⟨y, -, rfl⟩ := Finset.mem_map.mp h
    have h1 : (((halfRect p).emb y) 0).val = 12288 * p.val + 1 * (y 0).val := rfl
    have h2 : (y 0).val < 12288 := (y 0).isLt
    rw [h1]; omega
  · rintro ⟨h1, h2⟩
    have h3 : ∀ a : Fin 1, (x 0).val - 12288 * p.val < (halfRect p).shape.size a := by
      intro a
      obtain rfl : a = 0 := Subsingleton.elim _ _
      show (x 0).val - 12288 * p.val < 12288
      omega
    refine Finset.mem_map.mpr ⟨fun a => ⟨(x 0).val - 12288 * p.val, h3 a⟩, Finset.mem_univ _, ?_⟩
    · funext a
      obtain rfl : a = 0 := Subsingleton.elim _ _
      apply Fin.ext
      show 12288 * p.val + 1 * ((x 0).val - 12288 * p.val) = (x 0).val
      omega

/-- They are entries of that half. -/
theorem names_half {H : S128x256.Idx → BitVec 32} (hH : ∀ y, (H y).toNat ≤ 4096) {p : Fin 2} {r a b : Nat} {x : S24576.Idx} (h : x ∈ names H p r a b) :
    x ∈ Finset.univ.map (halfRect p).emb := by
  obtain ⟨y, -, -, -, h0, h1, h2⟩ := h
  have := hH y
  exact mem_half.mpr ⟨by omega, by omega⟩

theorem shift_toNat (p : Fin 2) : ((![4294967293#32, 12285#32] : Fin 2 → BitVec 32) p).toNat = if p.val = 0 then 4294967293 else 12285 := by
  fin_cases p <;> rfl

theorem idx_apply (p : Fin 2) (h : IVec S16 32) (l : S16.Idx) :
    idx p h l = if (0#32).slt (h l * 3#32 + (![4294967293#32, 12285#32] : Fin 2 → BitVec 32) p) then
      h l * 3#32 + (![4294967293#32, 12285#32] : Fin 2 → BitVec 32) p else 0#32 := rfl

/-- One lane's index: a hand past the first names three entries of the half, from three times its place. -/
theorem idx_add (p : Fin 2) (h : IVec S16 32) (l : S16.Idx) (hl : (h l).toNat ≤ 4096) (e : Nat) (he : e < 3) :
    (idx p h l + BitVec.ofNat 32 e).toNat = if p.val = 0 ∧ (h l).toNat = 0 then e else 12288 * p.val + 3 * (h l).toNat - 3 + e := by
  have hidx : (idx p h l).toNat = if p.val = 0 ∧ (h l).toNat = 0 then 0 else 12288 * p.val + 3 * (h l).toNat - 3 := by
    rw [idx_apply]
    have hc := shift_toNat p
    generalize (![4294967293#32, 12285#32] : Fin 2 → BitVec 32) p = c at hc ⊢
    have hs : (h l * 3#32 + c).toNat = (3 * (h l).toNat + c.toNat) % 2 ^ 32 := by
      rw [BitVec.toNat_add, BitVec.toNat_mul, BitVec.toNat_ofNat]
      omega
    generalize h l * 3#32 + c = s at hs ⊢
    have hp := p.isLt
    rw [hc] at hs
    rw [BitVec.slt_eq_decide, BitVec.toInt_zero, BitVec.toInt_eq_toNat_cond]
    by_cases h0 : p.val = 0 ∧ (h l).toNat = 0
    · rw [if_pos h0.1] at hs
      rw [if_pos h0, if_neg]
      · rfl
      · rw [decide_eq_true_eq, if_neg (by omega)]
        omega
    · have hv : s.toNat = 12288 * p.val + 3 * (h l).toNat - 3 := by
        split at hs <;> omega
      rw [if_neg h0]
      by_cases hz : s.toNat = 0
      · rw [show s = 0#32 from BitVec.eq_of_toNat_eq hz, ← hv, hz]
        rfl
      · rw [if_pos, hv]
        rw [decide_eq_true_eq, if_pos (by omega)]
        omega
  rw [BitVec.toNat_add, hidx, BitVec.toNat_ofNat]
  have := p.isLt
  split <;> omega

/-- The kernel's mask: the hands that are not empty. -/
theorem mask_one (h : IVec S16 32) (l : S16.Idx) (hl : (h l).toNat ≤ 4096) : cmpi .sge h (broadcast S16 1#32) l = 1#1 ↔ 0 < (h l).toNat := by
  show BitVec.ofBool (BitVec.sle 1#32 (h l)) = 1#1 ↔ _
  rw [BitVec.sle_eq_decide, BitVec.toInt_eq_toNat_of_lt (x := h l) (by omega)]
  rw [show (1#32 : BitVec 32).toInt = 1 from by decide]
  by_cases hp : 0 < (h l).toNat
  · rw [decide_eq_true (show (1 : Int) ≤ (h l).toNat by omega)]
    exact ⟨fun _ => hp, fun _ => rfl⟩
  · rw [decide_eq_false (show ¬ (1 : Int) ≤ (h l).toNat by omega)]
    exact ⟨fun h => absurd h (by decide), fun h => absurd h hp⟩

/-- Every index is one of the row buffer. -/
theorem chk_idx (p : Fin 2) (h : IVec S16 32) (hh : ∀ l, (h l).toNat ≤ 4096) (e : Nat) (he : e < 3) (v : IVec S16 32)
    (hv : ∀ l, v l = idx p h l + BitVec.ofNat 32 e) : k0_chk1 v := by
  intro a l
  obtain rfl : a = 0 := Subsingleton.elim _ _
  show (v l).toNat < 24576
  rw [hv, idx_add p h l (hh l) e he]
  have := hh l
  have := p.isLt
  split <;> omega

/-- The sixteen hands a chunk loads. -/
abbrev loaded (H : S128x256.Idx → BitVec 32) (r c : Nat) (hr : r < 128) (hc : c < 16) : IVec S16 32 :=
  shapeCast S16 (fun x => H ((Rect.unit (s := S128x256) ![r, 16 * c] S1x16.size (inb_chunk hr hc)).emb x)) shapeCasts_S1x16_S16

theorem loaded_apply (H : S128x256.Idx → BitVec 32) (r c : Nat) (hr : r < 128) (hc : c < 16) (l : S16.Idx) :
    ∃ y : S128x256.Idx, loaded H r c hr hc l = H y ∧ (y 0).val = r ∧ (y 1).val = 16 * c + (l 0).val := by
  refine ⟨_, shapeCast_dropUnit_apply ![16] _ _ l, ?_, ?_⟩
  · show r + 1 * 0 = r
    omega
  · show 16 * c + 1 * (l 0).val = _
    omega

theorem loaded_le {H : S128x256.Idx → BitVec 32} (hH : ∀ y, (H y).toNat ≤ 4096) (r c : Nat) (hr : r < 128) (hc : c < 16) (l : S16.Idx) :
    (loaded H r c hr hc l).toNat ≤ 4096 := by
  obtain ⟨y, h, -, -⟩ := loaded_apply H r c hr hc l
  rw [h]; exact hH y

/-- The entry `e` of the three of each of the chunk's hands. -/
theorem lanes_sub {H : S128x256.Idx → BitVec 32} (hH : ∀ y, (H y).toNat ≤ 4096) (p : Fin 2) (r c : Nat) (hr : r < 128) (hc : c < 16)
    (e : Nat) (he : e < 3) (v : IVec S16 32) (hv : ∀ l, v l = idx p (loaded H r c hr hc) l + BitVec.ofNat 32 e) (x : S24576.Idx) :
    x ∈ lanes v (cmpi .sge (loaded H r c hr hc) (broadcast S16 1#32)) ↔
      ∃ y : S128x256.Idx, (y 0).val = r ∧ 16 * c ≤ (y 1).val ∧ (y 1).val < 16 * (c + 1) ∧ 0 < (H y).toNat ∧
        12288 * p.val + 3 * (H y).toNat + e = (x 0).val + 3 := by
  constructor
  · rintro ⟨l, hm, hx⟩
    have hle := loaded_le hH r c hr hc l
    rw [mask_one _ _ hle] at hm
    rw [hv, idx_add p _ l hle e he, if_neg (by omega)] at hx
    obtain ⟨y, h, h0, h1⟩ := loaded_apply H r c hr hc l
    rw [h] at hm hx
    have : (l 0).val < 16 := (l 0).isLt
    exact ⟨y, h0, by omega, by omega, hm, by omega⟩
  · rintro ⟨y, h0, h1, h2, hm, hx⟩
    have h3 : ∀ a : Fin 1, (y 1).val - 16 * c < S16.size a := by
      intro a
      obtain rfl : a = 0 := Subsingleton.elim _ _
      show (y 1).val - 16 * c < 16
      omega
    obtain ⟨y', h, h0', h1'⟩ := loaded_apply H r c hr hc (fun a => ⟨(y 1).val - 16 * c, h3 a⟩)
    have hy : y' = y := by
      funext a
      apply Fin.ext
      match a with
      | 0 => exact h0'.trans h0.symm
      | 1 =>
        refine h1'.trans ?_
        show 16 * c + ((y 1).val - 16 * c) = _
        omega
    rw [hy] at h
    refine ⟨fun a => ⟨(y 1).val - 16 * c, h3 a⟩, ?_, ?_⟩
    · rw [mask_one _ _ (loaded_le hH r c hr hc _), h]; exact hm
    · rw [hv, idx_add p _ _ (loaded_le hH r c hr hc _) e he, h, if_neg (by omega)]
      omega

/-- The three scatters of a chunk name its hands' entries. -/
theorem lanes_names {H : S128x256.Idx → BitVec 32} (hH : ∀ y, (H y).toNat ≤ 4096) (p : Fin 2) (r c : Nat) (hr : r < 128) (hc : c < 16)
    (v₀ v₁ v₂ : IVec S16 32) (h₀ : ∀ l, v₀ l = idx p (loaded H r c hr hc) l + BitVec.ofNat 32 0)
    (h₁ : ∀ l, v₁ l = idx p (loaded H r c hr hc) l + BitVec.ofNat 32 1) (h₂ : ∀ l, v₂ l = idx p (loaded H r c hr hc) l + BitVec.ofNat 32 2) :
    lanes v₂ (cmpi .sge (loaded H r c hr hc) (broadcast S16 1#32)) ∪
      (lanes v₁ (cmpi .sge (loaded H r c hr hc) (broadcast S16 1#32)) ∪ lanes v₀ (cmpi .sge (loaded H r c hr hc) (broadcast S16 1#32))) =
      names H p r (16 * c) (16 * (c + 1)) := by
  ext x
  constructor
  · rintro (h | h | h)
    · obtain ⟨y, a, b, d, f, g⟩ := (lanes_sub hH p r c hr hc 2 (by omega) v₂ h₂ x).mp h
      exact ⟨y, a, b, d, f, by omega, by omega⟩
    · obtain ⟨y, a, b, d, f, g⟩ := (lanes_sub hH p r c hr hc 1 (by omega) v₁ h₁ x).mp h
      exact ⟨y, a, b, d, f, by omega, by omega⟩
    · obtain ⟨y, a, b, d, f, g⟩ := (lanes_sub hH p r c hr hc 0 (by omega) v₀ h₀ x).mp h
      exact ⟨y, a, b, d, f, by omega, by omega⟩
  · rintro ⟨y, a, b, d, f, g, k⟩
    rcases (by omega : 12288 * p.val + 3 * (H y).toNat + 2 = (x 0).val + 3 ∨ 12288 * p.val + 3 * (H y).toNat + 1 = (x 0).val + 3 ∨
      12288 * p.val + 3 * (H y).toNat + 0 = (x 0).val + 3) with h | h | h
    · exact .inl ((lanes_sub hH p r c hr hc 2 (by omega) v₂ h₂ x).mpr ⟨y, a, b, d, f, h⟩)
    · exact .inr (.inl ((lanes_sub hH p r c hr hc 1 (by omega) v₁ h₁ x).mpr ⟨y, a, b, d, f, h⟩))
    · exact .inr (.inr ((lanes_sub hH p r c hr hc 0 (by omega) v₀ h₀ x).mpr ⟨y, a, b, d, f, h⟩))

end Cert.Body
-- ==== Proof.Step.lean ====
/-
  A row of narrowed scatters run by a tile that reads all of its row buffer and holds one half of it to write.
-/
module

public import proofs.«01_k».proof.Proof.Paint
public import proofs.«01_k».proof.Proof.Gen.KernelIdeal
public import Idealize.ShloMosaic.Lib.SparseCore.Quiescent
public import Idealize.ShloMosaic.Lib.SparseCore.Ops
public import Idealize.ShloMosaic.Lib.Tactic

@[expose] public section

noncomputable section

namespace Cert.Tile

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts Cert.Body

variable {F : FTy → Type} [FloatOps F]

abbrev UH : Type := URounds (GSem nD τ sig) ℕ
abbrev UU : Type := UH × Counters

local notation "𝕄" => MT nD τ sig (HIx 1) (Elt F) ℕ UU ℕ

abbrev 𝒱₀ : Variants := Variants.none

variable (d : Dev nD) (i : grid0.Coords)

/-- The tile's thread. -/
abbrev thr : Thread nD τ := V d ((i 0).castLE hcore0) ((i 1).castLE hsub0)

/-- A run of the tile. -/
abbrev runs (p : TileProg F i PUnit) (Q : PUnit → sProp 𝕄) : sProp 𝕄 :=
  wp frame (wpE (defsN₀ (F := F)) 𝒱₀ (thr d i) none) Set.univ p Q

/-- The row buffer and the tile's hands, as locations. -/
abbrev rLoc : Loc nD τ sig := (thr d i).loc cc0_scratch1
abbrev hLoc : Loc nD τ sig := (thr d i).loc cc0_scratch0

/-- The elements of the half `p`. -/
abbrev halfSet (p : Fin 2) : Finset S24576.Idx := Finset.univ.map (halfRect p).emb

/-- The share lent to a copy in flight, and the share kept to read with. -/
abbrev lent : PosShare TreeShare := fullShare.left
abbrev kept : PosShare TreeShare := fullShare.right

/-- All of the row buffer to read, and its half `p` to write. -/
def Hold (p : Fin 2) (f : Vec F S24576 .f32) : sProp 𝕄 :=
  iprop((rLoc d i ↦{kept} f) ∗ rLoc d i ↦[halfSet p]{lent} f)

/-- The same with the half whole. -/
theorem hold_iff (p : Fin 2) (f : Vec F S24576 .f32) :
    (Hold d i p f : sProp 𝕄) ⊣⊢ iprop((rLoc d i ↦[halfSet p]{fullShare} f) ∗ rLoc d i ↦[Finset.univ \ halfSet p]{kept} f) := by
  unfold Hold
  have h1 : (rLoc d i ↦{kept} f : sProp 𝕄) ⊣⊢ iprop((rLoc d i ↦[halfSet p]{kept} f) ∗ rLoc d i ↦[Finset.univ \ halfSet p]{kept} f) :=
    pointsTo_split_subset (Finset.subset_univ _)
  have h2 : (rLoc d i ↦[halfSet p]{fullShare} f : sProp 𝕄) ⊣⊢ iprop((rLoc d i ↦[halfSet p]{lent} f) ∗ rLoc d i ↦[halfSet p]{kept} f) :=
    pointsTo_share (PosShare.mem_left_op_right _)
  constructor
  · iintro ⟨H, Hl⟩
    ihave H' := h1.1 $$ H
    icases H' with ⟨Hk, Ho⟩
    isplitl [Hl Hk]
    · iapply h2.2
      isplitl [Hl] <;> iassumption
    · iexact Ho
  · iintro ⟨H, Ho⟩
    ihave H' := h2.1 $$ H
    icases H' with ⟨Hl, Hk⟩
    isplitl [Hk Ho]
    · iapply h1.2
      isplitl [Hk] <;> iassumption
    · iexact Hl

/-- New contents stored through the half. -/
theorem store_step (p : Fin 2) (w f g : Vec F S24576 .f32) (hg : g = f) (hw : ∀ x, x ∉ halfSet p → w x = f x) :
    (Hold d i p f : sProp 𝕄) ⊢ runs d i
      (.op (.store rowbuf (pick p w g).1 (pick p w g).2.1 (pick p w g).2.2 (pick_stores p w g) (.inl (pick_mask p w g))) fun _ => .ret PUnit.unit)
      fun _ => Hold d i p w := by
  subst hg
  have hP := pick_pos hw
  generalize hst : pick_stores p w g = st
  generalize hmk : pick_mask p w g = mk
  clear hst hmk
  generalize pick p w g = P at hP st mk ⊢
  subst hP
  refine (hold_iff d i p g).1.trans ?_
  iintro ⟨H, Ho⟩
  iapply (wp_store 𝒱₀ (thr d i) none Set.univ (m := rowbuf) (r := halfRect p) (Mk := Finset.univ) (S := halfSet p) (f := g) (Finset.Subset.refl _)) $$ H
  iintro H
  rw [wp_ret]
  imodintro
  iapply (hold_iff d i p w).2
  isplitl [H]
  · iapply (Entails.of_eq (pointsTo_congr fun x hx => ?_)) $$ H
    obtain ⟨y, -, rfl⟩ := Finset.mem_map.mp hx
    exact View.write_emb_of_mem (v := rowbuf.access (halfRect p)) _ _ (Finset.mem_univ y)
  · iapply (Entails.of_eq (pointsTo_congr fun x hx => ?_)) $$ Ho
    exact (hw x (Finset.mem_sdiff.mp hx).2).symm

/-- The second load and the store. -/
theorem storeN_step (p : Fin 2) (w f : Vec F S24576 .f32) (hw : ∀ x, x ∉ halfSet p → w x = f x) :
    (Hold d i p f : sProp 𝕄) ⊢ runs d i (storeN i p w) fun _ => Hold d i p w := by
  have hf : rowbuf.view.readAt (Elt F) (.whole S24576) f = f := Memref.readAt_whole _ _ _
  have hs := store_step (F := F) d i p w f (rowbuf.view.readAt (Elt F) (.whole S24576) f) hf hw
  have h0 : (Hold d i p f : sProp 𝕄) = iprop((rLoc d i ↦{kept} f) ∗ rLoc d i ↦[halfSet p]{lent} f) := rfl
  unfold runs storeN
  refine (Entails.of_eq h0).trans ?_
  iintro ⟨H, Hl⟩
  iapply (wp_load 𝒱₀ (thr d i) none Set.univ (m := rowbuf) (S := Finset.univ) (Finset.subset_univ _)) $$ H; iintro H
  iapply hs
  iapply (Entails.of_eq h0.symm)
  isplitl [H]
  · iexact H
  · iexact Hl

/-- A masked scatter whose lanes lie in the half. -/
theorem scat_step (p : Fin 2) (v : IVec S16 32) (w : Elt F .f32) (mask : IVec S16 1) (f : Vec F S24576 .f32) (hv : k0_chk1 v)
    (hl : ∀ x ∈ lanes v mask, x ∈ halfSet p) :
    (Hold d i p f : sProp 𝕄) ⊢ runs d i (scatN i p v (fun _ => w) mask) fun _ => Hold d i p (paint (lanes v mask) w f) := by
  have hf : rowbuf.view.readAt (Elt F) (.whole S24576) f = f := Memref.readAt_whole _ _ _
  have hs := storeN_step (F := F) d i p (paint (lanes v mask) w f) f (fun x hx => paint_not_mem fun h => hx (hl x h))
  have h0 : (Hold d i p f : sProp 𝕄) = iprop((rLoc d i ↦{kept} f) ∗ rLoc d i ↦[halfSet p]{lent} f) := rfl
  unfold runs scatN
  rw [wp_assume_of _ _ _ _ hv]
  refine (Entails.of_eq h0).trans ?_
  iintro ⟨H, Hl⟩
  iapply (wp_load 𝒱₀ (thr d i) none Set.univ (m := rowbuf) (S := Finset.univ) (Finset.subset_univ _)) $$ H; iintro H
  rw [hf, scattered_eq]
  iapply hs
  iapply (Entails.of_eq h0.symm)
  isplitl [H]
  · iexact H
  · iexact Hl

/-- One program, then another. -/
theorem seq {p : TileProg F i PUnit} {k : PUnit → TileProg F i PUnit} {P : sProp 𝕄} {R Q : PUnit → sProp 𝕄}
    (hp : P ⊢ runs d i p R) (hk : ∀ a, R a ⊢ runs d i (k a) Q) : P ⊢ runs d i (p >>= k) Q := by
  unfold runs at hp hk ⊢
  rw [wp_bind]
  exact hp.trans (wp_mono frame _ _ hk)

/-- A resource carried over a run. -/
theorem carry {p : TileProg F i PUnit} {P R : sProp 𝕄} {Q : PUnit → sProp 𝕄}
    (hp : P ⊢ runs d i p Q) : iprop(R ∗ P) ⊢ runs d i p fun a => iprop(R ∗ Q a) :=
  (sep_mono_right hp).trans (wp_frame_l frame _ _)

/-- The tile's hands. -/
abbrev Hands (H : S128x256.Idx → BitVec 32) : sProp 𝕄 := hLoc d i ↦{fullShare} (H : Buf (Elt F) (hLoc d i))

/-- A chunk. -/
theorem chunk_step {H : S128x256.Idx → BitVec 32} (hH : ∀ y, (H y).toNat ≤ 4096) (p : Fin 2) (w : Elt F .f32) (r c : Nat) (hr : r < 128) (hc : c < 16)
    (f : Vec F S24576 .f32) :
    iprop(Hands d i H ∗ Hold d i p f) ⊢ (runs d i (chunk (scatN i) p (fun _ => w) r c hr hc)
      fun _ => iprop(Hands d i H ∗ Hold d i p (paint (names H p r (16 * c) (16 * (c + 1))) w f)) : sProp 𝕄) := by
  have hle := loaded_le hH r c hr hc
  have a0 : ∀ l, idx p (loaded H r c hr hc) l = idx p (loaded H r c hr hc) l + BitVec.ofNat 32 0 := fun l => (BitVec.add_zero _).symm
  have a1 : ∀ l, (addi (idx p (loaded H r c hr hc)) (broadcast S16 1#32)) l = idx p (loaded H r c hr hc) l + BitVec.ofNat 32 1 := fun l => rfl
  have a2 : ∀ l, (addi (idx p (loaded H r c hr hc)) (broadcast S16 2#32)) l = idx p (loaded H r c hr hc) l + BitVec.ofNat 32 2 := fun l => rfl
  have hn := lanes_names hH p r c hr hc _ _ _ a0 a1 a2
  have k0 := chk_idx p (loaded H r c hr hc) hle 0 (by omega) _ a0
  have k1 := chk_idx p (loaded H r c hr hc) hle 1 (by omega) _ a1
  have k2 := chk_idx p (loaded H r c hr hc) hle 2 (by omega) _ a2
  have hsub : ∀ x ∈ names H p r (16 * c) (16 * (c + 1)), x ∈ halfSet p := fun x hx => names_half hH hx
  rw [← hn] at hsub
  have e : names H p r (16 * c) (16 * (c + 1)) = _ := hn.symm
  rw [e, ← paint_paint, ← paint_paint]
  unfold chunk
  iintro ⟨HH, H⟩
  iapply (wp_load 𝒱₀ (thr d i) none Set.univ (m := handsV) (S := Finset.univ) (f := H) (Finset.subset_univ _)) $$ HH; iintro HH
  rw [show shapeCast S16 (handsV.view.readAt (Elt F) (Rect.unit (s := S128x256) ![r, 16 * c] S1x16.size (inb_chunk hr hc)).toLoadRect H) shapeCasts_S1x16_S16
    = loaded H r c hr hc from rfl]
  generalize loaded H r c hr hc = h at *
  iapply (carry d i (R := Hands d i H) (seq d i (scat_step d i p _ w _ f k0 fun x hx => hsub x (.inr (.inr hx))) fun _ =>
    seq d i (scat_step d i p _ w _ _ k1 fun x hx => hsub x (.inr (.inl hx))) fun _ => scat_step d i p _ w _ _ k2 fun x hx => hsub x (.inl hx)))
  isplitl [HH]
  · iexact HH
  · iexact H

/-- The chunks `c` and on of a row. -/
theorem rowFrom_step {H : S128x256.Idx → BitVec 32} (hH : ∀ y, (H y).toNat ≤ 4096) (p : Fin 2) (w : Elt F .f32) (r : Nat) (hr : r < 128) (n c : Nat)
    (h : c + n ≤ 16) (f : Vec F S24576 .f32) :
    iprop(Hands d i H ∗ Hold d i p f) ⊢ (runs d i (rowFrom (scatN i) p (fun _ => w) r hr n c h)
      fun _ => iprop(Hands d i H ∗ Hold d i p (paint (names H p r (16 * c) (16 * (c + n))) w f)) : sProp 𝕄) := by
  induction n generalizing c f with
  | zero =>
    rw [Nat.add_zero, names_empty, paint_empty]
    unfold runs rowFrom
    rw [wp_ret]
    exact fupd_intro
  | succ n ih =>
    rw [← names_union H p r (b := 16 * (c + 1)) (by omega) (by omega), ← paint_paint]
    have := ih (c + 1) (by omega) (paint (names H p r (16 * c) (16 * (c + 1))) w f)
    rw [show 16 * (c + 1 + n) = 16 * (c + (n + 1)) by omega] at this
    exact seq d i (chunk_step d i hH p w r c hr (by omega) f) fun _ => this

/-- A row. -/
theorem row_step {H : S128x256.Idx → BitVec 32} (hH : ∀ y, (H y).toNat ≤ 4096) (p : Fin 2) (w : Elt F .f32) (r : Nat) (hr : r < 128)
    (f : Vec F S24576 .f32) :
    iprop(Hands d i H ∗ Hold d i p f) ⊢ (runs d i (row (scatN i) p (fun _ => w) r hr)
      fun _ => iprop(Hands d i H ∗ Hold d i p (paint (names H p r 0 256) w f)) : sProp 𝕄) :=
  rowFrom_step d i hH p w r hr 16 0 (le_refl 16) f

end Cert.Tile
-- ==== Proof.Copies.lean ====
/-
  What a row of the result reads, and the copies of the row buffer's halves to the result's rows.
-/
module

public import proofs.«01_k».proof.Proof.Step

@[expose] public section

noncomputable section

namespace Cert.Tile

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts Cert.Body

variable {F : FTy → Type} [FloatOps F]

local notation "𝕄" => MT nD τ sig (HIx 1) (Elt F) ℕ UU ℕ

/-- The two values of the result. -/
abbrev zeroE : Elt F .f32 := Scalar.ofBits .f32 0x00000000#32
abbrev holeE : Elt F .f32 := Scalar.ofBits .f32 0xC2C80000#32

/-- The result of the hands `G`: zero where a hand names the entry, the empty value elsewhere. -/
def want (G : S4096x256.Idx → BitVec 32) : Vec F S4096x12288 .f32 := fun x =>
  open Classical in
  if ∃ y : S4096x256.Idx, (y 0).val = (x 0).val ∧ 0 < (G y).toNat ∧ 3 * (G y).toNat ≤ (x 1).val + 3 ∧ (x 1).val < 3 * (G y).toNat then zeroE else holeE

/-- The tile's first row. -/
def base (i : grid0.Coords) : Nat := 256 * (i 1).val + 128 * (i 0).val

/-- The rows of the hands the tile copies in. -/
abbrev handRows (i : grid0.Coords) : Memref sig .scVector .hbm S128x256 .i32 :=
  hands.slice (Rect.unit (s := S4096x256) (k0_off1 i) S128x256.size (k0_off1_inb i)) (fun _ => rfl)

/-- The tile's hands. -/
def tileHands (i : grid0.Coords) (G : S4096x256.Idx → BitVec 32) : S128x256.Idx → BitVec 32 := fun y =>
  G ((Rect.unit (s := S4096x256) (k0_off1 i) S128x256.size (k0_off1_inb i)).emb y)

theorem handRow_val (i : grid0.Coords) (y : S128x256.Idx) :
    (((Rect.unit (s := S4096x256) (k0_off1 i) S128x256.size (k0_off1_inb i)).emb y) 0).val = base i + (y 0).val ∧
    (((Rect.unit (s := S4096x256) (k0_off1 i) S128x256.size (k0_off1_inb i)).emb y) 1).val = (y 1).val := by
  have e := Cert.KernelIdeal.Gen.k0_off1_eq i
  constructor
  · show k0_off1 i 0 + 1 * (y 0).val = _
    rw [e]
    show 256 * (i 1).val + 128 * (i 0).val + 1 * (y 0).val = _
    rw [Nat.one_mul]; rfl
  · show k0_off1 i 1 + 1 * (y 1).val = _
    rw [e]
    show 0 + 1 * (y 1).val = _
    omega

/-- Half `p` of the row buffer holds row `r` of the result. -/
def Shows (H : S128x256.Idx → BitVec 32) (p : Fin 2) (r : Nat) (f : Vec F S24576 .f32) : Prop :=
  ∀ x ∈ halfSet p, f x = paint (names H p r 0 256) zeroE (fun _ => holeE) x

theorem shows_paint {H : S128x256.Idx → BitVec 32} {p : Fin 2} {r : Nat} {f : Vec F S24576 .f32} (hf : ∀ x ∈ halfSet p, f x = holeE) :
    Shows H p r (paint (names H p r 0 256) zeroE f) := by
  intro x hx
  by_cases h : x ∈ names H p r 0 256
  · rw [paint_mem h, paint_mem h]
  · rw [paint_not_mem h, paint_not_mem h, hf x hx]

theorem shows_next {H : S128x256.Idx → BitVec 32} {p : Fin 2} {r r' : Nat} {f : Vec F S24576 .f32} (hf : Shows H p r f) :
    Shows H p r' (paint (names H p r' 0 256) zeroE (paint (names H p r 0 256) holeE f)) := by
  refine shows_paint fun x hx => ?_
  by_cases h : x ∈ names H p r 0 256
  · rw [paint_mem h]
  · rw [paint_not_mem h, hf x hx, paint_not_mem h]

/-- A half painted leaves the other as it was. -/
theorem half_off {H : S128x256.Idx → BitVec 32} (hH : ∀ y, (H y).toNat ≤ 4096) {p q : Fin 2} (hpq : p ≠ q) {r : Nat} {w : Elt F .f32} {f : Vec F S24576 .f32}
    {x : S24576.Idx} (hx : x ∈ halfSet q) : paint (names H p r 0 256) w f x = f x := by
  refine paint_not_mem fun h => hpq ?_
  have h1 := mem_half.mp (names_half hH h)
  have h2 := mem_half.mp hx
  exact Fin.ext (by omega)

theorem shows_congr {H : S128x256.Idx → BitVec 32} {p : Fin 2} {r : Nat} {f g : Vec F S24576 .f32} (h : ∀ x ∈ halfSet p, g x = f x) (hf : Shows H p r f) :
    Shows H p r g := fun x hx => (h x hx).trans (hf x hx)

/-- What the half shows is the row wanted. -/
theorem shows_want {i : grid0.Coords} {G : S4096x256.Idx → BitVec 32} {p : Fin 2} {r : Nat} (hr : r < 128) {f : Vec F S24576 .f32}
    (hf : Shows (tileHands i G) p r f) (y : S12288.Idx) (x : S4096x12288.Idx) (h0 : (x 0).val = base i + r) (h1 : (x 1).val = (y 0).val) :
    f ((halfRect p).emb y) = want G x := by
  rw [hf _ (Finset.mem_map_of_mem _ (Finset.mem_univ y))]
  have hy : (((halfRect p).emb y) 0).val = 12288 * p.val + 1 * (y 0).val := rfl
  by_cases h : (halfRect p).emb y ∈ names (tileHands i G) p r 0 256
  · rw [paint_mem h]
    obtain ⟨z, z0, -, -, hp, ha, hb⟩ := h
    have e := handRow_val i z
    refine (if_pos ⟨_, e.1.trans (by rw [z0, h0]), hp, ?_, ?_⟩).symm
    · show 3 * (tileHands i G z).toNat ≤ _
      omega
    · show _ < 3 * (tileHands i G z).toNat
      omega
  · rw [paint_not_mem h]
    refine (if_neg fun hz => h ?_).symm
    obtain ⟨z, z0, hp, ha, hb⟩ := hz
    have hz1 : (z 1).val < 256 := (z 1).isLt
    let z' : S128x256.Idx := fun | 0 => ⟨r, hr⟩ | 1 => ⟨(z 1).val, hz1⟩
    have e := handRow_val i z'
    have hzz : (Rect.unit (s := S4096x256) (k0_off1 i) S128x256.size (k0_off1_inb i)).emb z' = z := by
      funext a
      apply Fin.ext
      match a with
      | 0 => exact e.1.trans (h0.symm.trans z0.symm)
      | 1 => exact e.2
    have hG : tileHands i G z' = G z := congrArg G hzz
    exact ⟨z', rfl, Nat.zero_le _, hz1, by rw [hG]; exact hp, by rw [hG]; omega, by rw [hG]; omega⟩

variable (d : Dev nD) (i : grid0.Coords)

/-- The result, as a location, and the elements of its row `n`. -/
abbrev oLoc : Loc nD τ sig := (SparseCore.T d).loc main_v0
def rowSet (n : Nat) : Finset S4096x12288.Idx := Finset.univ.filter fun x => (x 0).val = n

/-- A row of the result. -/
abbrev rowPts (n : Nat) (g : Vec F S4096x12288 .f32) : sProp 𝕄 := oLoc d ↦[rowSet n]{fullShare} (g : Buf (Elt F) (oLoc d))

theorem outRow_val (off : Fin 2 → Nat) (h : ∀ a, off a + S1x12288.size a ≤ S4096x12288.size a) (y : S12288.Idx) :
    (((outRow off h).view.emb y) 0).val = off 0 ∧ (((outRow off h).view.emb y) 1).val = off 1 + (y 0).val := by
  have e := Shape.rowMajor_reshapeEquiv (squeezes_S1x12288_S12288.numel_eq) y
  generalize hz : Shape.reshapeEquiv (squeezes_S1x12288_S12288.numel_eq) y = z at e
  have e1 : (S1x12288.rowMajor z).val = (z 0).val * 12288 + (z 1).val := Shape.rowMajor_val_two z
  have e2 : (S12288.rowMajor y).val = (y 0).val := Shape.rowMajor_val_one y
  have hz0 : (z 0).val < 1 := (z 0).isLt
  have hz1 : (z 1).val < 12288 := (z 1).isLt
  constructor
  · show off 0 + 1 * (Shape.reshapeEquiv (squeezes_S1x12288_S12288.numel_eq) y 0).val = _
    rw [hz]
    omega
  · show off 1 + 1 * (Shape.reshapeEquiv (squeezes_S1x12288_S12288.numel_eq) y 1).val = _
    rw [hz]
    omega

theorem outRow_set (off : Fin 2 → Nat) (h : ∀ a, off a + S1x12288.size a ≤ S4096x12288.size a) (n : Nat) (hoff : off = ![n, 0]) :
    (outRow off h).view.set = rowSet n := by
  have o0 : off 0 = n := congrFun hoff 0
  have o1 : off 1 = 0 := congrFun hoff 1
  ext x
  constructor
  · intro hx
    obtain ⟨y, -, rfl⟩ := Finset.mem_map.mp hx
    exact Finset.mem_filter.mpr ⟨Finset.mem_univ _, (outRow_val off h y).1.trans o0⟩
  · intro hx
    have hx0 := (Finset.mem_filter.mp hx).2
    have hx1 : (x 1).val < 12288 := (x 1).isLt
    let y : S12288.Idx := fun | 0 => ⟨(x 1).val, hx1⟩
    refine Finset.mem_map.mpr ⟨y, Finset.mem_univ _, ?_⟩
    funext a
    apply Fin.ext
    have e := outRow_val off h y
    match a with
    | 0 => exact e.1.trans (o0.trans hx0.symm)
    | 1 => exact e.2.trans (by rw [o1, Nat.zero_add])

/-- The row copied is the row wanted. -/
theorem row_written {G : S4096x256.Idx → BitVec 32} {p : Fin 2} {r : Nat} (hr : r < 128) {f : Vec F S24576 .f32} (hf : Shows (tileHands i G) p r f)
    (off : Fin 2 → Nat) (h : ∀ a, off a + S1x12288.size a ≤ S4096x12288.size a) (hoff : off = ![base i + r, 0]) (g : Vec F S4096x12288 .f32) :
    ∀ x ∈ rowSet (base i + r), (outRow off h).view.write (Elt F) g ((half p).view.read (Elt F) f) Finset.univ x = want G x := by
  intro x hx
  rw [← outRow_set off h _ hoff] at hx
  obtain ⟨y, -, rfl⟩ := Finset.mem_map.mp hx
  rw [View.write_emb_of_mem _ _ (Finset.mem_univ y)]
  have e := outRow_val off h y
  exact shows_want hr hf y _ (e.1.trans (congrFun hoff 0)) (e.2.trans (by rw [show off 1 = 0 from congrFun hoff 1, Nat.zero_add]))

/-- The transfers' counters. -/
abbrev EC : UEmb Counters 𝕄 := countersEmb

/-- A copy's credit. -/
def credit : Nat := (main_v0_scv : Ref sig .scVector).dmaCredit S12288 .f32

/-- A copy of half `p` to the row `n` in flight: it brings the row wanted and the share lent. -/
def InFlight (G : S4096x256.Idx → BitVec 32) (p : Fin 2) (n : Nat) (f : Vec F S24576 .f32) : sProp 𝕄 :=
  Transfers.Flight EC (thr d i) (.dma (sem p).sem) none credit iprop(rowPts d n (want G) ∗ rLoc d i ↦[halfSet p]{lent} f)

/-- A semaphore of the tile at zero. -/
abbrev semAt (p : Fin 2) : sProp 𝕄 := semVal (thr d i, .dma (sem p).sem) 0

theorem flight_congr {G : S4096x256.Idx → BitVec 32} {p : Fin 2} {n : Nat} {f g : Vec F S24576 .f32} (h : ∀ x ∈ halfSet p, g x = f x) :
    (InFlight d i G p n f : sProp 𝕄) ⊢ InFlight d i G p n g := by
  have e : (rLoc d i ↦[halfSet p]{lent} f : sProp 𝕄) = rLoc d i ↦[halfSet p]{lent} g := pointsTo_congr fun x hx => (h x hx).symm
  unfold InFlight
  rw [e]

/-- The copy of a half to a row starts. -/
theorem start_step {G : S4096x256.Idx → BitVec 32} (p : Fin 2) {r : Nat} (hr : r < 128) {f : Vec F S24576 .f32} (hf : Shows (tileHands i G) p r f)
    (off : Fin 2 → Nat) (h : ∀ a, off a + S1x12288.size a ≤ S4096x12288.size a) (hoff : off = ![base i + r, 0]) (g : Vec F S4096x12288 .f32)
    {k : PUnit → TileProg F i PUnit} {Q : PUnit → sProp 𝕄} :
    iprop(Hold d i p f ∗ rowPts d (base i + r) g ∗ semAt d i p) ⊢
      iprop((iprop((rLoc d i ↦{kept} f) ∗ InFlight d i G p (base i + r) f) -∗ runs d i (k ⟨⟩) Q) -∗ runs d i (.op (start i p off h) k) Q : sProp 𝕄) := by
  have h0 : (Hold d i p f : sProp 𝕄) = iprop((rLoc d i ↦{kept} f) ∗ rLoc d i ↦[halfSet p]{lent} f) := rfl
  have hset : (half p).view.set = halfSet p := rfl
  have hw : (rowPts d (base i + r) ((outRow off h).view.write (Elt F) g ((half p).view.read (Elt F) f) Finset.univ) : sProp 𝕄) = rowPts d (base i + r) (want G) :=
    pointsTo_congr (row_written i hr hf off h hoff g)
  rw [h0]
  unfold runs
  iintro ⟨⟨Hk, Hl⟩, Hr, Hs⟩ HQ
  iapply (Transfers.wp_dmaLocal EC 𝒱₀ (thr d i) none (src := half p) (dst := outRow off h) (sm := .dma (sem p).sem)
    (Sd := rowSet (base i + r)) (fd := g) (fs := f) (q := lent) none credit rfl (View.dmaCredit_pos (outRow off h).view (by decide)) (outRow_set off h _ hoff).le) $$ [Hl Hr Hs]
  · isplitl [Hl]
    · rw [hset]; iexact Hl
    isplitl [Hr]
    · iexact Hr
    · iexact Hs
  iintro Hf
  iapply HQ
  isplitl [Hk]
  · iexact Hk
  unfold InFlight
  rw [← hw]
  iexact Hf

/-- The tile's debts and waits. -/
def Owes (O : CellTallies nD τ sig (HIx 1)) (W : Waits sig (HIx 1)) : sProp 𝕄 :=
  iprop(Transfers.MayWaits (thr d i) (none : HIx 1) O ∗ ∃ W', ⌜∀ p ∈ W', p ∈ W ∨ p.2 = none⌝ ∗ owes (thr d i) O W')

/-- A wait for a copy of a half. -/
theorem await_step {G : S4096x256.Idx → BitVec 32} (p : Fin 2) {n : Nat} {f : Vec F S24576 .f32}
    (off : Fin 2 → Nat) (h : ∀ a, off a + S1x12288.size a ≤ S4096x12288.size a) {O : CellTallies nD τ sig (HIx 1)} {W : Waits sig (HIx 1)}
    {k : PUnit → TileProg F i PUnit} {Q : PUnit → sProp 𝕄} :
    iprop(InFlight d i G p n f ∗ Owes d i O W) ⊢
      iprop((iprop(rowPts d n (want G) ∗ (rLoc d i ↦[halfSet p]{lent} f) ∗ semAt d i p ∗ Owes d i O W) -∗ runs d i (k ⟨⟩) Q)
        -∗ runs d i (.op (await i p off h) k) Q : sProp 𝕄) := by
  unfold runs InFlight Owes
  iintro ⟨Hf, #Hmw, %W', %hW', HO⟩ HQ
  ihave Hm := (Transfers.MayWaits.elim (.dma (sem p).sem)) $$ Hmw
  iapply (Transfers.wp_waitLocalO EC 𝒱₀ (thr d i) none (srcw := half p) (dstw := outRow off h) (sem := (sem p).sem) none (N := credit) rfl) $$ [Hf HO Hm]
  · isplitl [Hf]; · iexact Hf
    isplitl [HO]; · iexact HO
    iexact Hm
  iintro ⟨⟨Hr, Hl⟩, Hs, HO⟩
  iapply HQ
  isplitl [Hr]; · iexact Hr
  isplitl [Hl]; · iexact Hl
  isplitl [Hs]; · iexact Hs
  isplitr; · iexact Hmw
  iexists _
  isplitr
  swap
  · iexact HO
  · ipureintro
    intro q hq
    rcases Finset.mem_insert.mp hq with hq | hq
    · exact .inr (hq ▸ rfl)
    · exact hW' q hq

end Cert.Tile
-- ==== Proof.Tile.lean ====
/-
  A tile's run: it fills the row buffer, and writes its rows of the result one after another through the buffer's two halves.
-/
module

public import proofs.«01_k».proof.Proof.Copies

@[expose] public section

noncomputable section

namespace Cert.Tile

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts Cert.Body

variable {F : FTy → Type} [FloatOps F]

local notation "𝕄" => MT nD τ sig (HIx 1) (Elt F) ℕ UU ℕ

variable (d : Dev nD) (i : grid0.Coords)

/-- The half not `p`, as a complement. -/
theorem half_compl : Finset.univ \ halfSet 0 = halfSet 1 := by
  ext x
  have hx : (x 0).val < 24576 := (x 0).isLt
  rw [Finset.mem_sdiff, mem_half, mem_half]
  show (_ ∧ ¬ (12288 * 0 ≤ _ ∧ _ < 12288 * 0 + 12288)) ↔ (12288 * 1 ≤ _ ∧ _ < 12288 * 1 + 12288)
  constructor
  · rintro ⟨-, h⟩; omega
  · intro h; exact ⟨Finset.mem_univ _, by omega⟩

/-- The row buffer, in the share kept and the two halves lent. -/
theorem buf_split (f : Vec F S24576 .f32) :
    (rLoc d i ↦{fullShare} f : sProp 𝕄) ⊣⊢ iprop((rLoc d i ↦{kept} f) ∗ (rLoc d i ↦[halfSet 0]{lent} f) ∗ rLoc d i ↦[halfSet 1]{lent} f) := by
  have h1 : (rLoc d i ↦{fullShare} f : sProp 𝕄) ⊣⊢ iprop((rLoc d i ↦{lent} f) ∗ rLoc d i ↦{kept} f) := pointsTo_share (PosShare.mem_left_op_right _)
  have h2 : (rLoc d i ↦{lent} f : sProp 𝕄) ⊣⊢ iprop((rLoc d i ↦[halfSet 0]{lent} f) ∗ rLoc d i ↦[Finset.univ \ halfSet 0]{lent} f) :=
    pointsTo_split_subset (Finset.subset_univ _)
  rw [half_compl] at h2
  constructor
  · iintro H
    ihave H' := h1.1 $$ H
    icases H' with ⟨Hl, Hk⟩
    ihave H' := h2.1 $$ Hl
    icases H' with ⟨Ha, Hb⟩
    isplitl [Hk]; · iexact Hk
    isplitl [Ha]; · iexact Ha
    iexact Hb
  · iintro ⟨Hk, Ha, Hb⟩
    iapply h1.2
    isplitl [Ha Hb]
    · iapply h2.2
      isplitl [Ha]; · iexact Ha
      iexact Hb
    · iexact Hk

/-- The filling loop's invariant: the entries before `16 * t` are empty. -/
def filled (t : Nat) (_ : PUnit) : sProp 𝕄 :=
  iprop(∃ f : Vec F S24576 .f32, ⌜∀ x : S24576.Idx, (x 0).val < 16 * t → f x = holeE⌝ ∗ rLoc d i ↦{fullShare} f)

theorem fill_step (t : Fin k0_t1_loop.trips) (a : PUnit) :
    (filled d i t.val a : sProp 𝕄) ⊢ runs d i (fill i t a) (filled d i (t.val + 1)) := by
  unfold filled runs fill
  have e := Cert.KernelIdeal.Gen.k0_off2_eq t
  have e0 : k0_off2 t 0 = 16 * t.val := congrFun e 0
  iintro ⟨%f, %hf, H⟩
  iapply (wp_load 𝒱₀ (thr d i) none Set.univ (m := rowbuf) (S := Finset.univ) (Finset.subset_univ _)) $$ H; iintro H
  iapply (wp_store 𝒱₀ (thr d i) none Set.univ (m := rowbuf) (r := Rect.unit (s := S24576) (k0_off2 t) S16.size (k0_off2_inb t)) (Mk := Finset.univ)
    (S := Finset.univ) (f := f) (Finset.subset_univ _)) $$ H; iintro H
  rw [wp_ret]
  imodintro
  iexists _
  isplitr
  swap
  · iexact H
  ipureintro
  intro x hx
  by_cases h : x ∈ (rowbuf.access (Rect.unit (s := S24576) (k0_off2 t) S16.size (k0_off2_inb t))).setOn Finset.univ
  · obtain ⟨y, -, rfl⟩ := Finset.mem_map.mp h
    exact View.write_emb_of_mem (v := rowbuf.access (Rect.unit (s := S24576) (k0_off2 t) S16.size (k0_off2_inb t))) _ _ (Finset.mem_univ y)
  · rw [View.write_of_not_mem _ _ _ h]
    refine hf x ?_
    by_contra hge
    have hlt : (x 0).val - 16 * t.val < 16 := by omega
    let y : S16.Idx := fun | 0 => ⟨(x 0).val - 16 * t.val, hlt⟩
    refine h (Finset.mem_map.mpr ⟨y, Finset.mem_univ _, ?_⟩)
    funext b
    apply Fin.ext
    match b with
    | 0 =>
      show k0_off2 t 0 + 1 * ((x 0).val - 16 * t.val) = (x 0).val
      omega

/-- What a row's turn finds and leaves: the tile's hands, the row buffer read, and its debts. -/
def Work (G : S4096x256.Idx → BitVec 32) (O : CellTallies nD τ sig (HIx 1)) (W : Waits sig (HIx 1)) (f : Vec F S24576 .f32) : sProp 𝕄 :=
  iprop(Hands d i (tileHands i G) ∗ (rLoc d i ↦{kept} f) ∗ Owes d i O W)

/-- The half `p` after row `r` makes way for row `r'`. -/
def repaint (H : S128x256.Idx → BitVec 32) (p : Fin 2) (r r' : Nat) (f : Vec F S24576 .f32) : Vec F S24576 .f32 :=
  paint (names H p r' 0 256) zeroE (paint (names H p r 0 256) holeE f)

theorem offWait_eq (t : Fin k0_t2_loop.trips) (p : Fin 2) : offWait i t p = ![base i + (2 * t.val + p.val), 0] := by
  match p with
  | 0 => exact (Cert.KernelIdeal.Gen.k0_off5_eq i t)
  | 1 => exact (Cert.KernelIdeal.Gen.k0_off39_eq i t)
theorem offStart_eq (t : Fin k0_t2_loop.trips) (p : Fin 2) : offStart i t p = ![base i + (2 * t.val + 2 + p.val), 0] := by
  match p with
  | 0 => exact (Cert.KernelIdeal.Gen.k0_off38_eq i t)
  | 1 => exact (Cert.KernelIdeal.Gen.k0_off72_eq i t)
theorem rowOld_eq (t : Fin k0_t2_loop.trips) (p : Fin 2) : rowOld t p = 2 * t.val + p.val := by
  match p with
  | 0 => exact congrFun (Cert.KernelIdeal.Gen.k0_off6_eq t) 0
  | 1 => exact congrFun (Cert.KernelIdeal.Gen.k0_off40_eq t) 0
theorem rowNew_eq (t : Fin k0_t2_loop.trips) (p : Fin 2) : rowNew t p = 2 * t.val + 2 + p.val := by
  match p with
  | 0 => exact congrFun (Cert.KernelIdeal.Gen.k0_off22_eq t) 0
  | 1 => exact congrFun (Cert.KernelIdeal.Gen.k0_off56_eq t) 0

/-- Two programs over one resource, another kept by, then a third over both. -/
theorem two {p q k : TileProg F i PUnit} {C C₁ C₂ R : sProp 𝕄} {Q : PUnit → sProp 𝕄} (h1 : C ⊢ runs d i p fun _ => C₁) (h2 : C₁ ⊢ runs d i q fun _ => C₂)
    (h3 : iprop(R ∗ C₂) ⊢ runs d i k Q) : iprop(R ∗ C) ⊢ runs d i (p >>= fun _ => q >>= fun _ => k) Q :=
  seq d i (carry d i h1) fun _ => seq d i (carry d i h2) fun _ => h3

/-- A turn of the half `p`. -/
theorem turn_step {G : S4096x256.Idx → BitVec 32} (hG : ∀ y, (G y).toNat ≤ 4096) (O : CellTallies nD τ sig (HIx 1)) (W : Waits sig (HIx 1))
    (t : Fin k0_t2_loop.trips) (p : Fin 2) {r r' : Nat} (er : rowOld t p = r) (er' : rowNew t p = r')
    (ew : offStart i t p = ![base i + r', 0]) {f : Vec F S24576 .f32} (hf : Shows (tileHands i G) p r f) (g : Vec F S4096x12288 .f32) :
    iprop(Work d i G O W f ∗ InFlight d i G p (base i + r) f ∗ rowPts d (base i + r') g) ⊢
      (runs d i (turn (scatN i) t p) fun _ =>
        iprop(Work d i G O W (repaint (tileHands i G) p r r' f)
          ∗ InFlight d i G p (base i + r') (repaint (tileHands i G) p r r' f)
          ∗ rowPts d (base i + r) (want G)) : sProp 𝕄) := by
  have hH : ∀ y, (tileHands i G y).toNat ≤ 4096 := fun y => hG _
  have hr : r' < 128 := er' ▸ rowNew_lt t p
  have hv : ((fun _ => holeE) : FVec F S16 .f32) = hole := rfl
  have hz : ((fun _ => zeroE) : FVec F S16 .f32) = zero := rfl
  have h1 := row_step (F := F) d i hH p holeE (rowOld t p) (rowOld_lt t p) f
  have h2 := row_step (F := F) d i hH p zeroE (rowNew t p) (rowNew_lt t p) (paint (names (tileHands i G) p (rowOld t p) 0 256) holeE f)
  rw [hv] at h1
  rw [hz] at h2
  rw [show names (tileHands i G) p (rowOld t p) 0 256 = names (tileHands i G) p r 0 256 by rw [er]] at h1 h2
  rw [show names (tileHands i G) p (rowNew t p) 0 256 = names (tileHands i G) p r' 0 256 by rw [er']] at h2
  have h3 : iprop(iprop(rowPts d (base i + r) (want G) ∗ semAt d i p ∗ Owes d i O W ∗ rowPts d (base i + r') g)
        ∗ Hands d i (tileHands i G) ∗ Hold d i p (repaint (tileHands i G) p r r' f)) ⊢
      (runs d i (.op (start i p (offStart i t p) (offStart_inb i t p)) fun _ => .ret ⟨⟩) fun _ =>
        iprop(Work d i G O W (repaint (tileHands i G) p r r' f)
          ∗ InFlight d i G p (base i + r') (repaint (tileHands i G) p r r' f)
          ∗ rowPts d (base i + r) (want G)) : sProp 𝕄) := by
    unfold Work
    iintro ⟨⟨Hw, Hs, HO, Hr⟩, HH, Hh⟩
    iapply (start_step d i p hr (shows_next (r' := r') hf) (offStart i t p) (offStart_inb i t p) ew g) $$ [Hh Hr Hs]
    · isplitl [Hh]; · iexact Hh
      isplitl [Hr]; · iexact Hr
      iexact Hs
    iintro ⟨Hk, Hf⟩
    unfold runs
    rw [wp_ret]
    imodintro
    isplitl [HH Hk HO]
    · isplitl [HH]; · iexact HH
      isplitl [Hk]; · iexact Hk
      iexact HO
    isplitl [Hf]; · iexact Hf
    iexact Hw
  unfold turn
  rw [show (Work d i G O W f : sProp 𝕄) = iprop(Hands d i (tileHands i G) ∗ (rLoc d i ↦{kept} f) ∗ Owes d i O W) from rfl]
  iintro ⟨⟨HH, Hk, HO⟩, Hf, Hr⟩
  iapply (await_step d i p (offWait i t p) (offWait_inb i t p)) $$ [Hf HO]
  · isplitl [Hf]; · iexact Hf
    iexact HO
  iintro ⟨Hw, Hl, Hs, HO⟩
  have h4 := two d i h1 h2 h3
  iapply h4
  isplitl [Hw Hs HO Hr]
  · isplitl [Hw]; · iexact Hw
    isplitl [Hs]; · iexact Hs
    isplitl [HO]; · iexact HO
    iexact Hr
  isplitl [HH]; · iexact HH
  unfold Hold
  isplitl [Hk]; · iexact Hk
  iexact Hl

/-- The rows of a set of the tile's. -/
abbrev rowsAt (s : Finset ℕ) (g : Vec F S4096x12288 .f32) : sProp 𝕄 := bigSep s fun n => rowPts d (base i + n) g

theorem rowsAt_snoc (n : Nat) (g : Vec F S4096x12288 .f32) :
    (rowsAt d i (Finset.range (n + 2)) g : sProp 𝕄) = iprop(rowPts d (base i + n) g ∗ rowPts d (base i + (n + 1)) g ∗ rowsAt d i (Finset.range n) g) := by
  have e : Finset.range (n + 2) = insert n (insert (n + 1) (Finset.range n)) := by ext x; simp only [Finset.mem_range, Finset.mem_insert]; omega
  unfold rowsAt
  rw [e, SparseCore.bigSep_insert' (by simp), SparseCore.bigSep_insert' (by simp)]

theorem rowsAt_cons (n : Nat) (hn : n + 1 < 128) (g : Vec F S4096x12288 .f32) :
    (rowsAt d i (Finset.Ico n 128) g : sProp 𝕄) = iprop(rowPts d (base i + n) g ∗ rowPts d (base i + (n + 1)) g ∗ rowsAt d i (Finset.Ico (n + 2) 128) g) := by
  have e : Finset.Ico n 128 = insert n (insert (n + 1) (Finset.Ico (n + 2) 128)) := by ext x; simp only [Finset.mem_Ico, Finset.mem_insert]; omega
  unfold rowsAt
  rw [e, SparseCore.bigSep_insert' (by simp), SparseCore.bigSep_insert' (by simp)]

/-- Rows `r` and `r + 1` are in flight, the ones before written. -/
def written (G : S4096x256.Idx → BitVec 32) (O : CellTallies nD τ sig (HIx 1)) (W : Waits sig (HIx 1)) (g : Vec F S4096x12288 .f32) (r : Nat) : sProp 𝕄 :=
  iprop(∃ f : Vec F S24576 .f32, ⌜Shows (tileHands i G) 0 r f ∧ Shows (tileHands i G) 1 (r + 1) f⌝ ∗ Work d i G O W f
    ∗ InFlight d i G 0 (base i + r) f ∗ InFlight d i G 1 (base i + (r + 1)) f
    ∗ rowsAt d i (Finset.range r) (want G) ∗ rowsAt d i (Finset.Ico (r + 2) 128) g)

theorem trip_eq (t : Fin k0_t2_loop.trips) (a : PUnit) : trip (scatN (F := F) i) t a = (turn (scatN i) t 0 >>= fun _ => turn (scatN i) t 1) := rfl

theorem trip_step {G : S4096x256.Idx → BitVec 32} (hG : ∀ y, (G y).toNat ≤ 4096) (O : CellTallies nD τ sig (HIx 1)) (W : Waits sig (HIx 1))
    (g : Vec F S4096x12288 .f32) (t : Fin k0_t2_loop.trips) (a : PUnit) {r : Nat} (e0 : rowOld t 0 = r) (e1 : rowOld t 1 = r + 1)
    (e2 : rowNew t 0 = r + 2) (e3 : rowNew t 1 = r + 2 + 1) (w0 : offStart i t 0 = ![base i + (r + 2), 0]) (w1 : offStart i t 1 = ![base i + (r + 2 + 1), 0]) :
    (written d i G O W g r : sProp 𝕄) ⊢ runs d i (trip (scatN i) t a) fun _ => written d i G O W g (r + 2) := by
  have hH : ∀ y, (tileHands i G y).toNat ≤ 4096 := fun y => hG _
  have hr : r + 2 + 1 < 128 := e3 ▸ rowNew_lt t 1
  have hwr : (written d i G O W g r : sProp 𝕄) = iprop(∃ f : Vec F S24576 .f32, ⌜Shows (tileHands i G) 0 r f ∧ Shows (tileHands i G) 1 (r + 1) f⌝ ∗ Work d i G O W f
    ∗ InFlight d i G 0 (base i + r) f ∗ InFlight d i G 1 (base i + (r + 1)) f
    ∗ rowsAt d i (Finset.range r) (want G) ∗ rowsAt d i (Finset.Ico (r + 2) 128) g) := rfl
  rw [hwr, rowsAt_cons d i (r + 2) hr]
  rw [trip_eq]
  iintro ⟨%f, %hf, Hw, H0, H1, Hd, Ha, Hb, Ht⟩
  obtain ⟨hf0, hf1⟩ := hf
  have A := turn_step (F := F) d i hG O W t 0 e0 e2 w0 hf0 g
  have off0 : ∀ x ∈ halfSet 1, repaint (tileHands i G) 0 r (r + 2) f x = f x := fun x hx =>
    (half_off hH (by decide) hx).trans (half_off hH (by decide) hx)
  have hf0' : Shows (tileHands i G) 0 (r + 2) (repaint (tileHands i G) 0 r (r + 2) f) := shows_next hf0
  generalize repaint (tileHands i G) 0 r (r + 2) f = f1 at *
  have hf1' : Shows (tileHands i G) 1 (r + 1) f1 := shows_congr off0 hf1
  have B := turn_step (F := F) d i hG O W t 1 e1 e3 w1 hf1' g
  have off1 : ∀ x ∈ halfSet 0, repaint (tileHands i G) 1 (r + 1) (r + 2 + 1) f1 x = f1 x := fun x hx =>
    (half_off hH (by decide) hx).trans (half_off hH (by decide) hx)
  have hf1'' : Shows (tileHands i G) 1 (r + 2 + 1) (repaint (tileHands i G) 1 (r + 1) (r + 2 + 1) f1) := shows_next hf1'
  generalize repaint (tileHands i G) 1 (r + 1) (r + 2 + 1) f1 = f2 at *
  have hf0'' : Shows (tileHands i G) 0 (r + 2) f2 := shows_congr off1 hf0'
  have C : iprop(iprop(InFlight d i G 1 (base i + (r + 1)) f ∗ rowPts d (base i + (r + 2 + 1)) g ∗ rowsAt d i (Finset.range r) (want G)
          ∗ rowsAt d i (Finset.Ico (r + 2 + 2) 128) g)
        ∗ Work d i G O W f1 ∗ InFlight d i G 0 (base i + (r + 2)) f1 ∗ rowPts d (base i + r) (want G)) ⊢
      (runs d i (turn (scatN i) t 1) fun _ => written d i G O W g (r + 2) : sProp 𝕄) := by
    refine BIBase.Entails.trans (Q := iprop(iprop(InFlight d i G 0 (base i + (r + 2)) f1 ∗ rowPts d (base i + r) (want G)
        ∗ rowsAt d i (Finset.range r) (want G) ∗ rowsAt d i (Finset.Ico (r + 2 + 2) 128) g)
      ∗ Work d i G O W f1 ∗ InFlight d i G 1 (base i + (r + 1)) f1 ∗ rowPts d (base i + (r + 2 + 1)) g)) ?_
      ((carry d i B).trans (wp_mono frame _ _ fun _ => ?_))
    · iintro ⟨⟨H1, Hr, Hd, Ht⟩, Hw, H0, Hr0⟩
      isplitl [H0 Hr0 Hd Ht]
      · isplitl [H0]; · iexact H0
        isplitl [Hr0]; · iexact Hr0
        isplitl [Hd]; · iexact Hd
        iexact Ht
      isplitl [Hw]; · iexact Hw
      isplitl [H1]
      · iapply (flight_congr d i off0); iexact H1
      iexact Hr
    · unfold written
      rw [rowsAt_snoc]
      iintro ⟨⟨H0, Hr0, Hd, Ht⟩, Hw, H1, Hr1⟩
      iexists f2
      isplitr
      · ipureintro; exact ⟨hf0'', hf1''⟩
      isplitl [Hw]; · iexact Hw
      isplitl [H0]
      · iapply (flight_congr d i off1); iexact H0
      isplitl [H1]; · iexact H1
      isplitl [Hr0 Hr1 Hd]
      · isplitl [Hr0]; · iexact Hr0
        isplitl [Hr1]; · iexact Hr1
        iexact Hd
      iexact Ht
  have D := seq d i (carry d i (R := iprop(InFlight d i G 1 (base i + (r + 1)) f ∗ rowPts d (base i + (r + 2 + 1)) g ∗ rowsAt d i (Finset.range r) (want G)
          ∗ rowsAt d i (Finset.Ico (r + 2 + 2) 128) g)) A) fun _ => C
  iapply D
  isplitl [H1 Hb Hd Ht]
  · isplitl [H1]; · iexact H1
    isplitl [Hb]; · iexact Hb
    isplitl [Hd]; · iexact Hd
    iexact Ht
  isplitl [Hw]; · iexact Hw
  isplitl [H0]; · iexact H0
  iexact Ha

/-- What is left after the main loop: the two last rows awaited. -/
theorem tail_step {G : S4096x256.Idx → BitVec 32} (O : CellTallies nD τ sig (HIx 1)) (W : Waits sig (HIx 1)) (g : Vec F S4096x12288 .f32) :
    (written d i G O W g 126 : sProp 𝕄) ⊢ runs d i (tail i) fun _ =>
      iprop(Hands d i (tileHands i G) ∗ (∃ f, rLoc d i ↦{fullShare} f) ∗ semAt d i 0 ∗ semAt d i 1 ∗ Owes d i O W ∗ rowsAt d i (Finset.range 128) (want G)) := by
  unfold tail written Work
  rw [show (rowsAt d i (Finset.range 128) (want G) : sProp 𝕄) = _ from rowsAt_snoc d i 126 (want G)]
  iintro ⟨%f, -, ⟨HH, Hk, HO⟩, H0, H1, Hd, -⟩
  iapply (await_step d i 0 (k0_off4 i 126#32) (k0_off4_inb i 1)) $$ [H0 HO]
  · isplitl [H0]; · iexact H0
    iexact HO
  iintro ⟨Hr0, Hl0, Hs0, HO⟩
  iapply (await_step d i 1 (k0_off4 i 127#32) (k0_off4_inb i 2)) $$ [H1 HO]
  · isplitl [H1]; · iexact H1
    iexact HO
  iintro ⟨Hr1, Hl1, Hs1, HO⟩
  unfold runs
  rw [wp_ret]
  imodintro
  isplitl [HH]; · iexact HH
  isplitl [Hk Hl0 Hl1]
  · iexists f
    iapply (buf_split d i f).2
    isplitl [Hk]; · iexact Hk
    isplitl [Hl0]; · iexact Hl0
    iexact Hl1
  isplitl [Hs0]; · iexact Hs0
  isplitl [Hs1]; · iexact Hs1
  isplitl [HO]; · iexact HO
  isplitl [Hr0]; · iexact Hr0
  isplitl [Hr1]; · iexact Hr1
  iexact Hd

end Cert.Tile
-- ==== Proof.Rows.lean ====
/-
  A tile's whole run, from its hands copied in to its last row written.
-/
module

public import proofs.«01_k».proof.Proof.Tile

@[expose] public section

noncomputable section

namespace Cert.Tile

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts Cert.Body

variable {F : FTy → Type} [FloatOps F]

local notation "𝕄" => MT nD τ sig (HIx 1) (Elt F) ℕ UU ℕ

variable (d : Dev nD) (i : grid0.Coords)

theorem trips_rows : k0_t2_loop.trips = 63 := by decide +kernel
theorem trips_fill : k0_t1_loop.trips = 1536 := by decide +kernel

theorem off_first (i : grid0.Coords) : k0_off3 i = ![base i + 0, 0] := Cert.KernelIdeal.Gen.k0_off3_eq i
theorem off_second : ∀ i : grid0.Coords, k0_off4 i 1#32 = ![256 * (i 1).val + 128 * (i 0).val + 1, 0] := by decide +kernel

/-- What the tile's rows leave. -/
abbrev Done (G : S4096x256.Idx → BitVec 32) (O : CellTallies nD τ sig (HIx 1)) (W : Waits sig (HIx 1)) : sProp 𝕄 :=
  iprop(Hands d i (tileHands i G) ∗ (∃ f, rLoc d i ↦{fullShare} f) ∗ semAt d i 0 ∗ semAt d i 1 ∗ Owes d i O W ∗ rowsAt d i (Finset.range 128) (want G))

/-- What holds before turn `t` of the main loop. -/
def turns (G : S4096x256.Idx → BitVec 32) (O : CellTallies nD τ sig (HIx 1)) (W : Waits sig (HIx 1)) (g : Vec F S4096x12288 .f32) (t : Nat) (_ : PUnit.{1}) : sProp 𝕄 :=
  written d i G O W g (2 * t)

/-- The main loop and what follows it. -/
theorem loop_step {st : Step F i} (hst : st = scatN i) {G : S4096x256.Idx → BitVec 32} (hG : ∀ y, (G y).toNat ≤ 4096) (O : CellTallies nD τ sig (HIx 1)) (W : Waits sig (HIx 1))
    (g : Vec F S4096x12288 .f32) :
    (written d i G O W g 0 : sProp 𝕄) ⊢ runs d i (Scf.Loop.for k0_t2_loop k0_t2_ok ⟨⟩ (trip st) >>= fun _ => tail i) fun _ => Done d i G O W := by
  have v0 : (0 : Fin 2).val = 0 := rfl
  have v1 : (1 : Fin 2).val = 1 := rfl
  have ht : ∀ (t : Fin k0_t2_loop.trips) (a : PUnit.{1}), (turns d i G O W g t.val a : sProp 𝕄) ⊢
      runs d i (trip st t a) (turns d i G O W g (t.val + 1)) := by
    intro t a
    have e : turns d i G O W g (t.val + 1) = fun _ : PUnit.{1} => (written d i G O W g (2 * (t.val + 1)) : sProp 𝕄) := rfl
    rw [e]
    rw [Nat.mul_succ, hst]
    exact trip_step d i hG O W g t a (by rw [rowOld_eq, v0, Nat.add_zero]) (by rw [rowOld_eq, v1])
      (by rw [rowNew_eq, v0, Nat.add_zero]) (by rw [rowNew_eq, v1]) (by rw [offStart_eq, v0, Nat.add_zero]) (by rw [offStart_eq, v1])
  have hl := Scf.wp_for_bind frame (wpE (defsN₀ (F := F)) 𝒱₀ (thr d i) none) Set.univ k0_t2_loop.lb k0_t2_loop.ub k0_t2_loop.st k0_t2_ok PUnit.unit (trip st)
    (turns d i G O W g) ht
    (kk := fun _ => tail i) (Q := fun _ => Done d i G O W)
  have h0 : (written d i G O W g 0 : sProp 𝕄) = turns d i G O W g 0 PUnit.unit := by show _ = written d i G O W g (2 * 0); rw [Nat.mul_zero]
  have h1 : turns d i G O W g 63 PUnit.unit = (written d i G O W g 126 : sProp 𝕄) := rfl
  rw [h0]
  unfold runs
  iintro H
  iapply hl $$ H
  iintro %a H
  rw [show Scf.trips k0_t2_loop.lb k0_t2_loop.ub k0_t2_loop.st = 63 from trips_rows]
  ihave H := (Entails.of_eq h1) $$ H
  iapply (tail_step d i O W g)
  iexact H

theorem rows_eq (st : Step F i) : rows st = (row st 0 zero 0 (by decide) >>= fun _ =>
    .op (start i 0 (k0_off3 i) (k0_off3_inb i)) fun _ =>
      row st 1 zero 1 (by decide) >>= fun _ =>
      .op (start i 1 (k0_off4 i 1#32) (k0_off4_inb i 0)) fun _ =>
        Scf.Loop.for k0_t2_loop k0_t2_ok ⟨⟩ (trip st) >>= fun _ => tail i) := rfl

/-- From the first row on. -/
theorem rows_step {st : Step F i} (hst : st = scatN i) {G : S4096x256.Idx → BitVec 32} (hG : ∀ y, (G y).toNat ≤ 4096) (O : CellTallies nD τ sig (HIx 1)) (W : Waits sig (HIx 1))
    (g : Vec F S4096x12288 .f32) (f : Vec F S24576 .f32) (hf : ∀ x, f x = holeE) :
    iprop(Hands d i (tileHands i G) ∗ (rLoc d i ↦{fullShare} f) ∗ semAt d i 0 ∗ semAt d i 1 ∗ Owes d i O W ∗ rowsAt d i (Finset.Ico 0 128) g) ⊢
      (runs d i (rows st) fun _ => Done d i G O W : sProp 𝕄) := by
  have hH : ∀ y, (tileHands i G y).toNat ≤ 4096 := fun y => hG _
  have hz : ((fun _ => zeroE) : FVec F S16 .f32) = zero := rfl
  have h0 := row_step (F := F) d i hH 0 zeroE 0 (by decide) f
  have s0 : Shows (tileHands i G) 0 0 (paint (names (tileHands i G) 0 0 0 256) zeroE f) := shows_paint fun x _ => hf x
  have o0 : ∀ x ∈ halfSet 1, paint (names (tileHands i G) 0 0 0 256) zeroE f x = f x := fun x hx => half_off hH (by decide) hx
  generalize paint (names (tileHands i G) 0 0 0 256) zeroE f = f1 at *
  have h1 := row_step (F := F) d i hH 1 zeroE 1 (by decide) f1
  have s1 : Shows (tileHands i G) 1 1 (paint (names (tileHands i G) 1 1 0 256) zeroE f1) := shows_paint fun x hx => (o0 x hx).trans (hf x)
  have o1 : ∀ x ∈ halfSet 0, paint (names (tileHands i G) 1 1 0 256) zeroE f1 x = f1 x := fun x hx => half_off hH (by decide) hx
  generalize paint (names (tileHands i G) 1 1 0 256) zeroE f1 = f2 at *
  have s0' : Shows (tileHands i G) 0 0 f2 := shows_congr o1 s0
  rw [hz, ← hst] at h0 h1
  -- the second copy starts, then the loop
  have c1 : iprop(iprop(semAt d i 1 ∗ Owes d i O W ∗ InFlight d i G 0 (base i + 0) f1 ∗ rowPts d (base i + 1) g ∗ rowsAt d i (Finset.Ico 2 128) g)
        ∗ Hands d i (tileHands i G) ∗ Hold d i 1 f2) ⊢
      (runs d i (.op (start i 1 (k0_off4 i 1#32) (k0_off4_inb i 0)) fun _ =>
        Scf.Loop.for k0_t2_loop k0_t2_ok ⟨⟩ (trip st) >>= fun _ => tail i) fun _ => Done d i G O W : sProp 𝕄) := by
    iintro ⟨⟨Hs1, HO, H0, Hr1, Ht⟩, HH, Hh⟩
    iapply (start_step d i 1 (r := 1) (by decide) s1 (k0_off4 i 1#32) (k0_off4_inb i 0) (off_second i) g) $$ [Hh Hr1 Hs1]
    · isplitl [Hh]; · iexact Hh
      isplitl [Hr1]; · iexact Hr1
      iexact Hs1
    iintro ⟨Hk, H1⟩
    iapply (loop_step d i hst hG O W g)
    unfold written Work
    iexists f2
    isplitr
    · ipureintro; exact ⟨s0', s1⟩
    isplitl [HH Hk HO]
    · isplitl [HH]; · iexact HH
      isplitl [Hk]; · iexact Hk
      iexact HO
    isplitl [H0]
    · iapply (flight_congr d i o1); iexact H0
    isplitl [H1]; · iexact H1
    isplitr [Ht]
    · rw [Finset.range_zero]; unfold rowsAt; rw [bigSep_empty]; iempintro
    iexact Ht
  have c0 : iprop(iprop((rLoc d i ↦[halfSet 1]{lent} f) ∗ semAt d i 0 ∗ semAt d i 1 ∗ Owes d i O W ∗ rowsAt d i (Finset.Ico 0 128) g)
        ∗ Hands d i (tileHands i G) ∗ Hold d i 0 f1) ⊢
      (runs d i (.op (start i 0 (k0_off3 i) (k0_off3_inb i)) fun _ =>
        row st 1 zero 1 (by decide) >>= fun _ =>
        .op (start i 1 (k0_off4 i 1#32) (k0_off4_inb i 0)) fun _ =>
          Scf.Loop.for k0_t2_loop k0_t2_ok ⟨⟩ (trip st) >>= fun _ => tail i) fun _ => Done d i G O W : sProp 𝕄) := by
    have e := seq d i (carry d i (R := iprop(semAt d i 1 ∗ Owes d i O W ∗ InFlight d i G 0 (base i + 0) f1 ∗ rowPts d (base i + 1) g ∗ rowsAt d i (Finset.Ico 2 128) g)) h1) fun _ => c1
    have e1 : (rLoc d i ↦[halfSet 1]{lent} f : sProp 𝕄) = rLoc d i ↦[halfSet 1]{lent} f1 := pointsTo_congr fun x hx => (o0 x hx).symm
    rw [rowsAt_cons d i 0 (by decide), e1]
    iintro ⟨⟨Hl, Hs0, Hs1, HO, Hr0, Hr1, Ht⟩, HH, Hh⟩
    iapply (start_step d i 0 (r := 0) (by decide) s0 (k0_off3 i) (k0_off3_inb i) (off_first i) g) $$ [Hh Hr0 Hs0]
    · isplitl [Hh]; · iexact Hh
      isplitl [Hr0]; · iexact Hr0
      iexact Hs0
    iintro ⟨Hk, H0⟩
    iapply e
    isplitl [Hs1 HO H0 Hr1 Ht]
    · isplitl [Hs1]; · iexact Hs1
      isplitl [HO]; · iexact HO
      isplitl [H0]; · iexact H0
      isplitl [Hr1]; · iexact Hr1
      iexact Ht
    isplitl [HH]; · iexact HH
    unfold Hold
    isplitl [Hk]; · iexact Hk
    iexact Hl
  have e := seq d i (carry d i (R := iprop((rLoc d i ↦[halfSet 1]{lent} f) ∗ semAt d i 0 ∗ semAt d i 1 ∗ Owes d i O W ∗ rowsAt d i (Finset.Ico 0 128) g)) h0) fun _ => c0
  rw [rows_eq]
  refine BIBase.Entails.trans ?_ e
  iintro ⟨HH, Hb, Hs0, Hs1, HO, Ht⟩
  ihave Hb' := (buf_split d i f).1 $$ Hb
  icases Hb' with ⟨Hk, Ha, Hl⟩
  isplitl [Hl Hs0 Hs1 HO Ht]
  · isplitl [Hl]; · iexact Hl
    isplitl [Hs0]; · iexact Hs0
    isplitl [Hs1]; · iexact Hs1
    isplitl [HO]; · iexact HO
    iexact Ht
  isplitl [HH]; · iexact HH
  unfold Hold
  isplitl [Hk]; · iexact Hk
  iexact Ha

/-- The filling loop and what follows it. -/
theorem fill_rows {st : Step F i} (hst : st = scatN i) {G : S4096x256.Idx → BitVec 32} (hG : ∀ y, (G y).toNat ≤ 4096) (O : CellTallies nD τ sig (HIx 1)) (W : Waits sig (HIx 1))
    (g : Vec F S4096x12288 .f32) (f : Vec F S24576 .f32) :
    iprop(Hands d i (tileHands i G) ∗ (rLoc d i ↦{fullShare} f) ∗ semAt d i 0 ∗ semAt d i 1 ∗ Owes d i O W ∗ rowsAt d i (Finset.Ico 0 128) g) ⊢
      (runs d i (Scf.Loop.for k0_t1_loop k0_t1_ok ⟨⟩ (fill i) >>= fun _ => rows st) fun _ => Done d i G O W : sProp 𝕄) := by
  have hl := Scf.wp_for_bind frame (wpE (defsN₀ (F := F)) 𝒱₀ (thr d i) none) Set.univ k0_t1_loop.lb k0_t1_loop.ub k0_t1_loop.st k0_t1_ok PUnit.unit (fill i)
    (filled d i) (fill_step d i) (kk := fun _ => rows st) (Q := fun _ => Done d i G O W)
  have h0 : (rLoc d i ↦{fullShare} f : sProp 𝕄) ⊢ filled d i 0 PUnit.unit := by
    unfold filled
    iintro H
    iexists f
    isplitr
    · ipureintro
      intro x hx
      rw [Nat.mul_zero] at hx
      exact absurd hx (Nat.not_lt_zero _)
    · iexact H
  have h1 : ∀ a, (filled d i 1536 a : sProp 𝕄) =
      iprop(∃ f : Vec F S24576 .f32, ⌜∀ x : S24576.Idx, (x 0).val < 16 * 1536 → f x = holeE⌝ ∗ rLoc d i ↦{fullShare} f) := fun _ => rfl
  unfold runs
  iintro ⟨HH, Hb, Hs0, Hs1, HO, Ht⟩
  ihave Hb' := h0 $$ Hb
  iapply hl $$ Hb'
  iintro %a H
  rw [show Scf.trips k0_t1_loop.lb k0_t1_loop.ub k0_t1_loop.st = 1536 from trips_fill]
  ihave H := (Entails.of_eq (h1 a)) $$ H
  icases H with ⟨%f', %hf', Hb⟩
  iapply (rows_step d i hst hG O W g f' fun x => hf' x (x 0).isLt)
  isplitl [HH]; · iexact HH
  isplitl [Hb]; · iexact Hb
  isplitl [Hs0]; · iexact Hs0
  isplitl [Hs1]; · iexact Hs1
  isplitl [HO]; · iexact HO
  iexact Ht

/-- The hands, as a location, and the elements the tile copies in. -/
abbrev aLoc : Loc nD τ sig := (SparseCore.T d).loc main_arg0
abbrev handSet : Finset S4096x256.Idx := (handRows i).view.set

/-- The semaphore of the hands' copy at zero. -/
abbrev semIn : sProp 𝕄 := semVal (thr d i, .dma cc0_scoped0.sem) 0

/-- The whole body. -/
theorem body_step {st : Step F i} (hst : st = scatN i) {G : S4096x256.Idx → BitVec 32} (hG : ∀ y, (G y).toNat ≤ 4096) (O : CellTallies nD τ sig (HIx 1)) (W : Waits sig (HIx 1))
    (g : Vec F S4096x12288 .f32) (h : Buf (Elt F) (hLoc d i)) (f : Vec F S24576 .f32) :
    iprop((aLoc d ↦[handSet i]{fullShare} (G : Buf (Elt F) (aLoc d))) ∗ (hLoc d i ↦{fullShare} h) ∗ (rLoc d i ↦{fullShare} f)
        ∗ semIn d i ∗ semAt d i 0 ∗ semAt d i 1 ∗ Owes d i O W ∗ rowsAt d i (Finset.Ico 0 128) g) ⊢
      (runs d i (body st) fun _ =>
        iprop(iprop((aLoc d ↦[handSet i]{fullShare} (G : Buf (Elt F) (aLoc d))) ∗ semIn d i) ∗ Done d i G O W) : sProp 𝕄) := by
  have e := carry d i (R := iprop((aLoc d ↦[handSet i]{fullShare} (G : Buf (Elt F) (aLoc d))) ∗ semIn d i)) (fill_rows d i hst hG O W g f)
  have hw : (hLoc d i ↦{fullShare} (handsV.view.write (Elt F) h ((handRows i).view.read (Elt F) G) Finset.univ) : sProp 𝕄) = Hands d i (tileHands i G) :=
    congrArg _ (View.write_whole_univ _ _ _)
  rw [show (Owes d i O W : sProp 𝕄) = iprop(Transfers.MayWaits (thr d i) (none : HIx 1) O ∗ ∃ W', ⌜∀ p ∈ W', p ∈ W ∨ p.2 = none⌝ ∗ owes (thr d i) O W') from rfl]
  unfold runs Body.body
  iintro ⟨Ha, Hh, Hb, Hs, Hs0, Hs1, ⟨#Hmw, %W', %hW', HO⟩, Ht⟩
  iapply (Transfers.wp_dmaLocal EC 𝒱₀ (thr d i) none (src := handRows i) (dst := handsV) (sm := .dma cc0_scoped0.sem)
    (Sd := Finset.univ) (fd := h) (fs := G) (q := fullShare) none handsV.view.dmaCredit rfl (View.dmaCredit_pos handsV.view (by decide)) (Finset.subset_univ _)) $$ [Ha Hh Hs]
  · isplitl [Ha]; · iexact Ha
    isplitl [Hh]; · iexact Hh
    iexact Hs
  iintro Hf
  ihave Hm := (Transfers.MayWaits.elim (.dma cc0_scoped0.sem)) $$ Hmw
  iapply (Transfers.wp_waitLocalO EC 𝒱₀ (thr d i) none (srcw := handRows i) (dstw := handsV) (sem := cc0_scoped0.sem) none rfl) $$ [Hf HO Hm]
  · isplitl [Hf]; · iexact Hf
    isplitl [HO]; · iexact HO
    iexact Hm
  iintro ⟨⟨Hh, Ha⟩, Hs, HO⟩
  ihave HH := (Entails.of_eq hw) $$ Hh
  iapply e
  isplitl [Ha Hs]
  · isplitl [Ha]; · iexact Ha
    iexact Hs
  isplitl [HH]; · iexact HH
  isplitl [Hb]; · iexact Hb
  isplitl [Hs0]; · iexact Hs0
  isplitl [Hs1]; · iexact Hs1
  isplitl [HO]
  · unfold Owes
    isplitr; · iexact Hmw
    iexists _
    isplitr
    swap
    · iexact HO
    · ipureintro
      intro q hq
      rcases Finset.mem_insert.mp hq with hq | hq
      · exact .inr (hq ▸ rfl)
      · exact hW' q hq
  iexact Ht

end Cert.Tile
-- ==== Proof.Launch.lean ====
/-
  The kernel's launch: what each tile takes and gives back, and the whole program's run with the narrowed scatter.
-/
module

public import proofs.«01_k».proof.Proof.Rows

@[expose] public section

noncomputable section

namespace Cert.Tile

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts Cert.Body

variable {F : FTy → Type} [FloatOps F]

local notation "𝕄" => MT nD τ sig (HIx 1) (Elt F) ℕ UU ℕ

abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defsN₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH 𝕄 := embL

variable (m : (ℓ : Loc nD τ sig) → Buf (Elt F) ℓ) (ρ : Dev nD → PrngReg)

/-- The second argument, which the kernel does not take. -/
abbrev uLoc (d : Dev nD) : Loc nD τ sig := (SparseCore.T d).loc main_arg1

/-- The hands a launch starts from. -/
abbrev hands₀ (d : Dev nD) : S4096x256.Idx → BitVec 32 := m (aLoc d)

/-- A tile's coordinates. -/
def coordsV (c : Fin (grid0.bound 0)) (s : Fin (grid0.bound 1)) : grid0.Coords :=
  fun | 0 => c | 1 => s | ⟨_ + 2, h⟩ => absurd h (Nat.not_lt.2 (Nat.le_add_left _ _))

theorem base_coordsV (c : Fin (grid0.bound 0)) (s : Fin (grid0.bound 1)) : base (coordsV c s) = 256 * s.val + 128 * c.val := rfl

/-! ## The arrays cut into the tiles' rows -/

theorem mem_handSet (i : grid0.Coords) (x : S4096x256.Idx) : x ∈ handSet i ↔ base i ≤ (x 0).val ∧ (x 0).val < base i + 128 := by
  constructor
  · intro hx
    obtain ⟨y, -, rfl⟩ := Finset.mem_map.mp hx
    have e := (handRow_val i y).1
    have hy : (y 0).val < 128 := (y 0).isLt
    exact ⟨e ▸ Nat.le_add_right _ _, lt_of_eq_of_lt e (Nat.add_lt_add_left hy _)⟩
  · rintro ⟨h1, h2⟩
    let y : S128x256.Idx := fun | 0 => ⟨(x 0).val - base i, by show _ < 128; omega⟩ | 1 => ⟨(x 1).val, (x 1).isLt⟩
    have e := handRow_val i y
    refine Finset.mem_map.mpr ⟨y, Finset.mem_univ _, ?_⟩
    funext a
    apply Fin.ext
    match a with
    | 0 => exact e.1.trans (Nat.add_sub_cancel' h1)
    | 1 => exact e.2

/-- The rows of the result a tile writes. -/
def outSet (i : grid0.Coords) : Finset S4096x12288.Idx := Finset.univ.filter fun x => base i ≤ (x 0).val ∧ (x 0).val < base i + 128

theorem rowsAt_eq (d : Dev nD) (i : grid0.Coords) (g : Vec F S4096x12288 .f32) :
    (rowsAt d i (Finset.Ico 0 128) g : sProp 𝕄) = oLoc d ↦[outSet i]{fullShare} (g : Buf (Elt F) (oLoc d)) := by
  have hd : ∀ t ∈ Finset.Ico 0 128, ∀ t' ∈ Finset.Ico 0 128, t ≠ t' → Disjoint (rowSet (base i + t)) (rowSet (base i + t')) := by
    intro t _ t' _ h
    refine Finset.disjoint_left.mpr fun x hx hx' => h ?_
    have e1 := (Finset.mem_filter.mp hx).2
    have e2 := (Finset.mem_filter.mp hx').2
    omega
  have hu : (Finset.Ico 0 128).biUnion (fun n => rowSet (base i + n)) = outSet i := by
    ext x
    rw [Finset.mem_biUnion]
    constructor
    · rintro ⟨n, hn, hx⟩
      have e := (Finset.mem_filter.mp hx).2
      have hn := (Finset.mem_Ico.mp hn).2
      exact Finset.mem_filter.mpr ⟨Finset.mem_univ _, by omega, by omega⟩
    · intro hx
      have e := (Finset.mem_filter.mp hx).2
      exact ⟨(x 0).val - base i, Finset.mem_Ico.mpr ⟨Nat.zero_le _, by omega⟩, Finset.mem_filter.mpr ⟨Finset.mem_univ _, by omega⟩⟩
  rw [← hu]
  exact (pointsTo_biUnion (ℓ := oLoc d) (Finset.Ico 0 128) (fun n => rowSet (base i + n)) hd).symm

/-- An array cut by its rows into the tiles' blocks. -/
theorem tiles_split {ℓ : Loc nD τ sig} (R : Idx ℓ → ℕ) (hR : ∀ x, R x < 4096) (A : grid0.Coords → Finset (Idx ℓ))
    (hA : ∀ i x, x ∈ A i ↔ base i ≤ R x ∧ R x < base i + 128) (f : Buf (Elt F) ℓ) :
    (ℓ ↦{fullShare} f : sProp 𝕄) = bigSep Finset.univ fun c : Fin (grid0.bound 0) => bigSep Finset.univ fun s : Fin (grid0.bound 1) =>
      ℓ ↦[A (coordsV c s)]{fullShare} f := by
  have hd : ∀ t ∈ (Finset.univ ×ˢ Finset.univ : Finset (Fin (grid0.bound 0) × Fin (grid0.bound 1))), ∀ t' ∈ Finset.univ ×ˢ Finset.univ, t ≠ t' →
      Disjoint (A (coordsV t.1 t.2)) (A (coordsV t'.1 t'.2)) := by
    rintro ⟨c, s⟩ _ ⟨c', s'⟩ _ h
    refine Finset.disjoint_left.mpr fun x hx hx' => h ?_
    have e1 := (hA _ x).mp hx
    have e2 := (hA _ x).mp hx'
    rw [base_coordsV] at e1 e2
    dsimp only at e1 e2
    have hc : c.val < 2 := c.isLt
    have hc' : c'.val < 2 := c'.isLt
    exact Prod.ext (Fin.ext (by show c.val = c'.val; omega)) (Fin.ext (by show s.val = s'.val; omega))
  have hu : (Finset.univ ×ˢ Finset.univ : Finset (Fin (grid0.bound 0) × Fin (grid0.bound 1))).biUnion (fun t => A (coordsV t.1 t.2)) = Finset.univ := by
    ext x
    refine ⟨fun _ => Finset.mem_univ _, fun _ => Finset.mem_biUnion.mpr ?_⟩
    have hx := hR x
    refine ⟨(⟨R x / 128 % 2, Nat.mod_lt _ (by decide)⟩, ⟨R x / 256, by show _ < 16; omega⟩), Finset.mem_product.mpr ⟨Finset.mem_univ _, Finset.mem_univ _⟩, (hA _ x).mpr ?_⟩
    rw [base_coordsV]
    show 256 * (R x / 256) + 128 * (R x / 128 % 2) ≤ R x ∧ R x < 256 * (R x / 256) + 128 * (R x / 128 % 2) + 128
    omega
  have h := pointsTo_biUnion (nD := nD) (τ := τ) (sig := sig) (Ix := HIx 1) (Val := Elt F) (Name := ℕ) (U := UU) (Lvl := ℕ) (ℓ := ℓ) (q := fullShare) (f := f)
    (Finset.univ ×ˢ Finset.univ : Finset (Fin (grid0.bound 0) × Fin (grid0.bound 1))) (fun t => A (coordsV t.1 t.2)) hd
  rw [hu, SparseCore.bigSep_product] at h
  exact h

/-! ## What the handshakes carry -/

/-- What a tile takes, and what it gives back. -/
abbrev tileIn (d : Dev nD) (i : grid0.Coords) : sProp 𝕄 :=
  iprop((aLoc d ↦[handSet i]{fullShare} m (aLoc d)) ∗ oLoc d ↦[outSet i]{fullShare} m (oLoc d))
abbrev tileOut (d : Dev nD) (i : grid0.Coords) : sProp 𝕄 :=
  iprop((aLoc d ↦[handSet i]{fullShare} m (aLoc d)) ∗ oLoc d ↦[outSet i]{fullShare} (want (hands₀ m d) : Buf (Elt F) (oLoc d)))

theorem nCore_zero : (K (F := F)).nCore 0 = grid0.bound 0 := rfl
theorem nSub_zero : (K (F := F)).nSub 0 = grid0.bound 1 := rfl

def P : (K (F := F)).Pay (nD := nD) (Val := Elt F) (Name := ℕ) (U := UU) where
  st := fun q d c => match q with | 0 => bigSep Finset.univ fun s => tileIn m d (coordsV (Fin.cast nCore_zero c) s)
  dn := fun q d c => match q with | 0 => bigSep Finset.univ fun s => tileOut m d (coordsV (Fin.cast nCore_zero c) s)
  go := fun q d c i => match q with | 0 => tileIn m d (coordsV (Fin.cast nCore_zero c) (Fin.cast nSub_zero i))
  td := fun q d c i => match q with | 0 => tileOut m d (coordsV (Fin.cast nCore_zero c) (Fin.cast nSub_zero i))
  x := fun _ _ => iprop(emp)

instance P_storable : (P (F := F) m).IsStorable where
  st q d c := match q with
    | 0 => (inferInstance : BI.Storable (upEmb : UEmb _ 𝕄) (bigSep Finset.univ fun s => tileIn m d (coordsV (Fin.cast nCore_zero c) s)))
  dn q d c := match q with
    | 0 => (inferInstance : BI.Storable (upEmb : UEmb _ 𝕄) (bigSep Finset.univ fun s => tileOut m d (coordsV (Fin.cast nCore_zero c) s)))
  go q d c i := match q with
    | 0 => (inferInstance : BI.Storable (upEmb : UEmb _ 𝕄) (tileIn m d (coordsV (Fin.cast nCore_zero c) (Fin.cast nSub_zero i))))
  td q d c i := match q with
    | 0 => (inferInstance : BI.Storable (upEmb : UEmb _ 𝕄) (tileOut m d (coordsV (Fin.cast nCore_zero c) (Fin.cast nSub_zero i))))

/-! ## A tile -/

section Tile

variable (d : Dev nD) (i : grid0.Coords)

/-- The tile's three semaphores, as cells. -/
abbrev cellIn : GSem nD τ sig := (thr d i, .dma cc0_scoped0.sem)
abbrev cell0 : GSem nD τ sig := (thr d i, .dma (sem 0).sem)
abbrev cell1 : GSem nD τ sig := (thr d i, .dma (sem 1).sem)

theorem ownSems0_V :
    (ownSems0 (thr d i) : sProp 𝕄)
      = iprop(semIn d i ∗ semAt d i 0 ∗ semAt d i 1
          ∗ bigSep ((((ownCells (thr d i)).erase (cellIn d i)).erase (cell0 d i)).erase (cell1 d i)) fun g => semVal g 0) := by
  have n1 : cell0 d i ≠ cellIn d i := fun e => absurd (Prod.mk.inj e).2 (by decide)
  have n2 : cell1 d i ≠ cell0 d i := fun e => absurd (Prod.mk.inj e).2 (by decide)
  have n3 : cell1 d i ≠ cellIn d i := fun e => absurd (Prod.mk.inj e).2 (by decide)
  unfold SparseCore.Cfg.ownSems0
  rw [SparseCore.bigSep_erase' ((mem_ownCells (g := cellIn d i)).mpr ⟨rfl, by
      show (SemLoc.dma cc0_scoped0.sem : SemLoc sig).isScoped .scVector = true; decide⟩),
    SparseCore.bigSep_erase' (Finset.mem_erase.mpr ⟨n1, (mem_ownCells (g := cell0 d i)).mpr ⟨rfl, by
      show (SemLoc.dma (sem 0).sem : SemLoc sig).isScoped .scVector = true; decide⟩⟩),
    SparseCore.bigSep_erase' (Finset.mem_erase.mpr ⟨n2, Finset.mem_erase.mpr ⟨n3, (mem_ownCells (g := cell1 d i)).mpr ⟨rfl, by
      show (SemLoc.dma (sem 1).sem : SemLoc sig).isScoped .scVector = true; decide⟩⟩⟩)]

theorem ownBufs_V :
    (ownBufs (thr d i) : sProp 𝕄)
      = iprop((∃ f, hLoc d i ↦{fullShare} f) ∗ (∃ f, rLoc d i ↦{fullShare} f)
          ∗ bigSep (((ownRefs (τ := τ) (thr d i).2).erase ((thr d i).2.devRef cc0_scratch0)).erase ((thr d i).2.devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := (thr d i).2) (b := (thr d i).2.devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := (thr d i).2) (b := (thr d i).2.devRef cc0_scratch1) rfl⟩)]

/-- A tile's task. -/
theorem tile_body (hF : (K (F := F)).Facts) (hpre : ∀ y, (hands₀ m d y).toNat ≤ 4096) (O : CellTallies nD τ sig (HIx 1)) (W : Waits sig (HIx 1)) (hO : ∀ g, O g none = 0) :
    iprop(levAts (K (F := F)).L (K (F := F)).lev ∗ emp ∗ tileIn m d i ∗ scopedBufs (thr d i) ∗ scopedSems0 (thr d i) ∗ owes (thr d i) O W)
      ⊢ runs d i (body (scatN i))
          fun _ => iprop(tileOut m d i ∗ scopedBufs (thr d i) ∗ scopedSems0 (thr d i)
            ∗ ∃ W', ⌜∀ p ∈ W', p ∈ W ∨ p.2 = none⌝ ∗ owes (thr d i) O W') := by
  rw [(K (F := F)).scopedBufs_V hF d ((i 0).castLE hcore0) ((i 1).castLE hsub0),
    SparseCore.Cfg.scopedSems0_V (Val := Elt F) d ((i 0).castLE hcore0) ((i 1).castLE hsub0), ownSems0_V, ownBufs_V]
  generalize bigSep ((((ownCells (thr d i)).erase (cellIn d i)).erase (cell0 d i)).erase (cell1 d i)) (fun g => (semVal g 0 : sProp 𝕄)) = X
  generalize bigSep (((ownRefs (τ := τ) (thr d i).2).erase ((thr d i).2.devRef cc0_scratch0)).erase ((thr d i).2.devRef cc0_scratch1))
    (fun b => (iprop(∃ f, ((d, b) : Loc nD τ sig) ↦{fullShare} f) : sProp 𝕄)) = Y
  have hpost : (iprop(iprop(X ∗ Y) ∗ iprop((aLoc d ↦[handSet i]{fullShare} m (aLoc d)) ∗ semIn d i) ∗ Done d i (hands₀ m d) O W) : sProp 𝕄) ⊢
      iprop(tileOut m d i ∗ ((∃ f, hLoc d i ↦{fullShare} f) ∗ (∃ f, rLoc d i ↦{fullShare} f) ∗ Y)
        ∗ (semIn d i ∗ semAt d i 0 ∗ semAt d i 1 ∗ X) ∗ ∃ W', ⌜∀ p ∈ W', p ∈ W ∨ p.2 = none⌝ ∗ owes (thr d i) O W') := by
    unfold Done Owes
    rw [Finset.range_eq_Ico, rowsAt_eq]
    iintro ⟨⟨HX, HY⟩, ⟨Ha, Hs⟩, Hh, Hb, Hs0, Hs1, ⟨-, HO⟩, Ho⟩
    isplitl [Ha Ho]
    · isplitl [Ha]; · iexact Ha
      iexact Ho
    isplitl [Hh Hb HY]
    · isplitl [Hh]
      · iexists _; iexact Hh
      isplitl [Hb]; · iexact Hb
      iexact HY
    isplitr [HO]
    · isplitl [Hs]; · iexact Hs
      isplitl [Hs0]; · iexact Hs0
      isplitl [Hs1]; · iexact Hs1
      iexact HX
    iexact HO
  refine BIBase.Entails.trans ?_ (wp_mono frame _ _ fun _ => hpost)
  iintro ⟨#Hlv, -, ⟨Ha, Ho⟩, ⟨⟨%h, Hh⟩, ⟨%f, Hb⟩, HY⟩, ⟨Hs, Hs0, Hs1, HX⟩, HO⟩
  iapply (carry d i (R := iprop(X ∗ Y)) (body_step d i rfl hpre O W (m (oLoc d)) h f))
  isplitl [HX HY]
  · isplitl [HX] <;> iassumption
  isplitl [Ha]; · iexact Ha
  isplitl [Hh]; · iexact Hh
  isplitl [Hb]; · iexact Hb
  isplitl [Hs]; · iexact Hs
  isplitl [Hs0]; · iexact Hs0
  isplitl [Hs1]; · iexact Hs1
  isplitl [HO]
  · unfold Owes
    isplitr; · iapply ((K (F := F)).mayWaits_none (thr := thr d i) hO); iexact Hlv
    iexists W
    isplitr
    · ipureintro; exact fun p hp => .inl hp
    · iexact HO
  rw [rowsAt_eq]
  iexact Ho

end Tile

/-! ## The launch theorem's obligations -/

theorem defsN₀_vector (c : Fin τ.nSC) (s : Fin τ.nSub) :
    defsN₀ (F := F) (.scVector c s) 0 () = SparseCore.onTile hcore0 hsub0 (fun c s => body (scatN (coordsV c s))) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : ∀ d y, (hands₀ m d y).toNat ≤ 4096) : (K (F := F)).TileObl (D (F := F)) 𝒱 (P m) v₀ 0 := by
  intro d c i O W hO _ _
  simp only [show (P m).ox = fun _ _ => 0 from rfl, add_zero]
  change _ ⊢ wp _ _ _ (Pipeline.liftProg (defsN₀ (F := F) (.scVector ((K (F := F)).core 0 c) ((K (F := F)).sub 0 i)) 0 ())) _
  refine BI.Entails.trans ?_ (Pipeline.wp_liftProg (D (F := F)) (Pipeline.defs_kernel pcfgs defsN₀) 𝒱₀ _ Set.univ none _ _)
  have hc : ((K (F := F)).core 0 c).val < grid0.bound 0 ∧ ((K (F := F)).sub 0 i).val < grid0.bound 1 := ⟨c.isLt, i.isLt⟩
  rw [defsN₀_vector]; simp only [SparseCore.onTile, hc, and_self, ↓reduceDIte]
  exact (tile_body m d (coordsV ⟨_, hc.1⟩ ⟨_, hc.2⟩) hF (hpre d) O W hO).trans (wp_mono frame _ _ fun _ => obl_post)

theorem vecSplit : (K (F := F)).VecSplit' (P m) 0 := by
  intro d c
  show (bigSep Finset.univ fun s => tileIn m d (coordsV (Fin.cast nCore_zero c) s)) ⊢ |={Set.univ}=> iprop(
      (bigSep Finset.univ fun i : Fin ((K (F := F)).nSub 0) => tileIn m d (coordsV (Fin.cast nCore_zero c) (Fin.cast nSub_zero i)))
      ∗ ((bigSep Finset.univ fun i : Fin ((K (F := F)).nSub 0) => tileOut m d (coordsV (Fin.cast nCore_zero c) (Fin.cast nSub_zero i)))
          -∗ bigSep Finset.univ fun s => tileOut m d (coordsV (Fin.cast nCore_zero c) s)))
  iintro H; imodintro
  isplitl [H]; · iexact H
  iintro H
  iexact H

theorem bigSep_emp' {I : Type} (s : Finset I) : (bigSep s fun _ => iprop(emp)) = (iprop(emp) : sProp 𝕄) := bigSep_emp_const s

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr
  · rw [bigSep_emp']; iempintro
  · have e : (bigSep Finset.univ fun thr : Thread nD τ => bigSep Finset.univ fun q : Fin 1 => (P m).x q thr) = (iprop(emp) : sProp 𝕄) := by
      rw [show (fun thr : Thread nD τ => bigSep Finset.univ fun q : Fin 1 => (P m).x q thr) = fun _ => (iprop(emp) : sProp 𝕄) from
        funext fun _ => bigSep_emp_const _]
      exact bigSep_emp_const _
    rw [e]; iempintro

/-! ## The program on the TensorCore -/

theorem unscopedBufs_eq (d : Dev nD) (W : (b : Ref sig .tc) → Buf (Elt F) ((d.tc : Thread nD τ).loc b)) :
    (unscopedBufs d W : sProp 𝕄) = iprop((aLoc d ↦{fullShare} W main_arg0) ∗ (uLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

theorem hands_split (d : Dev nD) (f : Buf (Elt F) (aLoc d)) :
    (aLoc d ↦{fullShare} f : sProp 𝕄) = bigSep Finset.univ fun c => bigSep Finset.univ fun s => aLoc d ↦[handSet (coordsV c s)]{fullShare} f :=
  tiles_split (ℓ := aLoc d) (fun x : S4096x256.Idx => (x 0).val) (fun x => (x 0).isLt) handSet mem_handSet f

theorem out_split (d : Dev nD) (f : Buf (Elt F) (oLoc d)) :
    (oLoc d ↦{fullShare} f : sProp 𝕄) = bigSep Finset.univ fun c => bigSep Finset.univ fun s => oLoc d ↦[outSet (coordsV c s)]{fullShare} f :=
  tiles_split (ℓ := oLoc d) (fun x : S4096x12288.Idx => (x 0).val) (fun x => (x 0).isLt) outSet
    (fun _ _ => ⟨fun h => (Finset.mem_filter.mp h).2, fun h => Finset.mem_filter.mpr ⟨Finset.mem_univ _, h⟩⟩) f

theorem st0_eq (d : Dev nD) : (bigSep Finset.univ fun c : Fin ((K (F := F)).nCore 0) => (P m).st 0 d c)
    = iprop((aLoc d ↦{fullShare} m (aLoc d)) ∗ oLoc d ↦{fullShare} m (oLoc d)) := by
  rw [hands_split, out_split]
  simp only [← bigSep_sep']
  rfl
theorem dn0_eq (d : Dev nD) : (bigSep Finset.univ fun c : Fin ((K (F := F)).nCore 0) => (P m).dn 0 d c)
    = iprop((aLoc d ↦{fullShare} m (aLoc d)) ∗ oLoc d ↦{fullShare} (want (hands₀ m d) : Buf (Elt F) (oLoc d))) := by
  rw [hands_split, out_split]
  simp only [← bigSep_sep']
  rfl

abbrev FIN (d : Dev nD) : sProp 𝕄 :=
  iprop((aLoc d ↦{fullShare} m (aLoc d)) ∗ (uLoc d ↦{fullShare} m (uLoc d)) ∗ oLoc d ↦{fullShare} (want (hands₀ m d) : Buf (Elt F) (oLoc d)))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hi, Hx, Ho⟩, Hts, -⟩, -⟩
  iapply ((K (F := F)).wp_run (D (F := F)) 𝒱 (EH := EH) (P := P m) κ d 0) $$ [Hst Hi Hx Ho Hb Hts]
  isplitr; · iexact Hctx
  isplitl [Hst]; · iexact Hst
  isplitl [Hi Ho]
  · rw [st0_eq]
    isplitl [Hi]; · iexact Hi
    iexact Ho
  iintro ⟨Hst, Hdn⟩
  ihave Hdn' := (Entails.of_eq (dn0_eq m d)) $$ Hdn
  icases Hdn' with ⟨Hi, Ho⟩
  imodintro
  isplitl [Hst]; · iexact Hst
  isplitr [Hb Hts]
  · isplitl [Hi]; · iexact Hi
    isplitl [Hx]; · iexact Hx
    iexact Ho
  isplitl [Hb] <;> iassumption

/-- What a final memory shows of device `d`. -/
def fq (d : Dev nD) (s' : Phys nD τ sig (Elt F)) : Prop :=
  s'.mem.mem (aLoc d) = m (aLoc d) ∧ s'.mem.mem (uLoc d) = m (uLoc d) ∧ s'.mem.mem (oLoc d) = want (hands₀ m d)

theorem hfin (d : Dev nD) (s' : Phys nD τ sig (Elt F)) : iprop(FIN m d ∗ SI s') ⊢ (⌜fq m d s'⌝ : sProp 𝕄) := by
  iintro ⟨⟨Hi, Hx, Ho⟩, HSI⟩
  ihave H := (persistent_entails_right (SI_pointsTo_agree (st := s') (ℓ := aLoc d) (I := Finset.univ) (q := fullShare) (f := m (aLoc d)))) $$ [HSI Hi]
  · isplitl [HSI] <;> iassumption
  icases H with ⟨%h1, HSI, -⟩
  ihave H := (persistent_entails_right (SI_pointsTo_agree (st := s') (ℓ := uLoc d) (I := Finset.univ) (q := fullShare) (f := m (uLoc d)))) $$ [HSI Hx]
  · isplitl [HSI] <;> iassumption
  icases H with ⟨%h2, HSI, -⟩
  ihave H := (SI_pointsTo_agree (st := s') (ℓ := oLoc d) (I := Finset.univ) (q := fullShare) (f := (want (hands₀ m d) : Buf (Elt F) (oLoc d)))) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

/-! ## The run -/

/-- The program's final states: its arguments unchanged, its result the hands', every semaphore at zero. -/
def QC : PUnit × MemSt nD τ sig (Elt F) → Prop := fun r =>
  (∀ c : Dev nD, r.2.mem (aLoc c) = m (aLoc c) ∧ r.2.mem (uLoc c) = m (uLoc c) ∧ r.2.mem (oLoc c) = want (hands₀ m c)) ∧ r.2.sem = fun _ => 0

/-- With the narrowed scatter. -/
theorem run_narrowed [∀ e, Nonempty (Elt F e)] (hpre : ∀ d y, (hands₀ m d y).toNat ≤ 4096) :
    θ_run (defsN (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

/-- The program's run. -/
theorem run_main [∀ e, Nonempty (Elt F e)] (hpre : ∀ d y, (hands₀ m d y).toNat ≤ 4096) :
    θ_run (Cert.KernelIdeal.defs (F := F)) (Cert.KernelIdeal.threads (F := F)) ⟨m, fun _ => 0, ρ⟩ (QC m) :=
  Cert.Sim.sim_run narrows_defs _ _ _ (run_narrowed m ρ hpre)

end Cert.Tile
-- ==== Proof.Reference.lean ====
/-
  What the reference computes: an element is 0 where a hand's three places cover it and -100 elsewhere.
-/
module

public import proofs.«01_k».proof.Proof.Gen.ReferenceIdeal
public import proofs.«01_k».proof.Proof.Gen.ReferenceIdeal.Run
public import Idealize.ShloMosaic.Lib.Routing.OpsSet
public import Idealize.ShloMosaic.Lib.IdealHost

@[expose] public section

noncomputable section

namespace Cert.Ref

open Idealize.ShloMosaic Idealize.ShloMosaic.ValueIdx Idealize.ShloMosaic.Routing
open Cert.ReferenceIdeal Cert.ReferenceIdeal.Facts₀ Cert.ReferenceIdeal.Facts

/-! ## Where an update lands -/

/-- Update `n` of a scatter of `N` scalars into a matrix, a row of two index words each, lands at `(r, c)` exactly when
    its words, read signed, are `r` and `c`. -/
theorem lands_row {R C N w : Nat} (d : ScatterDims (shape2 R C) (shape2 N 2) (shape1 N)) (hiw : d.insertedWindowDims = [0, 1])
    (hsd : d.scatterDimsToOperandDims = [0, 1]) (hivd : d.indexVectorDim = 1) (idx : IVec (shape2 N 2) w)
    (n : Fin N) (r : Fin R) (c : Fin C) :
    d.resultIdx? (ix1 n) idx = some (ix2 r c) ↔ (idx (ix2 n (0 : Fin 2))).toInt = r.val ∧ (idx (ix2 n (1 : Fin 2))).toInt = c.val := by
  have hm (q : Fin 2) : q ∈ d.scatterDimsToOperandDims := by rw [hsd]; fin_cases q <;> simp
  have hwin (q : Fin 2) : d.window (ix1 n) q = 0 :=
    dif_neg fun h => (of_decide_eq_true (List.mem_filter.1 h).2) (by rw [hiw]; fin_cases q <;> simp)
  have hsi (q : Fin 2) : d.siIdx (ix1 n) ⟨d.scatterDimsToOperandDims.idxOf q, List.idxOf_lt_length_iff.2 (hm q)⟩ = ix2 n q := by
    funext b
    apply Fin.ext
    match b with
    | ⟨0, _⟩ =>
      unfold ScatterDims.siIdx
      rw [dif_neg (by rw [hivd]; exact (by decide : (0 : ℕ) ≠ 1))]
      unfold ScatterDims.siCoord
      exact congrArg (fun t => ((ix1 n : (shape1 N).Idx) t).val) (Subsingleton.elim (α := Fin 1) _ 0)
    | ⟨1, _⟩ =>
      unfold ScatterDims.siIdx
      rw [dif_pos (by rw [hivd])]
      show List.idxOf q d.scatterDimsToOperandDims = q.val
      rw [hsd]
      fin_cases q <;> rfl
  have hstart (q : Fin 2) : d.start (ix1 n) idx q = (idx (ix2 n q)).toInt := by
    unfold ScatterDims.start
    rw [dif_pos (hm q), hsi]
  rw [resultIdx?_ix2, hstart, hstart, hwin, hwin]
  omega

/-! ## The index words -/

variable (G : IVec S4096x256 32)

/-- Three times a hand's card number, counted from zero. -/
def three : IVec S4096x256 32 :=
  muli (subi G (broadcastInDim S4096x256 ![] bcast_S_S4096x256 (constantI S_ 32 1#32)))
    (broadcastInDim S4096x256 ![] bcast_S_S4096x256 (constantI S_ 32 3#32))

/-- The places of the hands: the first, second and third ones side by side. -/
def places : IVec S4096x768 32 :=
  concatenate S4096x768 1 [⟨S4096x256, three G⟩,
    ⟨S4096x256, addi (three G) (broadcastInDim S4096x256 ![] bcast_S_S4096x256 (constantI S_ 32 1#32))⟩,
    ⟨S4096x256, addi (three G) (broadcastInDim S4096x256 ![] bcast_S_S4096x256 (constantI S_ 32 2#32))⟩]
    concatenates_S4096x256_S4096x256_S4096x256_S4096x768_d1

/-- The places with a padded hand's sent past the end of the row. -/
def cols : IVec S4096x768 32 :=
  select (cmpi .sge (places G) (broadcastInDim S4096x768 ![] bcast_S_S4096x768 (constantI S_ 32 0#32))) (places G)
    (broadcastInDim S4096x768 ![] bcast_S_S4096x768 (id (constantI S_ 32 12288#32)))

/-- The row of every place. -/
def rows : IVec S4096x768 32 :=
  broadcastInDim S4096x768 ![0, 1] bcast_S4096x1_S4096x768_0_1
    (broadcastInDim S4096x1 ![0] bcast_S4096_S4096x1_0 (iotaInDim S4096 32 0))

/-- One column of the scatter's index table: the words of `x` in order, a negative one counted from `n`. -/
def column (x : IVec S4096x768 32) (n : BitVec 32) : IVec S3145728x1 32 :=
  broadcastInDim S3145728x1 ![0] bcast_S3145728_S3145728x1_0
    (select (cmpi .slt (shapeCast S3145728 x shapeCasts_S4096x768_S3145728) (broadcastInDim S3145728 ![] bcast_S_S3145728 (constantI S_ 32 0#32)))
      (addi (shapeCast S3145728 x shapeCasts_S4096x768_S3145728) (broadcastInDim S3145728 ![] bcast_S_S3145728 (constantI S_ 32 n)))
      (shapeCast S3145728 x shapeCasts_S4096x768_S3145728))

/-- The scatter's index table. -/
def table : IVec S3145728x2 32 :=
  concatenate S3145728x2 1 [⟨S3145728x1, column rows 4096#32⟩, ⟨S3145728x1, column (cols G) 12288#32⟩]
    concatenates_S3145728x1_S3145728x1_S3145728x2_d1

theorem three_apply (y : S4096x256.Idx) : three G y = (G y - 1#32) * 3#32 := rfl

theorem places_apply (r : Fin 4096) (b : Fin 256) (k : Fin 3) (q : Fin 768) (hq : q.val = 256 * k.val + b.val) :
    places G (ix2 r q) = three G (ix2 r b) + BitVec.ofNat 32 k.val := by
  have off : ∀ a : Fin S4096x256.rank, a.cast rfl ≠ (1 : Fin S4096x768.rank) →
      ((ix2 r b : S4096x256.Idx) a).val = ((ix2 r q : S4096x768.Idx) (a.cast rfl)).val := fun a ha => by
    match a with
    | ⟨0, _⟩ => rfl
    | ⟨1, _⟩ => exact absurd rfl ha
  unfold places
  match k with
  | ⟨0, _⟩ =>
    refine (concatenate_apply_piece (1 : Fin S4096x768.rank) _ _ _ 0 (by simp) S4096x256 _ rfl rfl 0 rfl (ix2 r b) off ?_).trans ?_
    · have hq : q.val = 256 * 0 + b.val := hq
      show 0 + b.val = q.val
      omega
    · exact (BitVec.add_zero _).symm
  | ⟨1, _⟩ =>
    refine (concatenate_apply_piece (1 : Fin S4096x768.rank) _ _ _ 1 (by simp) S4096x256 _ rfl rfl 256 rfl (ix2 r b) off ?_).trans ?_
    · exact hq.symm
    · rfl
  | ⟨2, _⟩ =>
    refine (concatenate_apply_piece (1 : Fin S4096x768.rank) _ _ _ 2 (by simp) S4096x256 _ rfl rfl 512 rfl (ix2 r b) off ?_).trans ?_
    · exact hq.symm
    · rfl

theorem cols_apply (y : S4096x768.Idx) : cols G y = if 0 ≤ (places G y).toInt then places G y else 12288#32 := by
  show Scalar.select (IntOp.cmpi .sge (places G y) 0#32) (places G y) 12288#32 = _
  rw [WordCmp.cmpi_sge_eq, WordCmp.select_decide]
  rfl

/-- The word of a place: three times the card number less three, plus the place's number among the three. -/
theorem cols_word (hG : ∀ y, (G y).toNat ≤ 4096) (r : Fin 4096) (b : Fin 256) (k : Fin 3) (q : Fin 768) (hq : q.val = 256 * k.val + b.val) :
    (cols G (ix2 r q)).toNat = if (G (ix2 r b)).toNat = 0 then 12288 else 3 * ((G (ix2 r b)).toNat - 1) + k.val := by
  rw [cols_apply, places_apply G r b k q hq, three_apply]
  have h := hG (ix2 r b)
  generalize G (ix2 r b) = g at h
  have hk := k.isLt
  have e : ((g - 1#32) * 3#32 + BitVec.ofNat 32 k.val).toNat = (3 * (g.toNat + 4294967295) + k.val) % 4294967296 := by
    simp only [BitVec.toNat_add, BitVec.toNat_mul, BitVec.toNat_sub, BitVec.toNat_ofNat]
    omega
  generalize (g - 1#32) * 3#32 + BitVec.ofNat 32 k.val = w at e
  by_cases h0 : g.toNat = 0
  · have hw : w.toNat = 4294967293 + k.val := by rw [e, h0]; omega
    rw [if_neg (show ¬ (0 : Int) ≤ w.toInt by rw [BitVec.toInt_eq_toNat_cond]; split <;> omega), if_pos h0]
    rfl
  · have hw : w.toNat = 3 * (g.toNat - 1) + k.val := by
      obtain ⟨n, hn⟩ : ∃ n, g.toNat = n + 1 := ⟨g.toNat - 1, by omega⟩
      rw [e, hn]
      omega
    clear e
    have hs : w.toInt = (w.toNat : Int) := WordCmp.toInt_eq_toNat_of_lt_half (w := 32) (by omega)
    have hs : (0 : Int) ≤ w.toInt := by rw [hs]; exact Int.natCast_nonneg _
    rw [if_pos hs, if_neg h0]
    exact hw

theorem rows_apply (r : Fin 4096) (q : Fin 768) : rows (ix2 r q) = BitVec.ofNat 32 r.val := by
  unfold rows
  rw [broadcastInDim_apply ![0, 1] bcast_S4096x1_S4096x768_0_1 _ (ix2 r q) (ix2 r (0 : Fin 1)) (fun a => by
    match a with
    | ⟨0, _⟩ => rfl
    | ⟨1, _⟩ => rfl)]
  rw [broadcastInDim_apply ![0] bcast_S4096_S4096x1_0 _ (ix2 r (0 : Fin 1)) (ix1 r) (fun a => by
    match a with
    | ⟨0, _⟩ => rfl)]
  rfl

theorem column_apply (x : IVec S4096x768 32) (n : BitVec 32) (r : Fin 4096) (q : Fin 768) (p : Fin 3145728)
    (hp : p.val = r.val * 768 + q.val) (hx : (x (ix2 r q)).toNat < 2 ^ 31) : column x n (ix2 p (0 : Fin 1)) = x (ix2 r q) := by
  unfold column
  rw [broadcastInDim_apply ![0] bcast_S3145728_S3145728x1_0 _ (ix2 p (0 : Fin 1)) (ix1 p) (fun a => by
    match a with
    | ⟨0, _⟩ => rfl)]
  show Scalar.select (IntOp.cmpi .slt (shapeCast S3145728 x shapeCasts_S4096x768_S3145728 (ix1 p)) 0#32)
    (shapeCast S3145728 x shapeCasts_S4096x768_S3145728 (ix1 p) + n) (shapeCast S3145728 x shapeCasts_S4096x768_S3145728 (ix1 p)) = _
  rw [cast21 x shapeCasts_S4096x768_S3145728 r q p hp]
  exact wrap_of_lt _ _ hx

theorem table_left (p : Fin 3145728) : table G (ix2 p (0 : Fin 2)) = column rows 4096#32 (ix2 p (0 : Fin 1)) :=
  concatenate_pair_apply_left (t := S3145728x2) (s₁ := S3145728x1) (1 : Fin 2) (column rows 4096#32) (column (cols G) 12288#32) _
    (ix2 p (0 : Fin 2)) rfl (ix2 p (0 : Fin 1)) fun a => by
    match a with
    | ⟨0, _⟩ => rfl
    | ⟨1, _⟩ => rfl

theorem table_right (p : Fin 3145728) : table G (ix2 p (1 : Fin 2)) = column (cols G) 12288#32 (ix2 p (0 : Fin 1)) :=
  concatenate_pair_apply_right (t := S3145728x2) (s₁ := S3145728x1) (s₂ := S3145728x1) (1 : Fin 2) (column rows 4096#32) (column (cols G) 12288#32) _
    (ix2 p (1 : Fin 2)) rfl rfl (ix2 p (0 : Fin 1)) (fun a ha => by
    match a with
    | ⟨0, _⟩ => rfl
    | ⟨1, _⟩ => exact absurd rfl ha) rfl

/-- Where the update of place `(r, q)` lands: in its row, at the column of its word. -/
theorem lands (hG : ∀ y, (G y).toNat ≤ 4096) (r : Fin 4096) (b : Fin 256) (k : Fin 3) (q : Fin 768) (hq : q.val = 256 * k.val + b.val)
    (p : Fin 3145728) (hp : p.val = r.val * 768 + q.val) (i : Fin 4096) (j : Fin 12288) :
    scatter_S4096x12288_S3145728x2_S3145728_n_01_01_1.resultIdx? (ix1 p) (table G) = some (ix2 i j)
      ↔ r = i ∧ 0 < (G (ix2 r b)).toNat ∧ 3 * (G (ix2 r b)).toNat + k.val = j.val + 3 := by
  have hw := cols_word G hG r b k q hq
  have hr : (rows (ix2 r q)).toNat = r.val := by
    rw [rows_apply, BitVec.toNat_ofNat]; have := r.isLt; omega
  have hg := hG (ix2 r b)
  have hk := k.isLt
  have hi := i.isLt
  have hj := j.isLt
  have hrl := r.isLt
  rw [lands_row scatter_S4096x12288_S3145728x2_S3145728_n_01_01_1 rfl rfl rfl, table_left, table_right,
    column_apply rows _ r q p hp (by omega), column_apply (cols G) _ r q p hp (by split at hw <;> omega),
    BitVec.toInt_eq_toNat_cond, BitVec.toInt_eq_toNat_cond, Fin.ext_iff]
  split at hw <;> omega

/-! ## The value -/

/-- The reference's result. -/
def result (U : FVec Ideal S4096x768 .f32) : FVec Ideal S4096x12288 .f32 :=
  mulf (subf (Host.scatter scatter_S4096x12288_S3145728x2_S3145728_n_01_01_1 (fun _ b => b)
      (broadcastInDim S4096x12288 ![] bcast_S_S4096x12288 (constant S_ .f32 0x00000000#32)) (table G)
      (shapeCast S3145728 U shapeCasts_S4096x768_S3145728))
    (broadcastInDim S4096x12288 ![] bcast_S_S4096x12288 (constant S_ .f32 0x3F800000#32)))
    (broadcastInDim S4096x12288 ![] bcast_S_S4096x12288 (constant S_ .f32 0x42C80000#32))

/-- The scatter writes an element exactly when a hand's three places cover it. -/
theorem scatter_apply (hG : ∀ y, (G y).toNat ≤ 4096) {α : Type} (z : α) (x₀ : S4096x12288.Idx → α) (hz : ∀ x, x₀ x = z) (o : α)
    (u : S3145728.Idx → α) (hu : ∀ n, u n = o) (i : Fin 4096) (j : Fin 12288) :
    Host.scatter scatter_S4096x12288_S3145728x2_S3145728_n_01_01_1 (fun _ b => b) x₀ (table G) u (ix2 i j)
      = open Classical in if ∃ y : S4096x256.Idx, (y 0).val = i.val ∧ 0 < (G y).toNat ∧ 3 * (G y).toNat ≤ j.val + 3 ∧ j.val < 3 * (G y).toNat
        then o else z := by
  split
  · rename_i h
    obtain ⟨y, h0, hp, hlo, hhi⟩ := h
    obtain ⟨r, b, rfl⟩ : ∃ r b, y = ix2 r b := ⟨y 0, y 1, eq_ix2 y⟩
    have h0 : r.val = i.val := h0
    have hr := r.isLt
    have hb := b.isLt
    refine scatter_set_hit _ _ _ _ _ _ (fun n _ => hu n) (ix1 ⟨r.val * 768 + (256 * (j.val + 3 - 3 * (G (ix2 r b)).toNat) + b.val), by omega⟩) ?_
    refine (lands G hG r b ⟨j.val + 3 - 3 * (G (ix2 r b)).toNat, by omega⟩
      ⟨256 * (j.val + 3 - 3 * (G (ix2 r b)).toNat) + b.val, by omega⟩ rfl _ rfl i j).2 ⟨Fin.ext h0, hp, ?_⟩
    show 3 * (G (ix2 r b)).toNat + (j.val + 3 - 3 * (G (ix2 r b)).toNat) = j.val + 3
    omega
  · rename_i h
    refine (scatter_set_miss _ _ _ _ _ fun n hn => h ?_).trans (hz _)
    obtain ⟨p, rfl⟩ : ∃ p, n = ix1 p := ⟨n 0, eq_ix1 n⟩
    have hp := p.isLt
    have hq : p.val % 768 < 768 := Nat.mod_lt _ (by decide)
    have hl := (lands G hG ⟨p.val / 768, by omega⟩ ⟨p.val % 768 % 256, Nat.mod_lt _ (by decide)⟩ ⟨p.val % 768 / 256, by omega⟩
      ⟨p.val % 768, hq⟩ (Nat.div_add_mod _ _).symm p (Nat.div_add_mod' _ _).symm i j).1 hn
    obtain ⟨hr, h0, he⟩ := hl
    refine ⟨ix2 _ _, congrArg Fin.val hr, h0, ?_, ?_⟩ <;> dsimp only at he ⊢ <;> omega

theorem one_sub_one_mul : (Ideal.ofBits .f32 0x3F800000#32 - Ideal.ofBits .f32 0x3F800000#32) * Ideal.ofBits .f32 0x42C80000#32
    = Ideal.ofBits .f32 0x00000000#32 := by
  have h : (1 : EReal) - 1 = 0 := by
    rw [show (1 : EReal) = ((1 : ℝ) : EReal) by norm_cast, ← EReal.coe_sub]
    norm_num
  rw [Ideal.ofBits_one_f32, h, zero_mul]
  simp [Ideal.ofBits, Ideal.ieee]

theorem zero_sub_one_mul : (Ideal.ofBits .f32 0x00000000#32 - Ideal.ofBits .f32 0x3F800000#32) * Ideal.ofBits .f32 0x42C80000#32
    = Ideal.ofBits .f32 0xC2C80000#32 := by
  simp [Ideal.ofBits, Ideal.ieee, -EReal.coe_mul, -EReal.coe_neg]
  norm_num

theorem mulf_subf_apply {s : Shape} (x y z : FVec Ideal s .f32) (i : s.Idx) : mulf (subf x y) z i = (x i - y i) * z i := rfl

theorem fill_apply {t : Shape} (h : S_.BroadcastsInDim t ![]) (w : BitVec 32) (i : t.Idx) :
    broadcastInDim t ![] h (constant (F := Ideal) S_ .f32 w) i = Ideal.ofBits .f32 w := rfl

theorem shapeCast_all {α : Type} {s t : Shape} (x : s.Idx → α) (h : s.ShapeCasts t) (o : α) (hx : ∀ i, x i = o) (j : t.Idx) :
    shapeCast t x h j = o := hx _

/-- Every element of the reference's result, for updates that are all one. -/
theorem result_apply (hG : ∀ y, (G y).toNat ≤ 4096) (U : FVec Ideal S4096x768 .f32) (hU : ∀ y, U y = Ideal.ofBits .f32 0x3F800000#32)
    (i : Fin 4096) (j : Fin 12288) :
    result G U (ix2 i j)
      = open Classical in if ∃ y : S4096x256.Idx, (y 0).val = i.val ∧ 0 < (G y).toNat ∧ 3 * (G y).toNat ≤ j.val + 3 ∧ j.val < 3 * (G y).toNat
        then Ideal.ofBits .f32 0x00000000#32 else Ideal.ofBits .f32 0xC2C80000#32 := by
  unfold result
  rw [mulf_subf_apply, fill_apply bcast_S_S4096x12288, fill_apply bcast_S_S4096x12288,
    scatter_apply G hG (Ideal.ofBits .f32 0x00000000#32) (broadcastInDim S4096x12288 ![] bcast_S_S4096x12288 (constant S_ .f32 0x00000000#32))
      (fill_apply bcast_S_S4096x12288 _) (Ideal.ofBits .f32 0x3F800000#32) (shapeCast S3145728 U shapeCasts_S4096x768_S3145728)
      (shapeCast_all U shapeCasts_S4096x768_S3145728 _ hU) i j]
  split
  · exact one_sub_one_mul
  · exact zero_sub_one_mul

/-- The run's composed term is that result. -/
theorem res_eq (m : (ℓ : Loc nD τ sig) → Buf (Elt Ideal) ℓ) (c : Dev nD) :
    Value.res_out0 m c = result (m ((c.tc : Thread nD τ).loc main_arg0)) (m ((c.tc : Thread nD τ).loc main_arg1)) := rfl

end Cert.Ref

end
-- ==== Proof.lean ====
/- The five claims about the kernel that marks the cards of each hand: the frames of the kernel, of the
   idealized kernel and of the reference, `preserves`, and the equality of the idealized kernel's
   result with the reference's. The kernel's run is that of Launch, the reference's value that of Reference. -/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_range
public import proofs.«01_k».proof.Proof.Gen.Pre_inputs
public import proofs.«01_k».proof.Proof.Launch
public import proofs.«01_k».proof.Proof.Reference
public import Idealize.ShloMosaic.Adequacy
public import Idealize.ShloMosaic.Lib.ReduceAll
public import Idealize.ShloMosaic.Lib.Quiescent
public import Idealize.ShloMosaic.Init

@[expose] public section

noncomputable section

namespace Cert.Proof

open Idealize.ShloMosaic Idealize.SL.Sem Idealize.ShloMosaic.ValueIdx
open Cert.Tile (hands₀ run_main want aLoc uLoc oLoc)

/-! ## The preconditions read -/

/-- A word between 0 and 4096, read signed, is at most 4096. -/
theorem hand_le (x : BitVec 32) (e : IntOp.andi (IntOp.cmpi .sge x 0#32) (IntOp.cmpi .sle x 4096#32) = 1#1) : x.toNat ≤ 4096 := by
  rw [WordCmp.cmpi_sge_eq, WordCmp.cmpi_sle_eq, WordCmp.andi_ofBool, WordCmp.ofBool_eq_one_iff, Bool.and_eq_true, decide_eq_true_iff,
    decide_eq_true_iff, show (0#32 : BitVec 32).toInt = 0 from rfl, show (4096#32 : BitVec 32).toInt = 4096 from rfl, BitVec.toInt_eq_toNat_cond] at e
  have := x.isLt
  split at e <;> omega

theorem andi_left {x y : BitVec 1} (e : IntOp.andi x y = 1#1) : x = 1#1 := by revert x y; decide
theorem andi_right {x y : BitVec 1} (e : IntOp.andi x y = 1#1) : y = 1#1 := by revert x y; decide

instance : Subsingleton Cert.Pre_inputs.S_.Idx := ⟨fun a b => funext fun i => i.elim0⟩

theorem hands_of_in_range {F : FTy → Type} [FloatOps F] [Cert.Pre_in_range.Facts] (G : IVec Cert.Pre_in_range.S4096x256 32)
    (U : FVec F Cert.Pre_in_range.S4096x768 .f32) (h : Cert.Pre_in_range.fn G U = fun _ => 1#1) (y : Cert.Pre_in_range.S4096x256.Idx) :
    (G y).toNat ≤ 4096 :=
  hand_le (G y) (Host.reduce_andi_all _ _ _ _ ix0 (congrFun h ix0) y)

theorem hands_of_inputs {F : FTy → Type} [FloatOps F] [Cert.Pre_inputs.Facts] (G : IVec Cert.Pre_inputs.S4096x256 32)
    (U : FVec F Cert.Pre_inputs.S4096x768 .f32) (h : Cert.Pre_inputs.fn G U = fun _ => 1#1) (y : Cert.Pre_inputs.S4096x256.Idx) :
    (G y).toNat ≤ 4096 :=
  hand_le (G y) (Host.reduce_andi_all _ _ _ _ ix0 (andi_left (congrFun h ix0)) y)

theorem updates_of_inputs [Cert.Pre_inputs.Facts] (G : IVec Cert.Pre_inputs.S4096x256 32) (U : FVec Ideal Cert.Pre_inputs.S4096x768 .f32)
    (h : Cert.Pre_inputs.fn G U = fun _ => 1#1) (y : Cert.Pre_inputs.S4096x768.Idx) : U y = Ideal.ofBits .f32 0x3F800000#32 := by
  have e : Ideal.cmp .oeq (U y) (Ideal.ofBits .f32 0x3F800000#32) = 1#1 :=
    Host.reduce_andi_all _ _ _ _ ix0 (andi_right (congrFun h ix0)) y
  exact of_decide_eq_true ((WordCmp.ofBool_eq_one_iff _).1 e)

/-! ## The frames -/

/-- The kernel's frame, over any float values. -/
theorem frame_of {F : FTy → Type} [FloatOps F] [∀ e, Nonempty (Elt F e)] (m : (ℓ : Loc Cert.KernelIdeal.nD Cert.KernelIdeal.τ Cert.KernelIdeal.sig) → Buf (Elt F) ℓ)
    (ρ : Dev Cert.KernelIdeal.nD → PrngReg) (hpre : ∀ d y, (hands₀ m d y).toNat ≤ 4096) :
    θ_run (Cert.KernelIdeal.defs (F := F)) (Cert.KernelIdeal.threads (F := F)) ⟨m, fun _ => 0, ρ⟩ (fun r => (∀ c : Dev Cert.KernelIdeal.nD,
      r.2.mem (aLoc c) = m (aLoc c) ∧ r.2.mem (uLoc c) = m (uLoc c)) ∧ r.2.sem = fun _ => 0) :=
  (θ_run Cert.KernelIdeal.defs _ _).mono (fun _ h => ⟨fun c => ⟨(h.1 c).1, (h.1 c).2.1⟩, h.2⟩) (run_main m ρ hpre)

theorem frame_kernel : Cert.quiescent_Kernel := fun m ρ h =>
  frame_of (F := Bits) m ρ fun d y => hands_of_in_range _ _ (h d) y

theorem frame_ideal : Cert.quiescent_KernelIdeal := fun m ρ h =>
  frame_of (F := Ideal) m ρ fun d y => hands_of_in_range _ _ (h d) y

theorem frame_ideal_inputs : Cert.quiescent_KernelIdeal_pre_inputs := fun m ρ h =>
  frame_of (F := Ideal) m ρ fun d y => hands_of_inputs _ _ (h d) y

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_inputs : Cert.quiescent_ReferenceIdeal_pre_inputs := fun m ρ _ => frame_reference m ρ trivial

/-! ## The value -/

/-- The reference's result is the kernel's. -/
theorem result_eq_want (G : IVec Cert.ReferenceIdeal.S4096x256 32) (U : FVec Ideal Cert.ReferenceIdeal.S4096x768 .f32)
    (hG : ∀ y, (G y).toNat ≤ 4096) (hU : ∀ y, U y = Ideal.ofBits .f32 0x3F800000#32) :
    Cert.Ref.result G U = want (F := Ideal) G := funext fun x =>
  (congrArg (Cert.Ref.result G U) (eq_ix2 x)).trans (Cert.Ref.result_apply G hG U hU (x 0) (x 1))

theorem algebraic : Cert.algebraic_KernelIdeal_ReferenceIdeal_pre_inputs := by
  intro m ρ m' ρ' hpre hagree
  refine ⟨fun c => want (hands₀ m c), ?_, ?_⟩
  · exact (θ_run Cert.KernelIdeal.defs _ _).mono (fun _ h c => ⟨(h.1 c).2.2, (h.1 c).1, (h.1 c).2.1⟩)
      (run_main (F := Ideal) m ρ fun d y => hands_of_inputs _ _ (hpre d) y)
  · refine (θ_run Cert.ReferenceIdeal.defs _ _).mono (fun _ h c => ⟨(h c).1.trans ?_, (h c).2⟩)
      (Cert.ReferenceIdeal.Value.run (F := Ideal) m' ρ')
    refine (Cert.Ref.res_eq m' c).trans ?_
    rw [(hagree c).1, (hagree c).2]
    exact result_eq_want _ _ (hands_of_inputs _ _ (hpre c)) (updates_of_inputs _ _ (hpre c))

theorem claim : Cert.Claim :=
  ⟨Cert.Kernel.Gen.facts, Cert.KernelIdeal.Gen.facts, Cert.ReferenceIdeal.Gen.facts, Cert.Pre_in_range.Gen.facts, Cert.Pre_inputs.Gen.facts,
    frame_kernel, frame_ideal, frame_ideal_inputs, frame_reference, frame_reference_inputs, trivial, algebraic⟩

end Cert.Proof

end
